-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_in_range [hPre_in_range : Cert.Pre_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_rotary [hPre_rotary : Cert.Pre_rotary.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_rotary.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_rotary [hPre_rotary : Cert.Pre_rotary.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_rotary.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_in_range [hReference2Ideal : Cert.Reference2Ideal.Facts] [hPre_in_range : Cert.Pre_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_rotary [hKernel6Ideal : Cert.Kernel6Ideal.Facts] [hPre_rotary : Cert.Pre_rotary.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_rotary m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_rotary [hReference6Ideal : Cert.Reference6Ideal.Facts] [hPre_rotary : Cert.Pre_rotary.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_rotary m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v131) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v61) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0_2)) (v1 : (c : Dev Cert.Kernel5Ideal.nD) → Buf (Elt Ideal) ((c.tc : Thread Cert.Kernel5Ideal.nD Cert.Kernel5Ideal.τ).loc Cert.Kernel5Ideal.main_v0_3)) (v2 : (c : Dev Cert.Kernel5Ideal.nD) → Buf (Elt Ideal) ((c.tc : Thread Cert.Kernel5Ideal.nD Cert.Kernel5Ideal.τ).loc Cert.Kernel5Ideal.main_v0_4)) (v3 : (c : Dev Cert.Kernel5Ideal.nD) → Buf (Elt Ideal) ((c.tc : Thread Cert.Kernel5Ideal.nD Cert.Kernel5Ideal.τ).loc Cert.Kernel5Ideal.main_v0_5)) (v4 : (c : Dev Cert.Kernel5Ideal.nD) → Buf (Elt Ideal) ((c.tc : Thread Cert.Kernel5Ideal.nD Cert.Kernel5Ideal.τ).loc Cert.Kernel5Ideal.main_v0_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_2) = v0 c
          ∧ r.2.mem ((c.tc : Thread Cert.Kernel5Ideal.nD Cert.Kernel5Ideal.τ).loc Cert.Kernel5Ideal.main_v0_3) = v1 c
          ∧ r.2.mem ((c.tc : Thread Cert.Kernel5Ideal.nD Cert.Kernel5Ideal.τ).loc Cert.Kernel5Ideal.main_v0_4) = v2 c
          ∧ r.2.mem ((c.tc : Thread Cert.Kernel5Ideal.nD Cert.Kernel5Ideal.τ).loc Cert.Kernel5Ideal.main_v0_5) = v3 c
          ∧ r.2.mem ((c.tc : Thread Cert.Kernel5Ideal.nD Cert.Kernel5Ideal.τ).loc Cert.Kernel5Ideal.main_v0_6) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_v13) = v1 c
          ∧ r.2.mem ((c.tc : Thread Cert.Reference5Ideal.nD Cert.Reference5Ideal.τ).loc Cert.Reference5Ideal.main_v14) = v2 c
          ∧ r.2.mem ((c.tc : Thread Cert.Reference5Ideal.nD Cert.Reference5Ideal.τ).loc Cert.Reference5Ideal.main_v15) = v3 c
          ∧ r.2.mem ((c.tc : Thread Cert.Reference5Ideal.nD Cert.Reference5Ideal.τ).loc Cert.Reference5Ideal.main_v11) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_rotary [hKernel6Ideal : Cert.Kernel6Ideal.Facts] [hReference6Ideal : Cert.Reference6Ideal.Facts] [hPre_rotary : Cert.Pre_rotary.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_rotary m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_7) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v46) = v0 c
          ∧ r.2.mem ((c.tc : Thread Cert.Reference6Ideal.nD Cert.Reference6Ideal.τ).loc Cert.Reference6Ideal.main_v47) = v1 c
          ∧ r.2.mem ((c.tc : Thread Cert.Reference6Ideal.nD Cert.Reference6Ideal.τ).loc Cert.Reference6Ideal.main_v43) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_in_range : Cert.Pre_in_range.Facts) (hPre_rotary : Cert.Pre_rotary.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_in_range := hPre_in_range)
    ∧ quiescent_Kernel2Ideal (hKernel2Ideal := hKernel2Ideal) (hPre_in_range := hPre_in_range)
    ∧ quiescent_Reference2Ideal (hReference2Ideal := hReference2Ideal)
    ∧ quiescent_Reference2Ideal_pre_in_range (hReference2Ideal := hReference2Ideal) (hPre_in_range := hPre_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_rotary (hKernel6Ideal := hKernel6Ideal) (hPre_rotary := hPre_rotary)
    ∧ quiescent_Reference6Ideal (hReference6Ideal := hReference6Ideal)
    ∧ quiescent_Reference6Ideal_pre_rotary (hReference6Ideal := hReference6Ideal) (hPre_rotary := hPre_rotary)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_in_range := hPre_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_rotary (hKernel6Ideal := hKernel6Ideal) (hReference6Ideal := hReference6Ideal) (hPre_rotary := hPre_rotary)
-- ==== Pre_in_range.lean ====
abbrev S36864x1024 : Shape := ⟨2, ![36864, 1024]⟩
abbrev S8x1024x3584 : Shape := ⟨3, ![8, 1024, 3584]⟩
abbrev S8x3584x1024 : Shape := ⟨3, ![8, 3584, 1024]⟩
abbrev S72 : Shape := ⟨1, ![72]⟩
abbrev S1 : Shape := ⟨1, ![1]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : FVec F S36864x1024 .f32) (main_arg1 : FVec F S8x1024x3584 .bf16) (main_arg2 : FVec F S8x1024x3584 .bf16) (main_arg3 : FVec F S8x3584x1024 .bf16) (main_arg4 : IVec S72 32) (main_arg5 : IVec S1 32) : IVec S_ 1 :=
  let main_c : IVec S_ 32 := constantI S_ 32 0#32
  let main_v0 : IVec S72 32 := broadcastInDim S72 ![] bcast_S_S72 main_c
  let main_v1 : IVec S72 1 := cmpi .sge main_arg4 main_v0
  let main_c_0 : IVec S_ 32 := constantI S_ 32 8#32
  let main_v2 : IVec S72 32 := broadcastInDim S72 ![] bcast_S_S72 main_c_0
  let main_v3 : IVec S72 1 := cmpi .slt main_arg4 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  main_v5
-- ==== Pre_rotary.lean ====
abbrev S16384x1024 : Shape := ⟨2, ![16384, 1024]⟩
abbrev S1024x3072 : Shape := ⟨2, ![1024, 3072]⟩
abbrev S1024x128 : Shape := ⟨2, ![1024, 128]⟩
abbrev S1x128 : Shape := ⟨2, ![1, 128]⟩
abbrev S16384x128 : Shape := ⟨2, ![16384, 128]⟩
abbrev S16384x8 : Shape := ⟨2, ![16384, 8]⟩
abbrev S_ : Shape := ⟨0, ![]⟩
abbrev S16384x48 : Shape := ⟨2, ![16384, 48]⟩

class Facts : Prop where
  slices_S16384x128_S16384x8_0_0 : S16384x128.Slices ![0, 0] S16384x8
  slices_S16384x128_S16384x8_0_8 : S16384x128.Slices ![0, 8] S16384x8
  bcast_S_S16384x8 : S_.BroadcastsInDim S16384x8 (![] : Fin 0 → Fin S16384x8.rank)
  bcast_S_S16384x48 : S_.BroadcastsInDim S16384x48 (![] : Fin 0 → Fin S16384x48.rank)
  concatenates_S16384x8_S16384x8_S16384x48_S16384x8_S16384x8_S16384x48_S16384x128_d1 : Shape.Concatenates [S16384x8, S16384x8, S16384x48, S16384x8, S16384x8, S16384x48] S16384x128 1
  reducesTo_S16384x128_S_d0_1 : S16384x128.ReducesTo [0, 1] S_
  h_S_ : 0 < S_.numel

variable [Facts]

def fn {F : FTy → Type} [FloatOps F] (main_arg0 : FVec F S16384x1024 .f32) (main_arg1 : FVec F S1024x3072 .bf16) (main_arg2 : FVec F S1024x128 .bf16) (main_arg3 : FVec F S1x128 .f32) (main_arg4 : FVec F S16384x128 .f32) (main_arg5 : FVec F S16384x128 .f32) (main_arg6 : FVec F S16384x128 .f32) : IVec S_ 1 :=
  let main_v0 : FVec F S16384x8 .f32 := (extractStridedSlice S16384x8 ![0, 0] · slices_S16384x128_S16384x8_0_0) main_arg4
  let main_v1 : FVec F S16384x8 .f32 := (extractStridedSlice S16384x8 ![0, 8] · slices_S16384x128_S16384x8_0_8) main_arg6
  let main_cst : FVec F S_ .f32 := constant S_ .f32 0x00000000#32
  let main_v2 : FVec F S16384x8 .f32 := broadcastInDim S16384x8 ![] bcast_S_S16384x8 main_cst
  let main_cst_0 : FVec F S_ .f32 := constant S_ .f32 0x3F800000#32
  let main_v3 : FVec F S16384x48 .f32 := broadcastInDim S16384x48 ![] bcast_S_S16384x48 main_cst_0
  let main_cst_1 : FVec F S_ .f32 := constant S_ .f32 0x00000000#32
  let main_v4 : FVec F S16384x48 .f32 := broadcastInDim S16384x48 ![] bcast_S_S16384x48 main_cst_1
  let main_v5 : FVec F S16384x128 .f32 := concatenate S16384x128 1 [⟨S16384x8, main_v0⟩, ⟨S16384x8, main_v0⟩, ⟨S16384x48, main_v3⟩, ⟨S16384x8, main_v0⟩, ⟨S16384x8, main_v0⟩, ⟨S16384x48, main_v3⟩] concatenates_S16384x8_S16384x8_S16384x48_S16384x8_S16384x8_S16384x48_S16384x128_d1
  let main_v6 : IVec S16384x128 1 := cmpf .oeq main_arg4 main_v5
  let main_v7 : FVec F S16384x8 .f32 := Host.negf main_v1
  let main_v8 : FVec F S16384x8 .f32 := Host.negf main_v1
  let main_v9 : FVec F S16384x128 .f32 := concatenate S16384x128 1 [⟨S16384x8, main_v7⟩, ⟨S16384x8, main_v2⟩, ⟨S16384x48, main_v4⟩, ⟨S16384x8, main_v8⟩, ⟨S16384x8, main_v2⟩, ⟨S16384x48, main_v4⟩] concatenates_S16384x8_S16384x8_S16384x48_S16384x8_S16384x8_S16384x48_S16384x128_d1
  let main_v10 : IVec S16384x128 1 := cmpf .oeq main_arg5 main_v9
  let main_v11 : IVec S16384x128 1 := andi main_v6 main_v10
  let main_v12 : FVec F S16384x128 .f32 := concatenate S16384x128 1 [⟨S16384x8, main_v2⟩, ⟨S16384x8, main_v1⟩, ⟨S16384x48, main_v4⟩, ⟨S16384x8, main_v2⟩, ⟨S16384x8, main_v1⟩, ⟨S16384x48, main_v4⟩] concatenates_S16384x8_S16384x8_S16384x48_S16384x8_S16384x8_S16384x48_S16384x128_d1
  let main_v13 : IVec S16384x128 1 := cmpf .oeq main_arg6 main_v12
  let main_v14 : IVec S16384x128 1 := andi main_v11 main_v13
  let main_c : IVec S_ 1 := constantI S_ 1 1#1
  let main_v15 : IVec S_ 1 := (fun x v => Host.reduce IntOp.andi x v reducesTo_S16384x128_S_d0_1 h_S_) main_v14 main_c
  main_v15
-- ==== Kernel.lean ====
abbrev S16384x512 : Shape := ⟨2, ![16384, 512]⟩
abbrev S16384x128 : Shape := ⟨2, ![16384, 128]⟩
abbrev S4x512 : Shape := ⟨2, ![4, 512]⟩
abbrev S1x512 : Shape := ⟨2, ![1, 512]⟩
abbrev S128x512 : Shape := ⟨2, ![128, 512]⟩
abbrev S128x128 : Shape := ⟨2, ![128, 128]⟩
abbrev S4x128x256 : Shape := ⟨3, ![4, 128, 256]⟩
abbrev S8x128 : Shape := ⟨2, ![8, 128]⟩
abbrev S8x512 : Shape := ⟨2, ![8, 512]⟩
abbrev S2x128x128 : Shape := ⟨3, ![2, 128, 128]⟩
abbrev S136x512 : Shape := ⟨2, ![136, 512]⟩
abbrev S120x128 : Shape := ⟨2, ![120, 128]⟩
abbrev S1x128x128 : Shape := ⟨3, ![1, 128, 128]⟩
abbrev S128x256 : Shape := ⟨2, ![128, 256]⟩
abbrev S128x1 : Shape := ⟨2, ![128, 1]⟩
abbrev S1x128 : Shape := ⟨2, ![1, 128]⟩
abbrev S1x1 : Shape := ⟨2, ![1, 1]⟩
abbrev S128 : Shape := ⟨1, ![128]⟩
abbrev S1x128x256 : Shape := ⟨3, ![1, 128, 256]⟩
abbrev S1 : Shape := ⟨1, ![1]⟩

abbrev nBuf : Space → Nat
  | .hbm => 8
  | .vmem => 17
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x128, .f32⟩
  | .hbm, ⟨4, _⟩ => ⟨S4x512, .f32⟩
  | .hbm, ⟨5, _⟩ => ⟨S1x512, .f32⟩
  | .hbm, ⟨6, _⟩ => ⟨S1x512, .f32⟩
  | .hbm, ⟨7, _⟩ => ⟨S16384x512, .bf16⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x128, .f32⟩
  | .local _ .vmem, ⟨7, _⟩ => ⟨S128x128, .f32⟩
  | .local _ .vmem, ⟨8, _⟩ => ⟨S4x512, .f32⟩
  | .local _ .vmem, ⟨9, _⟩ => ⟨S1x512, .f32⟩
  | .local _ .vmem, ⟨10, _⟩ => ⟨S1x512, .f32⟩
  | .local _ .vmem, ⟨11, _⟩ => ⟨S128x512, .bf16⟩
  | .local _ .vmem, ⟨12, _⟩ => ⟨S128x512, .bf16⟩
  | .local _ .vmem, ⟨13, _⟩ => ⟨S4x128x256, .f32⟩
  | .local _ .vmem, ⟨14, _⟩ => ⟨S8x128, .f32⟩
  | .local _ .vmem, ⟨15, _⟩ => ⟨S8x512, .f32⟩
  | .local _ .vmem, ⟨16, _⟩ => ⟨S2x128x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16384x512 : Shape := ⟨2, ![16384, 512]⟩
abbrev S16384x128 : Shape := ⟨2, ![16384, 128]⟩
abbrev S4x512 : Shape := ⟨2, ![4, 512]⟩
abbrev S1x512 : Shape := ⟨2, ![1, 512]⟩
abbrev S2x8192x512 : Shape := ⟨3, ![2, 8192, 512]⟩
abbrev S16384x8 : Shape := ⟨2, ![16384, 8]⟩
abbrev S2x8192x8 : Shape := ⟨3, ![2, 8192, 8]⟩
abbrev S512 : Shape := ⟨1, ![512]⟩
abbrev S_ : Shape := ⟨0, ![]⟩
abbrev S2x8195x512 : Shape := ⟨3, ![2, 8195, 512]⟩
abbrev S1x1x512 : Shape := ⟨3, ![1, 1, 512]⟩
abbrev S2x8192x256 : Shape := ⟨3, ![2, 8192, 256]⟩
abbrev S2x8x8192 : Shape := ⟨3, ![2, 8, 8192]⟩
abbrev S2x8192x4x64 : Shape := ⟨4, ![2, 8192, 4, 64]⟩
abbrev S2x4x8192x64 : Shape := ⟨4, ![2, 4, 8192, 64]⟩
abbrev S2x8192x4x128 : Shape := ⟨4, ![2, 8192, 4, 128]⟩
abbrev S2x4x8192x128 : Shape := ⟨4, ![2, 4, 8192, 128]⟩
abbrev S2x4x8192 : Shape := ⟨3, ![2, 4, 8192]⟩
abbrev S128x128 : Shape := ⟨2, ![128, 128]⟩
abbrev S2x4x128x64 : Shape := ⟨4, ![2, 4, 128, 64]⟩
abbrev S2x4x64 : Shape := ⟨3, ![2, 4, 64]⟩
abbrev S2x4 : Shape := ⟨2, ![2, 4]⟩
abbrev S2x4x64x128x64 : Shape := ⟨5, ![2, 4, 64, 128, 64]⟩
abbrev S64x2x4x128x64 : Shape := ⟨5, ![64, 2, 4, 128, 64]⟩
abbrev S2x4x64x128x128 : Shape := ⟨5, ![2, 4, 64, 128, 128]⟩
abbrev S64x2x4x128x128 : Shape := ⟨5, ![64, 2, 4, 128, 128]⟩
abbrev S2x4x64x128 : Shape := ⟨4, ![2, 4, 64, 128]⟩
abbrev S64x2x4x128 : Shape := ⟨4, ![64, 2, 4, 128]⟩
abbrev S1x2x4x128x64 : Shape := ⟨5, ![1, 2, 4, 128, 64]⟩
abbrev S1x2x4x128x128 : Shape := ⟨5, ![1, 2, 4, 128, 128]⟩
abbrev S2x4x128x128 : Shape := ⟨4, ![2, 4, 128, 128]⟩
abbrev S1x2x4x128 : Shape := ⟨4, ![1, 2, 4, 128]⟩
abbrev S2x4x128 : Shape := ⟨3, ![2, 4, 128]⟩
abbrev S2x4x128x1 : Shape := ⟨4, ![2, 4, 128, 1]⟩
abbrev S2x4x1x128 : Shape := ⟨4, ![2, 4, 1, 128]⟩
abbrev S2x4x1 : Shape := ⟨3, ![2, 4, 1]⟩
abbrev S2x4x1x1 : Shape := ⟨4, ![2, 4, 1, 1]⟩
abbrev S2x8192x4 : Shape := ⟨3, ![2, 8192, 4]⟩
abbrev S2x8192x4x1 : Shape := ⟨4, ![2, 8192, 4, 1]⟩

abbrev nBuf : Space → Nat
  | .hbm => 277
  | .vmem => 0
  | .smem => 0
  | _ => 0

abbrev hbmTy0_0 (i : Nat) : BufTy := match i % 128 with
  | 0 => ⟨S16384x512, .bf16⟩
  | 1 => ⟨S16384x512, .bf16⟩
  | 2 => ⟨S16384x512, .bf16⟩
  | 3 => ⟨S16384x128, .f32⟩
  | 4 => ⟨S4x512, .f32⟩
  | 5 => ⟨S1x512, .f32⟩
  | 6 => ⟨S1x512, .f32⟩
  | 7 => ⟨S16384x512, .f32⟩
  | 8 => ⟨S2x8192x512, .f32⟩
  | 9 => ⟨S16384x512, .f32⟩
  | 10 => ⟨S2x8192x512, .f32⟩
  | 11 => ⟨S16384x8, .f32⟩
  | 12 => ⟨S2x8192x8, .f32⟩
  | 13 => ⟨S512, .f32⟩
  | 14 => ⟨S_, .i32⟩
  | 15 => ⟨S_, .f32⟩
  | 16 => ⟨S2x8195x512, .f32⟩
  | 17 => ⟨S1x512, .f32⟩
  | 18 => ⟨S512, .f32⟩
  | 19 => ⟨S2x8192x512, .f32⟩
  | 20 => ⟨S1x1x512, .f32⟩
  | 21 => ⟨S2x8192x512, .f32⟩
  | 22 => ⟨S2x8192x512, .f32⟩
  | 23 => ⟨S1x1x512, .f32⟩
  | 24 => ⟨S2x8192x512, .f32⟩
  | 25 => ⟨S2x8192x512, .f32⟩
  | 26 => ⟨S1x512, .f32⟩
  | 27 => ⟨S512, .f32⟩
  | 28 => ⟨S2x8192x512, .f32⟩
  | 29 => ⟨S1x1x512, .f32⟩
  | 30 => ⟨S2x8192x512, .f32⟩
  | 31 => ⟨S2x8192x512, .f32⟩
  | 32 => ⟨S2x8192x512, .f32⟩
  | 33 => ⟨S1x512, .f32⟩
  | 34 => ⟨S512, .f32⟩
  | 35 => ⟨S2x8192x512, .f32⟩
  | 36 => ⟨S1x1x512, .f32⟩
  | 37 => ⟨S2x8192x512, .f32⟩
  | 38 => ⟨S2x8192x512, .f32⟩
  | 39 => ⟨S2x8192x512, .f32⟩
  | 40 => ⟨S1x512, .f32⟩
  | 41 => ⟨S512, .f32⟩
  | 42 => ⟨S2x8192x512, .f32⟩
  | 43 => ⟨S1x1x512, .f32⟩
  | 44 => ⟨S2x8192x512, .f32⟩
  | 45 => ⟨S2x8192x512, .f32⟩
  | 46 => ⟨S2x8192x512, .f32⟩
  | 47 => ⟨S2x8192x512, .f32⟩
  | 48 => ⟨S2x8192x512, .f32⟩
  | 49 => ⟨S_, .f32⟩
  | 50 => ⟨S2x8192x512, .f32⟩
  | 51 => ⟨S2x8192x512, .f32⟩
  | 52 => ⟨S_, .f32⟩
  | 53 => ⟨S2x8192x512, .f32⟩
  | 54 => ⟨S2x8192x512, .f32⟩
  | 55 => ⟨S2x8192x512, .f32⟩
  | 56 => ⟨S2x8192x256, .f32⟩
  | 57 => ⟨S2x8192x256, .f32⟩
  | 58 => ⟨S2x8x8192, .f32⟩
  | 59 => ⟨S2x8192x4x64, .f32⟩
  | 60 => ⟨S2x4x8192x64, .f32⟩
  | 61 => ⟨S2x8192x4x64, .f32⟩
  | 62 => ⟨S2x4x8192x64, .f32⟩
  | 63 => ⟨S2x8192x4x128, .f32⟩
  | 64 => ⟨S2x4x8192x128, .f32⟩
  | 65 => ⟨S2x4x8192, .f32⟩
  | 66 => ⟨S2x4x8192, .f32⟩
  | 67 => ⟨S_, .f32⟩
  | 68 => ⟨S2x4x8192x64, .f32⟩
  | 69 => ⟨S2x4x8192x64, .f32⟩
  | 70 => ⟨S2x4x8192, .f32⟩
  | 71 => ⟨S_, .f32⟩
  | 72 => ⟨S2x4x8192, .f32⟩
  | 73 => ⟨S2x4x8192, .f32⟩
  | 74 => ⟨S2x4x8192, .f32⟩
  | 75 => ⟨S2x4x8192, .f32⟩
  | 76 => ⟨S2x4x8192, .i1⟩
  | 77 => ⟨S2x4x8192, .f32⟩
  | 78 => ⟨S2x4x8192, .f32⟩
  | 79 => ⟨S2x4x8192, .f32⟩
  | 80 => ⟨S2x4x8192, .f32⟩
  | 81 => ⟨S2x4x8192, .f32⟩
  | 82 => ⟨S2x4x8192, .f32⟩
  | 83 => ⟨S2x4x8192, .f32⟩
  | 84 => ⟨S2x4x8192, .f32⟩
  | 85 => ⟨S2x4x8192, .f32⟩
  | 86 => ⟨S_, .i1⟩
  | 87 => ⟨S128x128, .i1⟩
  | 88 => ⟨S128x128, .i32⟩
  | 89 => ⟨S_, .i32⟩
  | 90 => ⟨S128x128, .i32⟩
  | 91 => ⟨S128x128, .i32⟩
  | 92 => ⟨S128x128, .i32⟩
  | 93 => ⟨S128x128, .i1⟩
  | 94 => ⟨S_, .i1⟩
  | 95 => ⟨S128x128, .i1⟩
  | 96 => ⟨S128x128, .i1⟩
  | 97 => ⟨S_, .f32⟩
  | 98 => ⟨S2x4x128x64, .f32⟩
  | 99 => ⟨S_, .f32⟩
  | 100 => ⟨S2x4x64, .f32⟩
  | 101 => ⟨S_, .f32⟩
  | 102 => ⟨S2x4, .f32⟩
  | 103 => ⟨S2x4x64x128x64, .f32⟩
  | 104 => ⟨S64x2x4x128x64, .f32⟩
  | 105 => ⟨S2x4x64x128x64, .f32⟩
  | 106 => ⟨S64x2x4x128x64, .f32⟩
  | 107 => ⟨S2x4x64x128x128, .f32⟩
  | 108 => ⟨S64x2x4x128x128, .f32⟩
  | 109 => ⟨S2x4x64x128, .f32⟩
  | 110 => ⟨S64x2x4x128, .f32⟩
  | 111 => ⟨S2x4x64x128, .f32⟩
  | 112 => ⟨S64x2x4x128, .f32⟩
  | 113 => ⟨S_, .f32⟩
  | 114 => ⟨S64x2x4x128x128, .f32⟩
  | 115 => ⟨S_, .i32⟩
  | 116 => ⟨S64x2x4x128x64, .f32⟩
  | 117 => ⟨S64x2x4x128x64, .f32⟩
  | 118 => ⟨S64x2x4x128x128, .f32⟩
  | 119 => ⟨S64x2x4x128, .f32⟩
  | 120 => ⟨S64x2x4x128, .f32⟩
  | 121 => ⟨S128x128, .i1⟩
  | 122 => ⟨S_, .i32⟩
  | 123 => ⟨S2x4x128x64, .f32⟩
  | 124 => ⟨S2x4x64, .f32⟩
  | 125 => ⟨S2x4, .f32⟩
  | 126 => ⟨S64x2x4x128x128, .f32⟩
  | 127 => ⟨S_, .i32⟩
  | _ => ⟨S16384x512, .bf16⟩

abbrev hbmTy0_1 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S1x2x4x128x64, .f32⟩
  | 6 => ⟨S2x4x128x64, .f32⟩
  | 7 => ⟨S_, .i32⟩
  | 8 => ⟨S_, .i32⟩
  | 9 => ⟨S_, .i32⟩
  | 10 => ⟨S_, .i32⟩
  | 11 => ⟨S1x2x4x128x64, .f32⟩
  | 12 => ⟨S2x4x128x64, .f32⟩
  | 13 => ⟨S_, .i32⟩
  | 14 => ⟨S_, .i32⟩
  | 15 => ⟨S_, .i32⟩
  | 16 => ⟨S_, .i32⟩
  | 17 => ⟨S1x2x4x128x128, .f32⟩
  | 18 => ⟨S2x4x128x128, .f32⟩
  | 19 => ⟨S_, .i32⟩
  | 20 => ⟨S_, .i32⟩
  | 21 => ⟨S_, .i32⟩
  | 22 => ⟨S1x2x4x128, .f32⟩
  | 23 => ⟨S2x4x128, .f32⟩
  | 24 => ⟨S_, .i32⟩
  | 25 => ⟨S_, .i32⟩
  | 26 => ⟨S_, .i32⟩
  | 27 => ⟨S1x2x4x128, .f32⟩
  | 28 => ⟨S2x4x128, .f32⟩
  | 29 => ⟨S_, .f32⟩
  | 30 => ⟨S_, .f32⟩
  | 31 => ⟨S2x4x128, .f32⟩
  | 32 => ⟨S2x4x128x1, .f32⟩
  | 33 => ⟨S2x4x1x128, .f32⟩
  | 34 => ⟨S2x4x128x128, .f32⟩
  | 35 => ⟨S2x4x128x128, .f32⟩
  | 36 => ⟨S2x4x128x128, .f32⟩
  | 37 => ⟨S2x4x1x128, .f32⟩
  | 38 => ⟨S2x4x128x128, .f32⟩
  | 39 => ⟨S2x4x128x128, .f32⟩
  | 40 => ⟨S_, .f32⟩
  | 41 => ⟨S_, .f32⟩
  | 42 => ⟨S2x4x128x128, .i1⟩
  | 43 => ⟨S2x4x128x128, .f32⟩
  | 44 => ⟨S2x4x128x128, .f32⟩
  | 45 => ⟨S2x4x1, .f32⟩
  | 46 => ⟨S2x4x128, .f32⟩
  | 47 => ⟨S2x4x128, .f32⟩
  | 48 => ⟨S_, .f32⟩
  | 49 => ⟨S2x4x128, .f32⟩
  | 50 => ⟨S2x4x128, .f32⟩
  | 51 => ⟨S2x4x128x1, .f32⟩
  | 52 => ⟨S2x4x128x128, .f32⟩
  | 53 => ⟨S2x4x128x128, .f32⟩
  | 54 => ⟨S2x4x128x128, .f32⟩
  | 55 => ⟨S2x4x128, .f32⟩
  | 56 => ⟨S2x4x128, .f32⟩
  | 57 => ⟨S2x4x128x128, .f32⟩
  | 58 => ⟨S2x4x128x128, .f32⟩
  | 59 => ⟨S2x4x128x128, .f32⟩
  | 60 => ⟨S2x4x128x1, .f32⟩
  | 61 => ⟨S2x4x128x128, .f32⟩
  | 62 => ⟨S2x4x128x128, .f32⟩
  | 63 => ⟨S2x4x128x128, .f32⟩
  | 64 => ⟨S2x4x128x128, .f32⟩
  | 65 => ⟨S_, .f32⟩
  | 66 => ⟨S2x4x128, .f32⟩
  | 67 => ⟨S2x4x128, .f32⟩
  | 68 => ⟨S2x4x128, .f32⟩
  | 69 => ⟨S2x4x128, .f32⟩
  | 70 => ⟨S2x4x128, .f32⟩
  | 71 => ⟨S2x4x128, .f32⟩
  | 72 => ⟨S2x4x128, .f32⟩
  | 73 => ⟨S2x4x128, .f32⟩
  | 74 => ⟨S2x4x128x1, .f32⟩
  | 75 => ⟨S2x4x128x128, .f32⟩
  | 76 => ⟨S2x4x128x128, .f32⟩
  | 77 => ⟨S2x4x1, .f32⟩
  | 78 => ⟨S2x4, .f32⟩
  | 79 => ⟨S2x4x1, .f32⟩
  | 80 => ⟨S2x4x128, .f32⟩
  | 81 => ⟨S2x4x128, .f32⟩
  | 82 => ⟨S2x4x128, .f32⟩
  | 83 => ⟨S2x4, .f32⟩
  | 84 => ⟨S_, .f32⟩
  | 85 => ⟨S2x4, .f32⟩
  | 86 => ⟨S2x4, .f32⟩
  | 87 => ⟨S2x4x1, .f32⟩
  | 88 => ⟨S2x4x128, .f32⟩
  | 89 => ⟨S2x4x128, .f32⟩
  | 90 => ⟨S2x4x128, .f32⟩
  | 91 => ⟨S2x4, .f32⟩
  | 92 => ⟨S2x4, .f32⟩
  | 93 => ⟨S2x4, .f32⟩
  | 94 => ⟨S2x4x1x1, .f32⟩
  | 95 => ⟨S2x4x128x64, .f32⟩
  | 96 => ⟨S2x4x128x64, .f32⟩
  | 97 => ⟨S2x4x128x1, .f32⟩
  | 98 => ⟨S2x4x128x64, .f32⟩
  | 99 => ⟨S2x4x128x64, .f32⟩
  | 100 => ⟨S2x4x128x64, .f32⟩
  | 101 => ⟨S2x4x128x64, .f32⟩
  | 102 => ⟨S2x4x1, .f32⟩
  | 103 => ⟨S2x4x64, .f32⟩
  | 104 => ⟨S2x4x64, .f32⟩
  | 105 => ⟨S2x4x64, .f32⟩
  | 106 => ⟨S2x4x64, .f32⟩
  | 107 => ⟨S1x2x4x128x128, .f32⟩
  | 108 => ⟨S_, .i32⟩
  | 109 => ⟨S_, .i32⟩
  | 110 => ⟨S_, .i32⟩
  | 111 => ⟨S_, .i32⟩
  | 112 => ⟨S64x2x4x128x128, .f32⟩
  | 113 => ⟨S_, .i32⟩
  | 114 => ⟨S_, .i32⟩
  | 115 => ⟨S2x4x64x128x128, .f32⟩
  | 116 => ⟨S2x4x8192x128, .f32⟩
  | 117 => ⟨S16384x512, .f32⟩
  | 118 => ⟨S2x8192x512, .f32⟩
  | 119 => ⟨S2x8192x4x128, .f32⟩
  | 120 => ⟨S512, .f32⟩
  | 121 => ⟨S2x8192x4x128, .f32⟩
  | 122 => ⟨S_, .f32⟩
  | 123 => ⟨S2x8192x4, .f32⟩
  | 124 => ⟨S2x8192x4x1, .f32⟩
  | 125 => ⟨S_, .f32⟩
  | 126 => ⟨S2x8192x4x1, .f32⟩
  | 127 => ⟨S2x8192x4x1, .f32⟩
  | _ => ⟨S16384x512, .bf16⟩

abbrev hbmTy0_2 (i : Nat) : BufTy := match i % 128 with
  | 0 => ⟨S_, .f32⟩
  | 1 => ⟨S2x8192x4x1, .f32⟩
  | 2 => ⟨S2x8192x4x1, .f32⟩
  | 3 => ⟨S2x8192x4x1, .f32⟩
  | 4 => ⟨S2x8192x4x128, .f32⟩
  | 5 => ⟨S2x8192x4x128, .f32⟩
  | 6 => ⟨S2x8192x512, .f32⟩
  | 7 => ⟨S1x1x512, .f32⟩
  | 8 => ⟨S2x8192x512, .f32⟩
  | 9 => ⟨S2x8192x512, .f32⟩
  | 10 => ⟨S2x8192x512, .f32⟩
  | 11 => ⟨S2x8192x512, .f32⟩
  | 12 => ⟨S_, .f32⟩
  | 13 => ⟨S2x8192x512, .f32⟩
  | 14 => ⟨S2x8192x512, .f32⟩
  | 15 => ⟨S_, .f32⟩
  | 16 => ⟨S2x8192x512, .f32⟩
  | 17 => ⟨S2x8192x512, .f32⟩
  | 18 => ⟨S2x8192x512, .f32⟩
  | 19 => ⟨S16384x512, .f32⟩
  | 20 => ⟨S16384x512, .bf16⟩
  | _ => ⟨S16384x512, .bf16⟩

abbrev hbmTy (i : Nat) : BufTy := match i / 128 with
  | 0 => hbmTy0_0 i
  | 1 => hbmTy0_1 i
  | 2 => hbmTy0_2 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_0 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_1 : Ref sig .tc := ⟨.hbm, 86, rfl⟩
abbrev main_v67 : Ref sig .tc := ⟨.hbm, 87, rfl⟩
abbrev main_call2_v0 : Ref sig .tc := ⟨.hbm, 88, rfl⟩
abbrev main_call2_c : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_c_0 : Ref sig .tc := ⟨.hbm, 94, rfl⟩
abbrev main_call2_v5 : Ref sig .tc := ⟨.hbm, 95, rfl⟩
abbrev main_v68 : Ref sig .tc := ⟨.hbm, 96, rfl⟩
abbrev main_cst_2 : Ref sig .tc := ⟨.hbm, 97, rfl⟩
abbrev main_v69 : Ref sig .tc := ⟨.hbm, 98, rfl⟩
abbrev main_cst_3 : Ref sig .tc := ⟨.hbm, 99, rfl⟩
abbrev main_v70 : Ref sig .tc := ⟨.hbm, 100, rfl⟩
abbrev main_cst_4 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_5 : Ref sig .tc := ⟨.hbm, 113, rfl⟩
abbrev main_v82 : Ref sig .tc := ⟨.hbm, 114, rfl⟩
abbrev main_c_6 : Ref sig .tc := ⟨.hbm, 115, rfl⟩
abbrev main_v83_0 : Ref sig .tc := ⟨.hbm, 116, rfl⟩
abbrev main_v83_1 : Ref sig .tc := ⟨.hbm, 117, rfl⟩
abbrev main_v83_2 : Ref sig .tc := ⟨.hbm, 118, rfl⟩
abbrev main_v83_3 : Ref sig .tc := ⟨.hbm, 119, rfl⟩
abbrev main_v83_4 : Ref sig .tc := ⟨.hbm, 120, rfl⟩
abbrev main_v83_5 : Ref sig .tc := ⟨.hbm, 121, rfl⟩
abbrev main_v83_6 : Ref sig .tc := ⟨.hbm, 122, rfl⟩
abbrev main_v83_7 : Ref sig .tc := ⟨.hbm, 123, rfl⟩
abbrev main_v83_8 : Ref sig .tc := ⟨.hbm, 124, rfl⟩
abbrev main_v83_9 : Ref sig .tc := ⟨.hbm, 125, rfl⟩
abbrev main_v83_10 : Ref sig .tc := ⟨.hbm, 126, rfl⟩
abbrev main_while0c_c_22 : Ref sig .tc := ⟨.hbm, 127, rfl⟩
abbrev main_while0c_v113 : Ref sig .tc := ⟨.hbm, 128, rfl⟩
abbrev main_while0b_call3_c : Ref sig .tc := ⟨.hbm, 129, rfl⟩
abbrev main_while0b_call3_c_0 : Ref sig .tc := ⟨.hbm, 130, rfl⟩
abbrev main_while0b_call3_c_1 : Ref sig .tc := ⟨.hbm, 131, rfl⟩
abbrev main_while0b_call3_c_2 : Ref sig .tc := ⟨.hbm, 132, rfl⟩
abbrev main_while0b_call3_v0 : Ref sig .tc := ⟨.hbm, 133, rfl⟩
abbrev main_while0b_v113 : Ref sig .tc := ⟨.hbm, 134, rfl⟩
abbrev main_while0b_call4_c : Ref sig .tc := ⟨.hbm, 135, rfl⟩
abbrev main_while0b_call4_c_0 : Ref sig .tc := ⟨.hbm, 136, rfl⟩
abbrev main_while0b_call4_c_1 : Ref sig .tc := ⟨.hbm, 137, rfl⟩
abbrev main_while0b_call4_c_2 : Ref sig .tc := ⟨.hbm, 138, rfl⟩
abbrev main_while0b_call4_v0 : Ref sig .tc := ⟨.hbm, 139, rfl⟩
abbrev main_while0b_v114 : Ref sig .tc := ⟨.hbm, 140, rfl⟩
abbrev main_while0b_call5_c : Ref sig .tc := ⟨.hbm, 141, rfl⟩
abbrev main_while0b_call5_c_0 : Ref sig .tc := ⟨.hbm, 142, rfl⟩
abbrev main_while0b_call5_c_1 : Ref sig .tc := ⟨.hbm, 143, rfl⟩
abbrev main_while0b_call5_c_2 : Ref sig .tc := ⟨.hbm, 144, rfl⟩
abbrev main_while0b_call5_v0 : Ref sig .tc := ⟨.hbm, 145, rfl⟩
abbrev main_while0b_v115 : Ref sig .tc := ⟨.hbm, 146, rfl⟩
abbrev main_while0b_call6_c : Ref sig .tc := ⟨.hbm, 147, rfl⟩
abbrev main_while0b_call6_c_0 : Ref sig .tc := ⟨.hbm, 148, rfl⟩
abbrev main_while0b_call6_c_1 : Ref sig .tc := ⟨.hbm, 149, rfl⟩
abbrev main_while0b_call6_v0 : Ref sig .tc := ⟨.hbm, 150, rfl⟩
abbrev main_while0b_v116 : Ref sig .tc := ⟨.hbm, 151, rfl⟩
abbrev main_while0b_call7_c : Ref sig .tc := ⟨.hbm, 152, rfl⟩
abbrev main_while0b_call7_c_0 : Ref sig .tc := ⟨.hbm, 153, rfl⟩
abbrev main_while0b_call7_c_1 : Ref sig .tc := ⟨.hbm, 154, rfl⟩
abbrev main_while0b_call7_v0 : Ref sig .tc := ⟨.hbm, 155, rfl⟩
abbrev main_while0b_v117 : Ref sig .tc := ⟨.hbm, 156, rfl⟩
abbrev main_while0b_call8_call0_cst : Ref sig .tc := ⟨.hbm, 157, rfl⟩
abbrev main_while0b_call8_call0_v0 : Ref sig .tc := ⟨.hbm, 158, rfl⟩
abbrev main_while0b_v118 : Ref sig .tc := ⟨.hbm, 159, rfl⟩
abbrev main_while0b_v119 : Ref sig .tc := ⟨.hbm, 160, rfl⟩
abbrev main_while0b_v120 : Ref sig .tc := ⟨.hbm, 161, rfl⟩
abbrev main_while0b_v121 : Ref sig .tc := ⟨.hbm, 162, rfl⟩
abbrev main_while0b_v122 : Ref sig .tc := ⟨.hbm, 163, rfl⟩
abbrev main_while0b_v123 : Ref sig .tc := ⟨.hbm, 164, rfl⟩
abbrev main_while0b_v124 : Ref sig .tc := ⟨.hbm, 165, rfl⟩
abbrev main_while0b_v125 : Ref sig .tc := ⟨.hbm, 166, rfl⟩
abbrev main_while0b_v126 : Ref sig .tc := ⟨.hbm, 167, rfl⟩
abbrev main_while0b_cst_22 : Ref sig .tc := ⟨.hbm, 168, rfl⟩
abbrev main_while0b_call9_v0 : Ref sig .tc := ⟨.hbm, 169, rfl⟩
abbrev main_while0b_call9_v1 : Ref sig .tc := ⟨.hbm, 170, rfl⟩
abbrev main_while0b_call9_v2 : Ref sig .tc := ⟨.hbm, 171, rfl⟩
abbrev main_while0b_v127 : Ref sig .tc := ⟨.hbm, 172, rfl⟩
abbrev main_while0b_v128 : Ref sig .tc := ⟨.hbm, 173, rfl⟩
abbrev main_while0b_v129 : Ref sig .tc := ⟨.hbm, 174, rfl⟩
abbrev main_while0b_v130 : Ref sig .tc := ⟨.hbm, 175, rfl⟩
abbrev main_while0b_cst_23 : Ref sig .tc := ⟨.hbm, 176, rfl⟩
abbrev main_while0b_v131 : Ref sig .tc := ⟨.hbm, 177, rfl⟩
abbrev main_while0b_v132 : Ref sig .tc := ⟨.hbm, 178, rfl⟩
abbrev main_while0b_v133 : Ref sig .tc := ⟨.hbm, 179, rfl⟩
abbrev main_while0b_v134 : Ref sig .tc := ⟨.hbm, 180, rfl⟩
abbrev main_while0b_v135 : Ref sig .tc := ⟨.hbm, 181, rfl⟩
abbrev main_while0b_v136 : Ref sig .tc := ⟨.hbm, 182, rfl⟩
abbrev main_while0b_v137 : Ref sig .tc := ⟨.hbm, 183, rfl⟩
abbrev main_while0b_v138 : Ref sig .tc := ⟨.hbm, 184, rfl⟩
abbrev main_while0b_v139 : Ref sig .tc := ⟨.hbm, 185, rfl⟩
abbrev main_while0b_v140 : Ref sig .tc := ⟨.hbm, 186, rfl⟩
abbrev main_while0b_v141 : Ref sig .tc := ⟨.hbm, 187, rfl⟩
abbrev main_while0b_v142 : Ref sig .tc := ⟨.hbm, 188, rfl⟩
abbrev main_while0b_v143 : Ref sig .tc := ⟨.hbm, 189, rfl⟩
abbrev main_while0b_v144 : Ref sig .tc := ⟨.hbm, 190, rfl⟩
abbrev main_while0b_v145 : Ref sig .tc := ⟨.hbm, 191, rfl⟩
abbrev main_while0b_v146 : Ref sig .tc := ⟨.hbm, 192, rfl⟩
abbrev main_while0b_cst_24 : Ref sig .tc := ⟨.hbm, 193, rfl⟩
abbrev main_while0b_v147 : Ref sig .tc := ⟨.hbm, 194, rfl⟩
abbrev main_while0b_v148 : Ref sig .tc := ⟨.hbm, 195, rfl⟩
abbrev main_while0b_v149 : Ref sig .tc := ⟨.hbm, 196, rfl⟩
abbrev main_while0b_v150 : Ref sig .tc := ⟨.hbm, 197, rfl⟩
abbrev main_while0b_v151 : Ref sig .tc := ⟨.hbm, 198, rfl⟩
abbrev main_while0b_v152 : Ref sig .tc := ⟨.hbm, 199, rfl⟩
abbrev main_while0b_v153 : Ref sig .tc := ⟨.hbm, 200, rfl⟩
abbrev main_while0b_v154 : Ref sig .tc := ⟨.hbm, 201, rfl⟩
abbrev main_while0b_v155 : Ref sig .tc := ⟨.hbm, 202, rfl⟩
abbrev main_while0b_v156 : Ref sig .tc := ⟨.hbm, 203, rfl⟩
abbrev main_while0b_v157 : Ref sig .tc := ⟨.hbm, 204, rfl⟩
abbrev main_while0b_v158 : Ref sig .tc := ⟨.hbm, 205, rfl⟩
abbrev main_while0b_v159 : Ref sig .tc := ⟨.hbm, 206, rfl⟩
abbrev main_while0b_v160 : Ref sig .tc := ⟨.hbm, 207, rfl⟩
abbrev main_while0b_v161 : Ref sig .tc := ⟨.hbm, 208, rfl⟩
abbrev main_while0b_v162 : Ref sig .tc := ⟨.hbm, 209, rfl⟩
abbrev main_while0b_v163 : Ref sig .tc := ⟨.hbm, 210, rfl⟩
abbrev main_while0b_v164 : Ref sig .tc := ⟨.hbm, 211, rfl⟩
abbrev main_while0b_cst_25 : Ref sig .tc := ⟨.hbm, 212, rfl⟩
abbrev main_while0b_v165 : Ref sig .tc := ⟨.hbm, 213, rfl⟩
abbrev main_while0b_v166 : Ref sig .tc := ⟨.hbm, 214, rfl⟩
abbrev main_while0b_v167 : Ref sig .tc := ⟨.hbm, 215, rfl⟩
abbrev main_while0b_v168 : Ref sig .tc := ⟨.hbm, 216, rfl⟩
abbrev main_while0b_v169 : Ref sig .tc := ⟨.hbm, 217, rfl⟩
abbrev main_while0b_v170 : Ref sig .tc := ⟨.hbm, 218, rfl⟩
abbrev main_while0b_v171 : Ref sig .tc := ⟨.hbm, 219, rfl⟩
abbrev main_while0b_v172 : Ref sig .tc := ⟨.hbm, 220, rfl⟩
abbrev main_while0b_v173 : Ref sig .tc := ⟨.hbm, 221, rfl⟩
abbrev main_while0b_v174 : Ref sig .tc := ⟨.hbm, 222, rfl⟩
abbrev main_while0b_v175 : Ref sig .tc := ⟨.hbm, 223, rfl⟩
abbrev main_while0b_v176 : Ref sig .tc := ⟨.hbm, 224, rfl⟩
abbrev main_while0b_v177 : Ref sig .tc := ⟨.hbm, 225, rfl⟩
abbrev main_while0b_v178 : Ref sig .tc := ⟨.hbm, 226, rfl⟩
abbrev main_while0b_v179 : Ref sig .tc := ⟨.hbm, 227, rfl⟩
abbrev main_while0b_v180 : Ref sig .tc := ⟨.hbm, 228, rfl⟩
abbrev main_while0b_v181 : Ref sig .tc := ⟨.hbm, 229, rfl⟩
abbrev main_while0b_v182 : Ref sig .tc := ⟨.hbm, 230, rfl⟩
abbrev main_while0b_v183 : Ref sig .tc := ⟨.hbm, 231, rfl⟩
abbrev main_while0b_v184 : Ref sig .tc := ⟨.hbm, 232, rfl⟩
abbrev main_while0b_v185 : Ref sig .tc := ⟨.hbm, 233, rfl⟩
abbrev main_while0b_v186 : Ref sig .tc := ⟨.hbm, 234, rfl⟩
abbrev main_while0b_call10_v0 : Ref sig .tc := ⟨.hbm, 235, rfl⟩
abbrev main_while0b_call10_c : Ref sig .tc := ⟨.hbm, 236, rfl⟩
abbrev main_while0b_call10_c_0 : Ref sig .tc := ⟨.hbm, 237, rfl⟩
abbrev main_while0b_call10_c_1 : Ref sig .tc := ⟨.hbm, 238, rfl⟩
abbrev main_while0b_call10_c_2 : Ref sig .tc := ⟨.hbm, 239, rfl⟩
abbrev main_while0b_v187 : Ref sig .tc := ⟨.hbm, 240, rfl⟩
abbrev main_while0b_c_26 : Ref sig .tc := ⟨.hbm, 241, rfl⟩
abbrev main_while0b_v188 : Ref sig .tc := ⟨.hbm, 242, rfl⟩
abbrev main_v84 : Ref sig .tc := ⟨.hbm, 243, rfl⟩
abbrev main_v85 : Ref sig .tc := ⟨.hbm, 244, rfl⟩
abbrev main_v86 : Ref sig .tc := ⟨.hbm, 245, rfl⟩
abbrev main_v87 : Ref sig .tc := ⟨.hbm, 246, rfl⟩
abbrev main_v88 : Ref sig .tc := ⟨.hbm, 247, rfl⟩
abbrev main_v89 : Ref sig .tc := ⟨.hbm, 248, rfl⟩
abbrev main_v90 : Ref sig .tc := ⟨.hbm, 249, rfl⟩
abbrev main_cst_7 : Ref sig .tc := ⟨.hbm, 250, rfl⟩
abbrev main_v91 : Ref sig .tc := ⟨.hbm, 251, rfl⟩
abbrev main_v92 : Ref sig .tc := ⟨.hbm, 252, rfl⟩
abbrev main_cst_8 : Ref sig .tc := ⟨.hbm, 253, rfl⟩
abbrev main_v93 : Ref sig .tc := ⟨.hbm, 254, rfl⟩
abbrev main_v94 : Ref sig .tc := ⟨.hbm, 255, rfl⟩
abbrev main_cst_9 : Ref sig .tc := ⟨.hbm, 256, rfl⟩
abbrev main_v95 : Ref sig .tc := ⟨.hbm, 257, rfl⟩
abbrev main_v96 : Ref sig .tc := ⟨.hbm, 258, rfl⟩
abbrev main_v97 : Ref sig .tc := ⟨.hbm, 259, rfl⟩
abbrev main_v98 : Ref sig .tc := ⟨.hbm, 260, rfl⟩
abbrev main_v99 : Ref sig .tc := ⟨.hbm, 261, rfl⟩
abbrev main_v100 : Ref sig .tc := ⟨.hbm, 262, rfl⟩
abbrev main_v101 : Ref sig .tc := ⟨.hbm, 263, rfl⟩
abbrev main_v102 : Ref sig .tc := ⟨.hbm, 264, rfl⟩
abbrev main_v103 : Ref sig .tc := ⟨.hbm, 265, rfl⟩
abbrev main_v104 : Ref sig .tc := ⟨.hbm, 266, rfl⟩
abbrev main_v105 : Ref sig .tc := ⟨.hbm, 267, rfl⟩
abbrev main_cst_10 : Ref sig .tc := ⟨.hbm, 268, rfl⟩
abbrev main_v106 : Ref sig .tc := ⟨.hbm, 269, rfl⟩
abbrev main_v107 : Ref sig .tc := ⟨.hbm, 270, rfl⟩
abbrev main_cst_11 : Ref sig .tc := ⟨.hbm, 271, rfl⟩
abbrev main_v108 : Ref sig .tc := ⟨.hbm, 272, rfl⟩
abbrev main_v109 : Ref sig .tc := ⟨.hbm, 273, rfl⟩
abbrev main_v110 : Ref sig .tc := ⟨.hbm, 274, rfl⟩
abbrev main_v111 : Ref sig .tc := ⟨.hbm, 275, rfl⟩
abbrev main_v112 : Ref sig .tc := ⟨.hbm, 276, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S36864x1024 : Shape := ⟨2, ![36864, 1024]⟩
abbrev S8x1024x3584 : Shape := ⟨3, ![8, 1024, 3584]⟩
abbrev S8x3584x1024 : Shape := ⟨3, ![8, 3584, 1024]⟩
abbrev S72 : Shape := ⟨1, ![72]⟩
abbrev S1 : Shape := ⟨1, ![1]⟩
abbrev S512x1024 : Shape := ⟨2, ![512, 1024]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S1792x1024 : Shape := ⟨2, ![1792, 1024]⟩
abbrev S512x1792 : Shape := ⟨2, ![512, 1792]⟩

abbrev nBuf : Space → Nat
  | .hbm => 5
  | .vmem => 12
  | .smem => 2
  | _ => 0

abbrev bufTy : (tb : Table) → Fin (tcTables nBuf tb) → BufTy
  | .hbm, ⟨0, _⟩ => ⟨S36864x1024, .f32⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S36864x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | .local _ .smem, ⟨0, _⟩ => ⟨S72, .i32⟩
  | .local _ .smem, ⟨1, _⟩ => ⟨S1, .i32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg4 : Ref sig .tc := ⟨.smem, 0, rfl⟩
abbrev main_arg5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 2], ![false, false]⟩

abbrev pre0 : Pipeline.Prefetch sig := ⟨2, ![main_arg4.idx, main_arg5.idx], fun | 0 => main_arg4.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c1_i32 : BitVec 32 := 1#32
  let v8 : BitVec 1 := Scalar.cmpi .eq arg1 c1_i32
  let v9 : BitVec 1 := Scalar.andi v1 v8
  let v10 : BitVec 32 := Scalar.extui v9
  let c0_i32_2 : BitVec 32 := 0#32
  let v11 : BitVec 1 := Scalar.cmpi .ne v10 c0_i32_2
  v11

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v12 : BitVec 1 := Scalar.xori v1 v_true
  let arg1 : BitVec 32 := BitVec.ofNat 32 (i 1).val
  let c1_i32 : BitVec 32 := 1#32
  let v8 : BitVec 1 := Scalar.cmpi .eq arg1 c1_i32
  let v13 : BitVec 1 := Scalar.andi v12 v8
  let v14 : BitVec 32 := Scalar.extui v13
  let c0_i32_3 : BitVec 32 := 0#32
  let v15 : BitVec 1 := Scalar.cmpi .ne v14 c0_i32_3
  v15

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S36864x1024 : Shape := ⟨2, ![36864, 1024]⟩
abbrev S8x1024x3584 : Shape := ⟨3, ![8, 1024, 3584]⟩
abbrev S8x3584x1024 : Shape := ⟨3, ![8, 3584, 1024]⟩
abbrev S72 : Shape := ⟨1, ![72]⟩
abbrev S1 : Shape := ⟨1, ![1]⟩
abbrev S72x1 : Shape := ⟨2, ![72, 1]⟩
abbrev S1x8 : Shape := ⟨2, ![1, 8]⟩
abbrev S72x8 : Shape := ⟨2, ![72, 8]⟩
abbrev S_ : Shape := ⟨0, ![]⟩
abbrev S72x512x8 : Shape := ⟨3, ![72, 512, 8]⟩
abbrev S36864x8 : Shape := ⟨2, ![36864, 8]⟩
abbrev S36864x1 : Shape := ⟨2, ![36864, 1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S36864x3584 : Shape := ⟨2, ![36864, 3584]⟩

abbrev nBuf : Space → Nat
  | .hbm => 212
  | .vmem => 0
  | .smem => 0
  | _ => 0

abbrev hbmTy0_0 (i : Nat) : BufTy := match i % 128 with
  | 0 => ⟨S36864x1024, .f32⟩
  | 1 => ⟨S8x1024x3584, .bf16⟩
  | 2 => ⟨S8x1024x3584, .bf16⟩
  | 3 => ⟨S8x3584x1024, .bf16⟩
  | 4 => ⟨S72, .i32⟩
  | 5 => ⟨S1, .i32⟩
  | 6 => ⟨S8x1024x3584, .f32⟩
  | 7 => ⟨S8x1024x3584, .f32⟩
  | 8 => ⟨S8x3584x1024, .f32⟩
  | 9 => ⟨S72, .i32⟩
  | 10 => ⟨S72, .i32⟩
  | 11 => ⟨S72, .i1⟩
  | 12 => ⟨S72x1, .i1⟩
  | 13 => ⟨S72x1, .i32⟩
  | 14 => ⟨S1x8, .i32⟩
  | 15 => ⟨S72x8, .i32⟩
  | 16 => ⟨S72x8, .i32⟩
  | 17 => ⟨S72x8, .i1⟩
  | 18 => ⟨S72x8, .f32⟩
  | 19 => ⟨S_, .f32⟩
  | 20 => ⟨S_, .f32⟩
  | 21 => ⟨S72x8, .i1⟩
  | 22 => ⟨S72x8, .f32⟩
  | 23 => ⟨S72x8, .f32⟩
  | 24 => ⟨S72x512x8, .f32⟩
  | 25 => ⟨S36864x8, .f32⟩
  | 26 => ⟨S_, .f32⟩
  | 27 => ⟨S36864x1024, .f32⟩
  | 28 => ⟨S36864x1, .f32⟩
  | 29 => ⟨S1x1024x3584, .f32⟩
  | 30 => ⟨S1024x3584, .f32⟩
  | 31 => ⟨S1x1024x3584, .f32⟩
  | 32 => ⟨S1024x3584, .f32⟩
  | 33 => ⟨S1x3584x1024, .f32⟩
  | 34 => ⟨S3584x1024, .f32⟩
  | 35 => ⟨S36864x3584, .f32⟩
  | 36 => ⟨S36864x3584, .f32⟩
  | 37 => ⟨S36864x3584, .f32⟩
  | 38 => ⟨S_, .f32⟩
  | 39 => ⟨S36864x3584, .f32⟩
  | 40 => ⟨S36864x3584, .f32⟩
  | 41 => ⟨S_, .f32⟩
  | 42 => ⟨S36864x3584, .f32⟩
  | 43 => ⟨S36864x3584, .f32⟩
  | 44 => ⟨S36864x3584, .f32⟩
  | 45 => ⟨S36864x3584, .f32⟩
  | 46 => ⟨S36864x3584, .f32⟩
  | 47 => ⟨S36864x1024, .f32⟩
  | 48 => ⟨S36864x1024, .f32⟩
  | 49 => ⟨S36864x1024, .f32⟩
  | 50 => ⟨S36864x1024, .f32⟩
  | 51 => ⟨S36864x1, .f32⟩
  | 52 => ⟨S1x1024x3584, .f32⟩
  | 53 => ⟨S1024x3584, .f32⟩
  | 54 => ⟨S1x1024x3584, .f32⟩
  | 55 => ⟨S1024x3584, .f32⟩
  | 56 => ⟨S1x3584x1024, .f32⟩
  | 57 => ⟨S3584x1024, .f32⟩
  | 58 => ⟨S36864x3584, .f32⟩
  | 59 => ⟨S36864x3584, .f32⟩
  | 60 => ⟨S36864x3584, .f32⟩
  | 61 => ⟨S_, .f32⟩
  | 62 => ⟨S36864x3584, .f32⟩
  | 63 => ⟨S36864x3584, .f32⟩
  | 64 => ⟨S_, .f32⟩
  | 65 => ⟨S36864x3584, .f32⟩
  | 66 => ⟨S36864x3584, .f32⟩
  | 67 => ⟨S36864x3584, .f32⟩
  | 68 => ⟨S36864x3584, .f32⟩
  | 69 => ⟨S36864x3584, .f32⟩
  | 70 => ⟨S36864x1024, .f32⟩
  | 71 => ⟨S36864x1024, .f32⟩
  | 72 => ⟨S36864x1024, .f32⟩
  | 73 => ⟨S36864x1024, .f32⟩
  | 74 => ⟨S36864x1, .f32⟩
  | 75 => ⟨S1x1024x3584, .f32⟩
  | 76 => ⟨S1024x3584, .f32⟩
  | 77 => ⟨S1x1024x3584, .f32⟩
  | 78 => ⟨S1024x3584, .f32⟩
  | 79 => ⟨S1x3584x1024, .f32⟩
  | 80 => ⟨S3584x1024, .f32⟩
  | 81 => ⟨S36864x3584, .f32⟩
  | 82 => ⟨S36864x3584, .f32⟩
  | 83 => ⟨S36864x3584, .f32⟩
  | 84 => ⟨S_, .f32⟩
  | 85 => ⟨S36864x3584, .f32⟩
  | 86 => ⟨S36864x3584, .f32⟩
  | 87 => ⟨S_, .f32⟩
  | 88 => ⟨S36864x3584, .f32⟩
  | 89 => ⟨S36864x3584, .f32⟩
  | 90 => ⟨S36864x3584, .f32⟩
  | 91 => ⟨S36864x3584, .f32⟩
  | 92 => ⟨S36864x3584, .f32⟩
  | 93 => ⟨S36864x1024, .f32⟩
  | 94 => ⟨S36864x1024, .f32⟩
  | 95 => ⟨S36864x1024, .f32⟩
  | 96 => ⟨S36864x1024, .f32⟩
  | 97 => ⟨S36864x1, .f32⟩
  | 98 => ⟨S1x1024x3584, .f32⟩
  | 99 => ⟨S1024x3584, .f32⟩
  | 100 => ⟨S1x1024x3584, .f32⟩
  | 101 => ⟨S1024x3584, .f32⟩
  | 102 => ⟨S1x3584x1024, .f32⟩
  | 103 => ⟨S3584x1024, .f32⟩
  | 104 => ⟨S36864x3584, .f32⟩
  | 105 => ⟨S36864x3584, .f32⟩
  | 106 => ⟨S36864x3584, .f32⟩
  | 107 => ⟨S_, .f32⟩
  | 108 => ⟨S36864x3584, .f32⟩
  | 109 => ⟨S36864x3584, .f32⟩
  | 110 => ⟨S_, .f32⟩
  | 111 => ⟨S36864x3584, .f32⟩
  | 112 => ⟨S36864x3584, .f32⟩
  | 113 => ⟨S36864x3584, .f32⟩
  | 114 => ⟨S36864x3584, .f32⟩
  | 115 => ⟨S36864x3584, .f32⟩
  | 116 => ⟨S36864x1024, .f32⟩
  | 117 => ⟨S36864x1024, .f32⟩
  | 118 => ⟨S36864x1024, .f32⟩
  | 119 => ⟨S36864x1024, .f32⟩
  | 120 => ⟨S36864x1, .f32⟩
  | 121 => ⟨S1x1024x3584, .f32⟩
  | 122 => ⟨S1024x3584, .f32⟩
  | 123 => ⟨S1x1024x3584, .f32⟩
  | 124 => ⟨S1024x3584, .f32⟩
  | 125 => ⟨S1x3584x1024, .f32⟩
  | 126 => ⟨S3584x1024, .f32⟩
  | 127 => ⟨S36864x3584, .f32⟩
  | _ => ⟨S36864x1024, .f32⟩

abbrev hbmTy0_1 (i : Nat) : BufTy := match i % 128 with
  | 0 => ⟨S36864x3584, .f32⟩
  | 1 => ⟨S36864x3584, .f32⟩
  | 2 => ⟨S_, .f32⟩
  | 3 => ⟨S36864x3584, .f32⟩
  | 4 => ⟨S36864x3584, .f32⟩
  | 5 => ⟨S_, .f32⟩
  | 6 => ⟨S36864x3584, .f32⟩
  | 7 => ⟨S36864x3584, .f32⟩
  | 8 => ⟨S36864x3584, .f32⟩
  | 9 => ⟨S36864x3584, .f32⟩
  | 10 => ⟨S36864x3584, .f32⟩
  | 11 => ⟨S36864x1024, .f32⟩
  | 12 => ⟨S36864x1024, .f32⟩
  | 13 => ⟨S36864x1024, .f32⟩
  | 14 => ⟨S36864x1024, .f32⟩
  | 15 => ⟨S36864x1, .f32⟩
  | 16 => ⟨S1x1024x3584, .f32⟩
  | 17 => ⟨S1024x3584, .f32⟩
  | 18 => ⟨S1x1024x3584, .f32⟩
  | 19 => ⟨S1024x3584, .f32⟩
  | 20 => ⟨S1x3584x1024, .f32⟩
  | 21 => ⟨S3584x1024, .f32⟩
  | 22 => ⟨S36864x3584, .f32⟩
  | 23 => ⟨S36864x3584, .f32⟩
  | 24 => ⟨S36864x3584, .f32⟩
  | 25 => ⟨S_, .f32⟩
  | 26 => ⟨S36864x3584, .f32⟩
  | 27 => ⟨S36864x3584, .f32⟩
  | 28 => ⟨S_, .f32⟩
  | 29 => ⟨S36864x3584, .f32⟩
  | 30 => ⟨S36864x3584, .f32⟩
  | 31 => ⟨S36864x3584, .f32⟩
  | 32 => ⟨S36864x3584, .f32⟩
  | 33 => ⟨S36864x3584, .f32⟩
  | 34 => ⟨S36864x1024, .f32⟩
  | 35 => ⟨S36864x1024, .f32⟩
  | 36 => ⟨S36864x1024, .f32⟩
  | 37 => ⟨S36864x1024, .f32⟩
  | 38 => ⟨S36864x1, .f32⟩
  | 39 => ⟨S1x1024x3584, .f32⟩
  | 40 => ⟨S1024x3584, .f32⟩
  | 41 => ⟨S1x1024x3584, .f32⟩
  | 42 => ⟨S1024x3584, .f32⟩
  | 43 => ⟨S1x3584x1024, .f32⟩
  | 44 => ⟨S3584x1024, .f32⟩
  | 45 => ⟨S36864x3584, .f32⟩
  | 46 => ⟨S36864x3584, .f32⟩
  | 47 => ⟨S36864x3584, .f32⟩
  | 48 => ⟨S_, .f32⟩
  | 49 => ⟨S36864x3584, .f32⟩
  | 50 => ⟨S36864x3584, .f32⟩
  | 51 => ⟨S_, .f32⟩
  | 52 => ⟨S36864x3584, .f32⟩
  | 53 => ⟨S36864x3584, .f32⟩
  | 54 => ⟨S36864x3584, .f32⟩
  | 55 => ⟨S36864x3584, .f32⟩
  | 56 => ⟨S36864x3584, .f32⟩
  | 57 => ⟨S36864x1024, .f32⟩
  | 58 => ⟨S36864x1024, .f32⟩
  | 59 => ⟨S36864x1024, .f32⟩
  | 60 => ⟨S36864x1024, .f32⟩
  | 61 => ⟨S36864x1, .f32⟩
  | 62 => ⟨S1x1024x3584, .f32⟩
  | 63 => ⟨S1024x3584, .f32⟩
  | 64 => ⟨S1x1024x3584, .f32⟩
  | 65 => ⟨S1024x3584, .f32⟩
  | 66 => ⟨S1x3584x1024, .f32⟩
  | 67 => ⟨S3584x1024, .f32⟩
  | 68 => ⟨S36864x3584, .f32⟩
  | 69 => ⟨S36864x3584, .f32⟩
  | 70 => ⟨S36864x3584, .f32⟩
  | 71 => ⟨S_, .f32⟩
  | 72 => ⟨S36864x3584, .f32⟩
  | 73 => ⟨S36864x3584, .f32⟩
  | 74 => ⟨S_, .f32⟩
  | 75 => ⟨S36864x3584, .f32⟩
  | 76 => ⟨S36864x3584, .f32⟩
  | 77 => ⟨S36864x3584, .f32⟩
  | 78 => ⟨S36864x3584, .f32⟩
  | 79 => ⟨S36864x3584, .f32⟩
  | 80 => ⟨S36864x1024, .f32⟩
  | 81 => ⟨S36864x1024, .f32⟩
  | 82 => ⟨S36864x1024, .f32⟩
  | 83 => ⟨S36864x1024, .f32⟩
  | _ => ⟨S36864x1024, .f32⟩

abbrev hbmTy (i : Nat) : BufTy := match i / 128 with
  | 0 => hbmTy0_0 i
  | 1 => hbmTy0_1 i
  | _ => ⟨S36864x1024, .f32⟩

abbrev bufTy : (tb : Table) → Fin (tcTables nBuf tb) → BufTy
  | .hbm, ⟨i, _⟩ => hbmTy i
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call2_v0 : Ref sig .tc := ⟨.hbm, 36, rfl⟩
abbrev main_call2_v1 : Ref sig .tc := ⟨.hbm, 37, rfl⟩
abbrev main_call2_cst : Ref sig .tc := ⟨.hbm, 38, rfl⟩
abbrev main_call2_v2 : Ref sig .tc := ⟨.hbm, 39, rfl⟩
abbrev main_call2_v3 : Ref sig .tc := ⟨.hbm, 40, rfl⟩
abbrev main_call2_cst_0 : Ref sig .tc := ⟨.hbm, 41, rfl⟩
abbrev main_call2_v4 : Ref sig .tc := ⟨.hbm, 42, rfl⟩
abbrev main_call2_v5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call3_v0 : Ref sig .tc := ⟨.hbm, 59, rfl⟩
abbrev main_call3_v1 : Ref sig .tc := ⟨.hbm, 60, rfl⟩
abbrev main_call3_cst : Ref sig .tc := ⟨.hbm, 61, rfl⟩
abbrev main_call3_v2 : Ref sig .tc := ⟨.hbm, 62, rfl⟩
abbrev main_call3_v3 : Ref sig .tc := ⟨.hbm, 63, rfl⟩
abbrev main_call3_cst_0 : Ref sig .tc := ⟨.hbm, 64, rfl⟩
abbrev main_call3_v4 : Ref sig .tc := ⟨.hbm, 65, rfl⟩
abbrev main_call3_v5 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_call4_v0 : Ref sig .tc := ⟨.hbm, 82, rfl⟩
abbrev main_call4_v1 : Ref sig .tc := ⟨.hbm, 83, rfl⟩
abbrev main_call4_cst : Ref sig .tc := ⟨.hbm, 84, rfl⟩
abbrev main_call4_v2 : Ref sig .tc := ⟨.hbm, 85, rfl⟩
abbrev main_call4_v3 : Ref sig .tc := ⟨.hbm, 86, rfl⟩
abbrev main_call4_cst_0 : Ref sig .tc := ⟨.hbm, 87, rfl⟩
abbrev main_call4_v4 : Ref sig .tc := ⟨.hbm, 88, rfl⟩
abbrev main_call4_v5 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_call5_v0 : Ref sig .tc := ⟨.hbm, 105, rfl⟩
abbrev main_call5_v1 : Ref sig .tc := ⟨.hbm, 106, rfl⟩
abbrev main_call5_cst : Ref sig .tc := ⟨.hbm, 107, rfl⟩
abbrev main_call5_v2 : Ref sig .tc := ⟨.hbm, 108, rfl⟩
abbrev main_call5_v3 : Ref sig .tc := ⟨.hbm, 109, rfl⟩
abbrev main_call5_cst_0 : Ref sig .tc := ⟨.hbm, 110, rfl⟩
abbrev main_call5_v4 : Ref sig .tc := ⟨.hbm, 111, rfl⟩
abbrev main_call5_v5 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_call6_v0 : Ref sig .tc := ⟨.hbm, 128, rfl⟩
abbrev main_call6_v1 : Ref sig .tc := ⟨.hbm, 129, rfl⟩
abbrev main_call6_cst : Ref sig .tc := ⟨.hbm, 130, rfl⟩
abbrev main_call6_v2 : Ref sig .tc := ⟨.hbm, 131, rfl⟩
abbrev main_call6_v3 : Ref sig .tc := ⟨.hbm, 132, rfl⟩
abbrev main_call6_cst_0 : Ref sig .tc := ⟨.hbm, 133, rfl⟩
abbrev main_call6_v4 : Ref sig .tc := ⟨.hbm, 134, rfl⟩
abbrev main_call6_v5 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_call7_v0 : Ref sig .tc := ⟨.hbm, 151, rfl⟩
abbrev main_call7_v1 : Ref sig .tc := ⟨.hbm, 152, rfl⟩
abbrev main_call7_cst : Ref sig .tc := ⟨.hbm, 153, rfl⟩
abbrev main_call7_v2 : Ref sig .tc := ⟨.hbm, 154, rfl⟩
abbrev main_call7_v3 : Ref sig .tc := ⟨.hbm, 155, rfl⟩
abbrev main_call7_cst_0 : Ref sig .tc := ⟨.hbm, 156, rfl⟩
abbrev main_call7_v4 : Ref sig .tc := ⟨.hbm, 157, rfl⟩
abbrev main_call7_v5 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_call8_v0 : Ref sig .tc := ⟨.hbm, 174, rfl⟩
abbrev main_call8_v1 : Ref sig .tc := ⟨.hbm, 175, rfl⟩
abbrev main_call8_cst : Ref sig .tc := ⟨.hbm, 176, rfl⟩
abbrev main_call8_v2 : Ref sig .tc := ⟨.hbm, 177, rfl⟩
abbrev main_call8_v3 : Ref sig .tc := ⟨.hbm, 178, rfl⟩
abbrev main_call8_cst_0 : Ref sig .tc := ⟨.hbm, 179, rfl⟩
abbrev main_call8_v4 : Ref sig .tc := ⟨.hbm, 180, rfl⟩
abbrev main_call8_v5 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_call9_v0 : Ref sig .tc := ⟨.hbm, 197, rfl⟩
abbrev main_call9_v1 : Ref sig .tc := ⟨.hbm, 198, rfl⟩
abbrev main_call9_cst : Ref sig .tc := ⟨.hbm, 199, rfl⟩
abbrev main_call9_v2 : Ref sig .tc := ⟨.hbm, 200, rfl⟩
abbrev main_call9_v3 : Ref sig .tc := ⟨.hbm, 201, rfl⟩
abbrev main_call9_cst_0 : Ref sig .tc := ⟨.hbm, 202, rfl⟩
abbrev main_call9_v4 : Ref sig .tc := ⟨.hbm, 203, rfl⟩
abbrev main_call9_v5 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩

abbrev nD : Nat := 1
abbrev τ : Topo := Topo.v7x

variable {F : FTy → Type} [FloatOps F]
-- ==== Kernel3.lean ====
abbrev S16384x512 : Shape := ⟨2, ![16384, 512]⟩
abbrev S1024x1024 : Shape := ⟨2, ![1024, 1024]⟩
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S1024x256 : Shape := ⟨2, ![1024, 256]⟩
abbrev S256x1024 : Shape := ⟨2, ![256, 1024]⟩
abbrev S512x256 : Shape := ⟨2, ![512, 256]⟩

abbrev nBuf : Space → Nat
  | .hbm => 12
  | .vmem => 17
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .bf16⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S16384x512 : Shape := ⟨2, ![16384, 512]⟩
abbrev S1024x1024 : Shape := ⟨2, ![1024, 1024]⟩
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩

abbrev nBuf : Space → Nat
  | .hbm => 93
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .bf16⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16384x1024, .bf16⟩
  | .hbm, ⟨12, _⟩ => ⟨S16384x1024, .f32⟩
  | .hbm, ⟨13, _⟩ => ⟨S1024x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S1024x2816, .f32⟩
  | .hbm, ⟨47, _⟩ => ⟨S1024x2816, .f32⟩
  | .hbm, ⟨48, _⟩ => ⟨S2816x1024, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S_, .f32⟩
  | .hbm, ⟨53, _⟩ => ⟨S16384x2816, .f32⟩
  | .hbm, ⟨54, _⟩ => ⟨S16384x2816, .f32⟩
  | .hbm, ⟨55, _⟩ => ⟨S_, .f32⟩
  | .hbm, ⟨56, _⟩ => ⟨S16384x2816, .f32⟩
  | .hbm, ⟨57, _⟩ => ⟨S16384x2816, .f32⟩
  | .hbm, ⟨58, _⟩ => ⟨S16384x2816, .f32⟩
  | .hbm, ⟨59, _⟩ => ⟨S16384x2816, .f32⟩
  | .hbm, ⟨60, _⟩ => ⟨S16384x2816, .f32⟩
  | .hbm, ⟨61, _⟩ => ⟨S16384x1024, .f32⟩
  | .hbm, ⟨62, _⟩ => ⟨S_, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S16384, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S_, .f32⟩
  | .hbm, ⟨76, _⟩ => ⟨S16384, .f32⟩
  | .hbm, ⟨77, _⟩ => ⟨S16384x1, .f32⟩
  | .hbm, ⟨78, _⟩ => ⟨S_, .f32⟩
  | .hbm, ⟨79, _⟩ => ⟨S16384x1, .f32⟩
  | .hbm, ⟨80, _⟩ => ⟨S16384x1, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S16384x1, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]
-- ==== Kernel4.lean ====
abbrev S16384x512 : Shape := ⟨2, ![16384, 512]⟩
abbrev S1024x1024 : Shape := ⟨2, ![1024, 1024]⟩
abbrev S16384x1024 : Shape := ⟨2, ![16384, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .bf16⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S16384x512 : Shape := ⟨2, ![16384, 512]⟩
abbrev S1024x1024 : Shape := ⟨2, ![1024, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 41
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .bf16⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S16384x1024, .bf16⟩
  | .hbm, ⟨7, _⟩ => ⟨S16384x1024, .f32⟩
  | .hbm, ⟨8, _⟩ => ⟨S1024x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel5.lean ====
abbrev S16384x1024 : Shape := ⟨2, ![16384, 1024]⟩
abbrev S1024x3072 : Shape := ⟨2, ![1024, 3072]⟩
abbrev S1024x128 : Shape := ⟨2, ![1024, 128]⟩
abbrev S1x128 : Shape := ⟨2, ![1, 128]⟩
abbrev S16384x128 : Shape := ⟨2, ![16384, 128]⟩
abbrev S16384x512 : Shape := ⟨2, ![16384, 512]⟩
abbrev S32x2x512 : Shape := ⟨3, ![32, 2, 512]⟩
abbrev S512x1024 : Shape := ⟨2, ![512, 1024]⟩
abbrev S512x128 : Shape := ⟨2, ![512, 128]⟩
abbrev S512x512 : Shape := ⟨2, ![512, 512]⟩
abbrev S1x2x512 : Shape := ⟨3, ![1, 2, 512]⟩
abbrev S1024x512 : Shape := ⟨2, ![1024, 512]⟩
abbrev S256x512 : Shape := ⟨2, ![256, 512]⟩
abbrev S512 : Shape := ⟨1, ![512]⟩
abbrev S1x512 : Shape := ⟨2, ![1, 512]⟩
abbrev S1x1x512 : Shape := ⟨3, ![1, 1, 512]⟩

abbrev nBuf : Space → Nat
  | .hbm => 15
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S1024x3072, .bf16⟩
  | .hbm, ⟨2, _⟩ => ⟨S1024x128, .bf16⟩
  | .hbm, ⟨3, _⟩ => ⟨S1x128, .f32⟩
  | .hbm, ⟨4, _⟩ => ⟨S16384x128, .f32⟩
  | .hbm, ⟨5, _⟩ => ⟨S16384x128, .f32⟩
  | .hbm, ⟨6, _⟩ => ⟨S16384x128, .f32⟩
  | .hbm, ⟨7, _⟩ => ⟨S16384x512, .bf16⟩
  | .hbm, ⟨8, _⟩ => ⟨S16384x512, .bf16⟩
  | .hbm, ⟨9, _⟩ => ⟨S16384x512, .bf16⟩
  | .hbm, ⟨10, _⟩ => ⟨S16384x512, .bf16⟩
  | .hbm, ⟨11, _⟩ => ⟨S16384x512, .bf16⟩
  | .hbm, ⟨12, _⟩ => ⟨S16384x512, .bf16⟩
  | .hbm, ⟨13, _⟩ => ⟨S16384x128, .f32⟩
  | .hbm, ⟨14, _⟩ => ⟨S32x2x512, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1024x128, .bf16⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x128, .f32⟩
  | .local _ .vmem, ⟨24, _⟩ => ⟨S512x128, .f32⟩
  | .local _ .vmem, ⟨25, _⟩ => ⟨S1x2x512, .f32⟩
  | .local _ .vmem, ⟨26, _⟩ => ⟨S1x2x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S16384x1024 : Shape := ⟨2, ![16384, 1024]⟩
abbrev S1024x3072 : Shape := ⟨2, ![1024, 3072]⟩
abbrev S1024x128 : Shape := ⟨2, ![1024, 128]⟩
abbrev S1x128 : Shape := ⟨2, ![1, 128]⟩
abbrev S16384x128 : Shape := ⟨2, ![16384, 128]⟩
abbrev S16384x3072 : Shape := ⟨2, ![16384, 3072]⟩
abbrev S16384x512 : Shape := ⟨2, ![16384, 512]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3072, .bf16⟩
  | .hbm, ⟨2, _⟩ => ⟨S1024x128, .bf16⟩
  | .hbm, ⟨3, _⟩ => ⟨S1x128, .f32⟩
  | .hbm, ⟨4, _⟩ => ⟨S16384x128, .f32⟩
  | .hbm, ⟨5, _⟩ => ⟨S16384x128, .f32⟩
  | .hbm, ⟨6, _⟩ => ⟨S16384x128, .f32⟩
  | .hbm, ⟨7, _⟩ => ⟨S1024x3072, .f32⟩
  | .hbm, ⟨8, _⟩ => ⟨S16384x3072, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S1024x128, .f32⟩
  | .hbm, ⟨16, _⟩ => ⟨S16384x128, .f32⟩
  | .hbm, ⟨17, _⟩ => ⟨S16384x128, .f32⟩
  | .hbm, ⟨18, _⟩ => ⟨S16384x128, .f32⟩
  | .hbm, ⟨19, _⟩ => ⟨S16384x512, .bf16⟩
  | .hbm, ⟨20, _⟩ => ⟨S16384x512, .bf16⟩
  | .hbm, ⟨21, _⟩ => ⟨S16384x512, .bf16⟩
  | .hbm, ⟨22, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel6.lean ====
abbrev S16384x1024 : Shape := ⟨2, ![16384, 1024]⟩
abbrev S1024x3072 : Shape := ⟨2, ![1024, 3072]⟩
abbrev S1024x128 : Shape := ⟨2, ![1024, 128]⟩
abbrev S1x128 : Shape := ⟨2, ![1, 128]⟩
abbrev S16384x128 : Shape := ⟨2, ![16384, 128]⟩
abbrev S16384x512 : Shape := ⟨2, ![16384, 512]⟩
abbrev S32x2x512 : Shape := ⟨3, ![32, 2, 512]⟩
abbrev S512x1024 : Shape := ⟨2, ![512, 1024]⟩
abbrev S512x128 : Shape := ⟨2, ![512, 128]⟩
abbrev S512x512 : Shape := ⟨2, ![512, 512]⟩
abbrev S1x2x512 : Shape := ⟨3, ![1, 2, 512]⟩
abbrev S1024x512 : Shape := ⟨2, ![1024, 512]⟩
abbrev S256x512 : Shape := ⟨2, ![256, 512]⟩
abbrev S512 : Shape := ⟨1, ![512]⟩
abbrev S1x512 : Shape := ⟨2, ![1, 512]⟩
abbrev S1x1x512 : Shape := ⟨3, ![1, 1, 512]⟩

abbrev nBuf : Space → Nat
  | .hbm => 15
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S1024x3072, .bf16⟩
  | .hbm, ⟨2, _⟩ => ⟨S1024x128, .bf16⟩
  | .hbm, ⟨3, _⟩ => ⟨S1x128, .f32⟩
  | .hbm, ⟨4, _⟩ => ⟨S16384x128, .f32⟩
  | .hbm, ⟨5, _⟩ => ⟨S16384x128, .f32⟩
  | .hbm, ⟨6, _⟩ => ⟨S16384x128, .f32⟩
  | .hbm, ⟨7, _⟩ => ⟨S16384x512, .bf16⟩
  | .hbm, ⟨8, _⟩ => ⟨S16384x512, .bf16⟩
  | .hbm, ⟨9, _⟩ => ⟨S16384x512, .bf16⟩
  | .hbm, ⟨10, _⟩ => ⟨S16384x512, .bf16⟩
  | .hbm, ⟨11, _⟩ => ⟨S16384x512, .bf16⟩
  | .hbm, ⟨12, _⟩ => ⟨S16384x512, .bf16⟩
  | .hbm, ⟨13, _⟩ => ⟨S16384x128, .f32⟩
  | .hbm, ⟨14, _⟩ => ⟨S32x2x512, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1024x128, .bf16⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x128, .f32⟩
  | .local _ .vmem, ⟨24, _⟩ => ⟨S512x128, .f32⟩
  | .local _ .vmem, ⟨25, _⟩ => ⟨S1x2x512, .f32⟩
  | .local _ .vmem, ⟨26, _⟩ => ⟨S1x2x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference6Ideal.lean ====
abbrev S16384x1024 : Shape := ⟨2, ![16384, 1024]⟩
abbrev S1024x3072 : Shape := ⟨2, ![1024, 3072]⟩
abbrev S1024x128 : Shape := ⟨2, ![1024, 128]⟩
abbrev S1x128 : Shape := ⟨2, ![1, 128]⟩
abbrev S16384x128 : Shape := ⟨2, ![16384, 128]⟩
abbrev S16384x8 : Shape := ⟨2, ![16384, 8]⟩
abbrev S16384x1x8 : Shape := ⟨3, ![16384, 1, 8]⟩
abbrev S16384x3072 : Shape := ⟨2, ![16384, 3072]⟩
abbrev S16384x512 : Shape := ⟨2, ![16384, 512]⟩
abbrev S16384x8x64 : Shape := ⟨3, ![16384, 8, 64]⟩
abbrev S16384x8x8 : Shape := ⟨3, ![16384, 8, 8]⟩
abbrev S16384x8x48 : Shape := ⟨3, ![16384, 8, 48]⟩
abbrev S32x2x256x512 : Shape := ⟨4, ![32, 2, 256, 512]⟩
abbrev S_ : Shape := ⟨0, ![]⟩
abbrev S32x2x512 : Shape := ⟨3, ![32, 2, 512]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3072, .bf16⟩
  | .hbm, ⟨2, _⟩ => ⟨S1024x128, .bf16⟩
  | .hbm, ⟨3, _⟩ => ⟨S1x128, .f32⟩
  | .hbm, ⟨4, _⟩ => ⟨S16384x128, .f32⟩
  | .hbm, ⟨5, _⟩ => ⟨S16384x128, .f32⟩
  | .hbm, ⟨6, _⟩ => ⟨S16384x128, .f32⟩
  | .hbm, ⟨7, _⟩ => ⟨S16384x8, .f32⟩
  | .hbm, ⟨8, _⟩ => ⟨S16384x1x8, .f32⟩
  | .hbm, ⟨9, _⟩ => ⟨S16384x8, .f32⟩
  | .hbm, ⟨10, _⟩ => ⟨S16384x1x8, .f32⟩
  | .hbm, ⟨11, _⟩ => ⟨S1024x3072, .f32⟩
  | .hbm, ⟨12, _⟩ => ⟨S16384x3072, .f32⟩
  | .hbm, ⟨13, _⟩ => ⟨S16384x512, .f32⟩
  | .hbm, ⟨14, _⟩ => ⟨S16384x8x64, .f32⟩
  | .hbm, ⟨15, _⟩ => ⟨S16384x8x8, .f32⟩
  | .hbm, ⟨16, _⟩ => ⟨S16384x8x8, .f32⟩
  | .hbm, ⟨17, _⟩ => ⟨S16384x8x48, .f32⟩
  | .hbm, ⟨18, _⟩ => ⟨S16384x8x8, .f32⟩
  | .hbm, ⟨19, _⟩ => ⟨S16384x8x8, .f32⟩
  | .hbm, ⟨20, _⟩ => ⟨S16384x8x8, .f32⟩
  | .hbm, ⟨21, _⟩ => ⟨S16384x8x8, .f32⟩
  | .hbm, ⟨22, _⟩ => ⟨S16384x8x8, .f32⟩
  | .hbm, ⟨23, _⟩ => ⟨S16384x8x8, .f32⟩
  | .hbm, ⟨24, _⟩ => ⟨S16384x8x8, .f32⟩
  | .hbm, ⟨25, _⟩ => ⟨S16384x8x8, .f32⟩
  | .hbm, ⟨26, _⟩ => ⟨S16384x8x8, .f32⟩
  | .hbm, ⟨27, _⟩ => ⟨S16384x8x8, .f32⟩
  | .hbm, ⟨28, _⟩ => ⟨S16384x8x64, .f32⟩
  | .hbm, ⟨29, _⟩ => ⟨S16384x512, .f32⟩
  | .hbm, ⟨30, _⟩ => ⟨S16384x512, .f32⟩
  | .hbm, ⟨31, _⟩ => ⟨S16384x8x64, .f32⟩
  | .hbm, ⟨32, _⟩ => ⟨S16384x8x8, .f32⟩
  | .hbm, ⟨33, _⟩ => ⟨S16384x8x8, .f32⟩
  | .hbm, ⟨34, _⟩ => ⟨S16384x8x48, .f32⟩
  | .hbm, ⟨35, _⟩ => ⟨S16384x8x8, .f32⟩
  | .hbm, ⟨36, _⟩ => ⟨S16384x8x8, .f32⟩
  | .hbm, ⟨37, _⟩ => ⟨S16384x8x8, .f32⟩
  | .hbm, ⟨38, _⟩ => ⟨S16384x8x8, .f32⟩
  | .hbm, ⟨39, _⟩ => ⟨S16384x8x8, .f32⟩
  | .hbm, ⟨40, _⟩ => ⟨S16384x8x8, .f32⟩
  | .hbm, ⟨41, _⟩ => ⟨S16384x8x8, .f32⟩
  | .hbm, ⟨42, _⟩ => ⟨S16384x8x8, .f32⟩
  | .hbm, ⟨43, _⟩ => ⟨S16384x8x8, .f32⟩
  | .hbm, ⟨44, _⟩ => ⟨S16384x8x8, .f32⟩
  | .hbm, ⟨45, _⟩ => ⟨S16384x8x64, .f32⟩
  | .hbm, ⟨46, _⟩ => ⟨S16384x512, .f32⟩
  | .hbm, ⟨47, _⟩ => ⟨S32x2x256x512, .f32⟩
  | .hbm, ⟨48, _⟩ => ⟨S_, .f32⟩
  | .hbm, ⟨49, _⟩ => ⟨S32x2x512, .f32⟩
  | .hbm, ⟨50, _⟩ => ⟨S_, .f32⟩
  | .hbm, ⟨51, _⟩ => ⟨S32x2x512, .f32⟩
  | .hbm, ⟨52, _⟩ => ⟨S32x2x512, .f32⟩
  | .hbm, ⟨53, _⟩ => ⟨S_, .f32⟩
  | .hbm, ⟨54, _⟩ => ⟨S16384x512, .f32⟩
  | .hbm, ⟨55, _⟩ => ⟨S16384x512, .f32⟩
  | .hbm, ⟨56, _⟩ => ⟨S16384x512, .bf16⟩
  | .hbm, ⟨57, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst : Ref sig .tc := ⟨.hbm, 48, rfl⟩
abbrev main_v41 : Ref sig .tc := ⟨.hbm, 49, rfl⟩
abbrev main_cst_0 : Ref sig .tc := ⟨.hbm, 50, rfl⟩
abbrev main_v42 : Ref sig .tc := ⟨.hbm, 51, rfl⟩
abbrev main_v43 : Ref sig .tc := ⟨.hbm, 52, rfl⟩
abbrev main_cst_1 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== Proof.Spec.lean ====
module
public import Idealize.ShloMosaic.Lib.Pointwise

/-! One head of the chunkwise mLSTM over the extended reals: what one chunk of 128 rows makes of the state it is
    handed, and the state it hands on. Neither program is named here. -/

@[expose] public section
noncomputable section

namespace Cert.Mlstm

open Idealize.ShloMosaic

/-- The fill of a masked gate and the start of a row maximum. -/
abbrev negInf : EReal := Ideal.ofBits FTy.f32 4286578688#32

/-- What one head reads of one chunk: queries (scaled), keys, values, input gates, log forget gates. -/
structure Chunk where
  q : Fin 128 → Fin 64 → EReal
  k : Fin 128 → Fin 64 → EReal
  v : Fin 128 → Fin 128 → EReal
  ig : Fin 128 → EReal
  lf : Fin 128 → EReal

/-- What one chunk hands the next: the memory, the normalizer, the running maximum. -/
structure St where
  C : Fin 128 → Fin 64 → EReal
  n : Fin 64 → EReal
  m : EReal

/-- The sum of the first `t + 1` entries. -/
def cum (f : Fin 128 → EReal) (t : Fin 128) : EReal := ∑ s : Fin 128, if s ≤ t then f s else 0

variable (X : Chunk) (σ : St)

def dlog (t s : Fin 128) : EReal := if s ≤ t then cum X.lf t - cum X.lf s + X.ig s else negInf
def inter (t : Fin 128) : EReal := cum X.lf t + σ.m
def mrow (t : Fin 128) : EReal := max (inter X σ t) (Finset.univ.fold max negInf fun s => dlog X t s)
def score (t s : Fin 128) : EReal := (∑ d : Fin 64, X.q t d * X.k s d) * Ideal.exp (dlog X t s - mrow X σ t)
def wint (t : Fin 128) : EReal := Ideal.exp (inter X σ t - mrow X σ t)
def num (t v : Fin 128) : EReal :=
  (∑ s : Fin 128, score X σ t s * X.v s v) + wint X σ t * ∑ d : Fin 64, X.q t d * σ.C v d
def den (t : Fin 128) : EReal := (∑ s : Fin 128, score X σ t s) + wint X σ t * ∑ d : Fin 64, X.q t d * σ.n d

/-- The chunk's output row `t`, entry `v`. -/
def hout (t v : Fin 128) : EReal :=
  Ideal.div (num X σ t v) (max (FloatOps.absf (F := Ideal) (φ := .f32) (den X σ t)) (Ideal.exp (-mrow X σ t)))

def last : EReal := cum X.lf 127
def decay (s : Fin 128) : EReal := last X - cum X.lf s + X.ig s
def mnew : EReal := max (last X + σ.m) (Finset.univ.fold max negInf fun s => decay X s)
def wst (s : Fin 128) : EReal := Ideal.exp (decay X s - mnew X σ)
def carry : EReal := Ideal.exp (last X + σ.m - mnew X σ)

/-- The state the chunk hands on. -/
def next : St where
  C v d := carry X σ * σ.C v d + ∑ s : Fin 128, X.v s v * (wst X σ s * X.k s d)
  n d := carry X σ * σ.n d + ∑ s : Fin 128, wst X σ s * X.k s d
  m := mnew X σ

/-- The state before chunk `c` of a sequence of chunks that starts from zeros. -/
def state (X : ℕ → Chunk) : ℕ → St
  | 0 => ⟨fun _ _ => 0, fun _ => 0, 0⟩
  | c + 1 => next (X c) (state X c)

/-- One row of a head's output normalized by its root mean square, then the gain and the output gate. -/
def gated (h : Fin 128 → EReal) (g o : Fin 128 → EReal) (v : Fin 128) : EReal :=
  h v * Ideal.rsqrt (Ideal.div (∑ x : Fin 128, h x * h x) (Ideal.ofBits FTy.f32 1124073472#32)
      + Ideal.ofBits FTy.f32 897988541#32) * g v
    * Ideal.div 1 (1 + Ideal.exp (-o v))

/-- The log of the logistic function. -/
def logsig (f : EReal) : EReal :=
  -(max (-f) 0 + Ideal.log1p (Ideal.exp (-(FloatOps.absf (F := Ideal) (φ := .f32) (-f)))))

/-- The causal convolution of width four at row `t` of a sequence, its bias first, then the gate of the result by its own logistic. -/
def conv (x : ℕ → EReal) (w : Fin 4 → EReal) (b : EReal) (t : ℕ) : EReal :=
  (((b + w 0 * (if 3 ≤ t then x (t - 3) else 0)) + w 1 * (if 2 ≤ t then x (t - 2) else 0))
    + w 2 * (if 1 ≤ t then x (t - 1) else 0)) + w 3 * x t
def silu (y : EReal) : EReal := y * Ideal.div 1 (1 + Ideal.exp (-y))

/-- The arguments by batch, chunk and row. -/
structure Args where
  qk : Fin 2 → ℕ → Fin 512 → EReal
  v : Fin 2 → ℕ → Fin 512 → EReal
  o : Fin 2 → ℕ → Fin 512 → EReal
  g : Fin 2 → ℕ → Fin 128 → EReal
  w : Fin 4 → Fin 512 → EReal
  b : Fin 512 → EReal
  gain : Fin 512 → EReal

variable (A : Args) (b : Fin 2) (h : Fin 4)

/-- The gated convolution at row `t` of batch `b`, column `u`. -/
def act (t : ℕ) (u : Fin 512) : EReal := silu (conv (fun r => A.qk b r u) (fun i => A.w i u) (A.b u) t)

/-- What head `h` of batch `b` reads of chunk `c`. -/
def chunkOf (c : ℕ) : Chunk where
  q t d := act A b (c * 128 + t.val) ⟨h.val * 64 + d.val, by omega⟩ * Ideal.ofBits FTy.f32 1040187392#32
  k t d := act A b (c * 128 + t.val) ⟨256 + h.val * 64 + d.val, by omega⟩
  v t u := A.v b (c * 128 + t.val) ⟨h.val * 128 + u.val, by omega⟩
  ig t := A.g b (c * 128 + t.val) ⟨h.val, by omega⟩
  lf t := logsig (A.g b (c * 128 + t.val) ⟨4 + h.val, by omega⟩)

/-- The result at row `t` of chunk `c` of batch `b`, entry `v` of head `h`. -/
def result (c : ℕ) (t v : Fin 128) : EReal :=
  gated (fun x => hout (chunkOf A b h c) (state (chunkOf A b h) c) t x)
    (fun x => A.gain ⟨h.val * 128 + x.val, by omega⟩)
    (fun x => A.o b (c * 128 + t.val) ⟨h.val * 128 + x.val, by omega⟩) v

/-- Row `r` of batch `b` of an argument of 16384 rows; past the batch's end, zero. -/
def rowOf {n : ℕ} {φ : FTy} (a : FVec Ideal ⟨2, ![16384, n]⟩ φ) (b : Fin 2) (r : ℕ) (u : Fin n) : EReal :=
  if hr : r < 8192 then a (ix2 ⟨b.val * 8192 + r, by omega⟩ u) else 0

theorem rowOf_lt {n : ℕ} {φ : FTy} (a : FVec Ideal ⟨2, ![16384, n]⟩ φ) (b : Fin 2) (r : ℕ) (hr : r < 8192) (u : Fin n) :
    rowOf a b r u = a (ix2 ⟨b.val * 8192 + r, by omega⟩ u) := dif_pos hr

/-- The arguments of the programs, by batch and row. -/
def argsOf (a0 a1 a2 : FVec Ideal ⟨2, ![16384, 512]⟩ .bf16) (a3 : FVec Ideal ⟨2, ![16384, 128]⟩ .f32)
    (a4 : FVec Ideal ⟨2, ![4, 512]⟩ .f32) (a5 a6 : FVec Ideal ⟨2, ![1, 512]⟩ .f32) : Args where
  qk := rowOf a0
  v := rowOf a1
  o := rowOf a2
  g := rowOf a3
  w i u := a4 (ix2 i u)
  b u := a5 (ix2 0 u)
  gain u := a6 (ix2 0 u)

end Cert.Mlstm
end
-- ==== Proof.RefLoop.lean ====
module
public import proofs.«01_k».proof.Proof.Gen.ReferenceIdeal.Run
public import proofs.«01_k».proof.Proof.Gen.ReferenceIdeal.Step
public import proofs.«01_k».proof.Proof.Spec

@[expose] public section
set_option maxRecDepth 16384
noncomputable section

namespace Cert.ReferenceIdeal.Loop

open Idealize.ShloMosaic Idealize.ShloMosaic.TcCoe Idealize.SL.Sem Idealize.ShloMosaic.StableHlo
open Cert.ReferenceIdeal Cert.ReferenceIdeal.Gen Cert.ReferenceIdeal.Value Cert.Mlstm

/-- The buffers' contents during the loop. -/
abbrev Val : Type := Valuation τ sig (Elt Ideal)

abbrev vQ (V : Val) : FVec Ideal S64x2x4x128x64 .f32 := V (Proc.devRef .tc main_v83_0)
abbrev vK (V : Val) : FVec Ideal S64x2x4x128x64 .f32 := V (Proc.devRef .tc main_v83_1)
abbrev vV (V : Val) : FVec Ideal S64x2x4x128x128 .f32 := V (Proc.devRef .tc main_v83_2)
abbrev vI (V : Val) : FVec Ideal S64x2x4x128 .f32 := V (Proc.devRef .tc main_v83_3)
abbrev vF (V : Val) : FVec Ideal S64x2x4x128 .f32 := V (Proc.devRef .tc main_v83_4)
abbrev vC (V : Val) : FVec Ideal S2x4x128x64 .f32 := V (Proc.devRef .tc main_v83_7)
abbrev vN (V : Val) : FVec Ideal S2x4x64 .f32 := V (Proc.devRef .tc main_v83_8)
abbrev vM (V : Val) : FVec Ideal S2x4 .f32 := V (Proc.devRef .tc main_v83_9)
abbrev vH (V : Val) : FVec Ideal S64x2x4x128x128 .f32 := V (Proc.devRef .tc main_v83_10)

/-- A left fold of additions is the start plus the sum. -/
theorem foldl_sum {N : ℕ} (g : Fin N → EReal) (v : EReal) :
    (List.finRange N).foldl (fun r n => r + g n) v = v + ∑ n : Fin N, g n := by
  have key : ∀ (l : List (Fin N)) (w : EReal), l.foldl (fun r n => r + g n) w = w + (l.map g).sum := by
    intro l
    induction l with
    | nil => intro w; simp
    | cons a l ih => intro w; rw [List.foldl_cons, ih, List.map_cons, List.sum_cons, add_assoc]
  rw [key, Fin.sum_univ_def]

/-- A window of 128 positions that ends at position `t` sums the first `t + 1` entries. -/
theorem window_sum (f : Fin 128 → EReal) (t : Fin 128) :
    (∑ w : Fin 128, if hw : 127 ≤ t.val + w.val ∧ t.val + w.val - 127 < 128 then f ⟨t.val + w.val - 127, hw.2⟩ else 0)
      = cum f t := by
  unfold cum
  refine Fintype.sum_equiv (Equiv.addRight (t + 1)) _ _ fun w => ?_
  have hv : ((Equiv.addRight (t + 1)) w).val = (w.val + t.val + 1) % 128 := by
    simp only [Equiv.coe_addRight, Fin.val_add, Fin.val_one, Nat.add_mod_mod, Nat.add_assoc]
  have hw := w.isLt
  have ht := t.isLt
  by_cases hin : 127 ≤ t.val + w.val
  · have he : ((Equiv.addRight (t + 1)) w) = (⟨t.val + w.val - 127, by omega⟩ : Fin 128) := Fin.ext (by rw [hv]; show _ = t.val + w.val - 127; omega)
    rw [dif_pos ⟨hin, by omega⟩, he, if_pos (by rw [Fin.le_def]; show t.val + w.val - 127 ≤ _; omega)]
  · rw [dif_neg (fun hh => hin hh.1), if_neg (by rw [Fin.le_def, hv]; omega)]

/-- The host's running sum along the last axis. -/
theorem cumsum_at (x : FVec Ideal S2x4x128 .f32) (init : FVec Ideal S_ .f32) (hi : init (Shape.Idx.first h_S_) = (0 : EReal))
    (b : Fin 2) (h : Fin 4) (t : Fin 128) :
    Host.reduceWindowAdd ![1, 1, 128] ![1, 1, 1] ![0, 0, 127] ![0, 0, 0] x init
      reduceWindows_S2x4x128_S2x4x128_w1s1p0_0_w1s1p0_0_w128s1p127_0 h_S_ (ix3 b h t)
      = cum (fun s => (x (ix3 b h s) : EReal)) t := by
  refine Eq.trans (foldl_sum _ _) ?_
  rw [hi]
  show (0 : EReal) + _ = _
  rw [zero_add]
  refine Eq.trans (Finset.sum_congr rfl fun n _ => ?_) ((Equiv.sum_comp (Shape.rowMajor ⟨3, ![1, 1, 128]⟩).symm
    (fun i : (⟨3, ![1, 1, 128]⟩ : Shape).Idx => if hw : 127 ≤ t.val + (i 2).val ∧ t.val + (i 2).val - 127 < 128
      then (x (ix3 b h ⟨t.val + (i 2).val - 127, hw.2⟩) : EReal) else 0)).trans ?_)
  · have hb := b.isLt
    have hh := h.isLt
    have h0 : ((Shape.rowMajor ⟨3, ![1, 1, 128]⟩).symm n 0).val < 1 := ((Shape.rowMajor ⟨3, ![1, 1, 128]⟩).symm n 0).isLt
    have h1 : ((Shape.rowMajor ⟨3, ![1, 1, 128]⟩).symm n 1).val < 1 := ((Shape.rowMajor ⟨3, ![1, 1, 128]⟩).symm n 1).isLt
    by_cases hw : 127 ≤ t.val + ((Shape.rowMajor ⟨3, ![1, 1, 128]⟩).symm n 2).val
      ∧ t.val + ((Shape.rowMajor ⟨3, ![1, 1, 128]⟩).symm n 2).val - 127 < 128
    · rw [dif_pos hw, dif_pos]
      · refine congrArg x (funext fun a => Fin.ext ?_)
        match a with
        | ⟨0, _⟩ => show b.val * 1 + ((Shape.rowMajor ⟨3, ![1, 1, 128]⟩).symm n 0).val - 0 = b.val; omega
        | ⟨1, _⟩ => show h.val * 1 + ((Shape.rowMajor ⟨3, ![1, 1, 128]⟩).symm n 1).val - 0 = h.val; omega
        | ⟨2, _⟩ =>
          show t.val * 1 + ((Shape.rowMajor ⟨3, ![1, 1, 128]⟩).symm n 2).val - 127
            = t.val + ((Shape.rowMajor ⟨3, ![1, 1, 128]⟩).symm n 2).val - 127
          omega
      · intro a
        match a with
        | ⟨0, _⟩ =>
          show 0 ≤ b.val * 1 + ((Shape.rowMajor ⟨3, ![1, 1, 128]⟩).symm n 0).val
            ∧ b.val * 1 + ((Shape.rowMajor ⟨3, ![1, 1, 128]⟩).symm n 0).val - 0 < 2
          omega
        | ⟨1, _⟩ =>
          show 0 ≤ h.val * 1 + ((Shape.rowMajor ⟨3, ![1, 1, 128]⟩).symm n 1).val
            ∧ h.val * 1 + ((Shape.rowMajor ⟨3, ![1, 1, 128]⟩).symm n 1).val - 0 < 4
          omega
        | ⟨2, _⟩ =>
          show 127 ≤ t.val * 1 + ((Shape.rowMajor ⟨3, ![1, 1, 128]⟩).symm n 2).val
            ∧ t.val * 1 + ((Shape.rowMajor ⟨3, ![1, 1, 128]⟩).symm n 2).val - 127 < 128
          omega
    · rw [dif_neg hw, dif_neg]
      intro hin
      have h3 := hin 2
      change 127 ≤ t.val * 1 + ((Shape.rowMajor ⟨3, ![1, 1, 128]⟩).symm n 2).val
        ∧ t.val * 1 + ((Shape.rowMajor ⟨3, ![1, 1, 128]⟩).symm n 2).val - 127 < 128 at h3
      exact hw (by omega)
  · rw [sum_idx3, Fin.sum_univ_one, Fin.sum_univ_one, ← window_sum]
    rfl

/-- The causal mask's bit. -/
theorem mask_at (t u : Fin 128) :
    (Step.K_main_v68 (F := Ideal) : IVec S128x128 1) (ix2 t u) = if u ≤ t then 1#1 else 0#1 := by
  pointwise [Step.K_main_v68, Step.K_main_call2_v0, Step.K_main_call2_v1, Step.K_main_call2_v2, Step.K_main_call2_v3,
    Step.K_main_call2_v4, Step.K_main_call2_v5, Step.K_main_v67, Step.K_main_call2_c, Step.K_main_call2_c_0, Step.K_main_c_1]
  have ht := t.isLt
  have hu := u.isLt
  have e1 : (BitVec.ofNat 32 t.val).toInt = t.val := by
    rw [BitVec.toInt_eq_toNat_of_lt] <;> simp only [BitVec.toNat_ofNat] <;> omega
  have e2 : (BitVec.ofNat 32 u.val).toInt = u.val := by
    rw [BitVec.toInt_eq_toNat_of_lt] <;> simp only [BitVec.toNat_ofNat] <;> omega
  simp only [IntOp.addi, IntOp.cmpi, BitVec.add_zero, BitVec.sle, e1, e2, Scalar.select, Fin.le_def, Nat.cast_le]
  by_cases hle : u.val ≤ t.val <;> simp [hle]

/-- A word that holds a small number reads as that number. -/
theorem toInt_small (j : ℕ) (hj : j < 64) : (BitVec.ofNat 32 j).toInt = j := by
  rw [BitVec.toInt_eq_toNat_of_lt] <;> simp only [BitVec.toNat_ofNat] <;> omega

/-- A slice that starts at zero along an axis keeps its position there. -/
theorem zero_start {s t : Shape} {ht : t.rank = s.rank} {start : Fin s.rank → Int} {a : Fin s.rank} (x : ℕ)
    (hk : start a = (0 : ℕ)) (hle : 0 + t.size (a.cast ht.symm) ≤ s.size a) : Host.clampedStart s t ht start a + x = x := by
  rw [Host.clampedStart_of_le ht start a 0 hk hle, Nat.zero_add]

/-! Trip `j`'s slice of a stack of 64 chunks. -/

theorem slice_k (X : FVec Ideal S64x2x4x128x64 .f32) (j : Fin 64) (b : Fin 2) (h : Fin 4) (t : Fin 128) (d : Fin 64) :
    shapeCast S2x4x128x64 (Host.dynamicSlice S1x2x4x128x64 X
      (fun k => (((![constantI S_ 32 (BitVec.ofNat 32 j.val), constantI S_ 32 0#32, constantI S_ 32 0#32, constantI S_ 32 0#32, constantI S_ 32 0#32] : Fin 5 → IVec S_ 32)) k
        (Shape.Idx.first h_S_)).toInt) sliceFits_S64x2x4x128x64_S1x2x4x128x64) shapeCasts_S1x2x4x128x64_S2x4x128x64 (ix4 b h t d) = X (ix5 j b h t d) := by
  generalize hst : (fun k => (((![constantI S_ 32 (BitVec.ofNat 32 j.val), constantI S_ 32 0#32, constantI S_ 32 0#32, constantI S_ 32 0#32, constantI S_ 32 0#32] : Fin 5 → IVec S_ 32)) k
    (Shape.Idx.first h_S_)).toInt) = start
  have e0 : start 0 = (j.val : ℕ) := by subst hst; exact toInt_small _ j.isLt
  have c0 : ∀ ht, Host.clampedStart S64x2x4x128x64 S1x2x4x128x64 ht start 0 = j.val := fun ht =>
    Host.clampedStart_of_le ht _ _ _ e0 (by have := j.isLt; show j.val + 1 ≤ 64; omega)
  have c1 : ∀ ht, Host.clampedStart S64x2x4x128x64 S1x2x4x128x64 ht start 1 = 0 := fun ht =>
    Host.clampedStart_of_le ht _ _ 0 (by subst hst; rfl) (Nat.le_of_eq rfl)
  have c2 : ∀ ht, Host.clampedStart S64x2x4x128x64 S1x2x4x128x64 ht start 2 = 0 := fun ht =>
    Host.clampedStart_of_le ht _ _ 0 (by subst hst; rfl) (Nat.le_of_eq rfl)
  have c3 : ∀ ht, Host.clampedStart S64x2x4x128x64 S1x2x4x128x64 ht start 3 = 0 := fun ht =>
    Host.clampedStart_of_le ht _ _ 0 (by subst hst; rfl) (Nat.le_of_eq rfl)
  have c4 : ∀ ht, Host.clampedStart S64x2x4x128x64 S1x2x4x128x64 ht start 4 = 0 := fun ht =>
    Host.clampedStart_of_le ht _ _ 0 (by subst hst; rfl) (Nat.le_of_eq rfl)
  pointwise []
  simp only [c0, c1, c2, c3, c4, Nat.zero_add]

theorem slice_v (X : FVec Ideal S64x2x4x128x128 .f32) (j : Fin 64) (b : Fin 2) (h : Fin 4) (t : Fin 128) (d : Fin 128) :
    shapeCast S2x4x128x128 (Host.dynamicSlice S1x2x4x128x128 X
      (fun k => (((![constantI S_ 32 (BitVec.ofNat 32 j.val), constantI S_ 32 0#32, constantI S_ 32 0#32, constantI S_ 32 0#32, constantI S_ 32 0#32] : Fin 5 → IVec S_ 32)) k
        (Shape.Idx.first h_S_)).toInt) sliceFits_S64x2x4x128x128_S1x2x4x128x128) shapeCasts_S1x2x4x128x128_S2x4x128x128 (ix4 b h t d) = X (ix5 j b h t d) := by
  generalize hst : (fun k => (((![constantI S_ 32 (BitVec.ofNat 32 j.val), constantI S_ 32 0#32, constantI S_ 32 0#32, constantI S_ 32 0#32, constantI S_ 32 0#32] : Fin 5 → IVec S_ 32)) k
    (Shape.Idx.first h_S_)).toInt) = start
  have e0 : start 0 = (j.val : ℕ) := by subst hst; exact toInt_small _ j.isLt
  have c0 : ∀ ht, Host.clampedStart S64x2x4x128x128 S1x2x4x128x128 ht start 0 = j.val := fun ht =>
    Host.clampedStart_of_le ht _ _ _ e0 (by have := j.isLt; show j.val + 1 ≤ 64; omega)
  have c1 : ∀ ht, Host.clampedStart S64x2x4x128x128 S1x2x4x128x128 ht start 1 = 0 := fun ht =>
    Host.clampedStart_of_le ht _ _ 0 (by subst hst; rfl) (Nat.le_of_eq rfl)
  have c2 : ∀ ht, Host.clampedStart S64x2x4x128x128 S1x2x4x128x128 ht start 2 = 0 := fun ht =>
    Host.clampedStart_of_le ht _ _ 0 (by subst hst; rfl) (Nat.le_of_eq rfl)
  have c3 : ∀ ht, Host.clampedStart S64x2x4x128x128 S1x2x4x128x128 ht start 3 = 0 := fun ht =>
    Host.clampedStart_of_le ht _ _ 0 (by subst hst; rfl) (Nat.le_of_eq rfl)
  have c4 : ∀ ht, Host.clampedStart S64x2x4x128x128 S1x2x4x128x128 ht start 4 = 0 := fun ht =>
    Host.clampedStart_of_le ht _ _ 0 (by subst hst; rfl) (Nat.le_of_eq rfl)
  pointwise []
  simp only [c0, c1, c2, c3, c4, Nat.zero_add]

theorem slice_g (X : FVec Ideal S64x2x4x128 .f32) (j : Fin 64) (b : Fin 2) (h : Fin 4) (t : Fin 128) :
    shapeCast S2x4x128 (Host.dynamicSlice S1x2x4x128 X
      (fun k => (((![constantI S_ 32 (BitVec.ofNat 32 j.val), constantI S_ 32 0#32, constantI S_ 32 0#32, constantI S_ 32 0#32] : Fin 4 → IVec S_ 32)) k
        (Shape.Idx.first h_S_)).toInt) sliceFits_S64x2x4x128_S1x2x4x128) shapeCasts_S1x2x4x128_S2x4x128 (ix3 b h t) = X (ix4 j b h t) := by
  generalize hst : (fun k => (((![constantI S_ 32 (BitVec.ofNat 32 j.val), constantI S_ 32 0#32, constantI S_ 32 0#32, constantI S_ 32 0#32] : Fin 4 → IVec S_ 32)) k
    (Shape.Idx.first h_S_)).toInt) = start
  have e0 : start 0 = (j.val : ℕ) := by subst hst; exact toInt_small _ j.isLt
  have c0 : ∀ ht, Host.clampedStart S64x2x4x128 S1x2x4x128 ht start 0 = j.val := fun ht =>
    Host.clampedStart_of_le ht _ _ _ e0 (by have := j.isLt; show j.val + 1 ≤ 64; omega)
  have c1 : ∀ ht, Host.clampedStart S64x2x4x128 S1x2x4x128 ht start 1 = 0 := fun ht =>
    Host.clampedStart_of_le ht _ _ 0 (by subst hst; rfl) (Nat.le_of_eq rfl)
  have c2 : ∀ ht, Host.clampedStart S64x2x4x128 S1x2x4x128 ht start 2 = 0 := fun ht =>
    Host.clampedStart_of_le ht _ _ 0 (by subst hst; rfl) (Nat.le_of_eq rfl)
  have c3 : ∀ ht, Host.clampedStart S64x2x4x128 S1x2x4x128 ht start 3 = 0 := fun ht =>
    Host.clampedStart_of_le ht _ _ 0 (by subst hst; rfl) (Nat.le_of_eq rfl)
  pointwise []
  simp only [c0, c1, c2, c3, Nat.zero_add]

/-- Trip `j` writes its output at chunk `j` of the stack. -/
theorem put_at (X : FVec Ideal S64x2x4x128x128 .f32) (Y : FVec Ideal S1x2x4x128x128 .f32) (i j : Fin 64)
    (b : Fin 2) (h : Fin 4) (t u : Fin 128) :
    Host.dynamicUpdateSlice X Y
      (fun k => (((![constantI S_ 32 (BitVec.ofNat 32 j.val), constantI S_ 32 0#32, constantI S_ 32 0#32, constantI S_ 32 0#32,
        constantI S_ 32 0#32] : Fin 5 → IVec S_ 32)) k (Shape.Idx.first h_S_)).toInt)
      updateFits_S64x2x4x128x128_S1x2x4x128x128 (ix5 i b h t u)
      = if i = j then Y (ix5 0 b h t u) else X (ix5 i b h t u) := by
  generalize hst : (fun k => (((![constantI S_ 32 (BitVec.ofNat 32 j.val), constantI S_ 32 0#32, constantI S_ 32 0#32,
    constantI S_ 32 0#32, constantI S_ 32 0#32] : Fin 5 → IVec S_ 32)) k (Shape.Idx.first h_S_)).toInt) = start
  have e0 : start 0 = (j.val : ℕ) := by subst hst; exact toInt_small _ j.isLt
  have e1 : start 1 = (0 : ℕ) := by subst hst; rfl
  have e2 : start 2 = (0 : ℕ) := by subst hst; rfl
  have e3 : start 3 = (0 : ℕ) := by subst hst; rfl
  have e4 : start 4 = (0 : ℕ) := by subst hst; rfl
  pointwise []
  have c0 : ∀ ht, Host.clampedStart S64x2x4x128x128 S1x2x4x128x128 ht start 0 = j.val := fun ht =>
    Host.clampedStart_of_le ht _ _ _ e0 (by have := j.isLt; show j.val + 1 ≤ 64; omega)
  have c1 : ∀ ht, Host.clampedStart S64x2x4x128x128 S1x2x4x128x128 ht start 1 = 0 := fun ht =>
    Host.clampedStart_of_le ht _ _ _ e1 (Nat.le_of_eq rfl)
  have c2 : ∀ ht, Host.clampedStart S64x2x4x128x128 S1x2x4x128x128 ht start 2 = 0 := fun ht =>
    Host.clampedStart_of_le ht _ _ _ e2 (Nat.le_of_eq rfl)
  have c3 : ∀ ht, Host.clampedStart S64x2x4x128x128 S1x2x4x128x128 ht start 3 = 0 := fun ht =>
    Host.clampedStart_of_le ht _ _ _ e3 (Nat.le_of_eq rfl)
  have c4 : ∀ ht, Host.clampedStart S64x2x4x128x128 S1x2x4x128x128 ht start 4 = 0 := fun ht =>
    Host.clampedStart_of_le ht _ _ _ e4 (Nat.le_of_eq rfl)
  simp only [c0, c1, c2, c3, c4]
  by_cases hij : i = j
  · subst hij
    have := b.isLt
    have := h.isLt
    have := t.isLt
    have := u.isLt
    rw [dif_pos (by omega), if_pos rfl]
    refine congrArg Y ?_
    congr 1
    exact Fin.ext (Nat.sub_self _)
  · have hv : i.val ≠ j.val := fun e => hij (Fin.ext e)
    rw [dif_neg (by omega), if_neg hij]

/-! The row maxima. -/

theorem rowmax3 (X : FVec Ideal S2x4x128 .f32) (b : Fin 2) (h : Fin 4) :
    Host.reduce FloatOps.maximumf X (constant S_ .f32 0xFF800000#32) reducesTo_S2x4x128_S2x4_d2 h_S_ (ix2 b h)
      = Finset.univ.fold max negInf fun s => (X (ix3 b h s) : EReal) := by
  pointwise []

theorem rowmax4 (X : FVec Ideal S2x4x128x128 .f32) (b : Fin 2) (h : Fin 4) (t : Fin 128) :
    Host.reduce FloatOps.maximumf X (constant S_ .f32 0xFF800000#32) reducesTo_S2x4x128x128_S2x4x128_d3 h_S_ (ix3 b h t)
      = Finset.univ.fold max negInf fun s => (X (ix4 b h t s) : EReal) := by
  pointwise []

/-- What head `h` of batch `b` reads of trip `j`'s chunk. -/
def chunk (V : Val) (j : Fin 64) (b : Fin 2) (h : Fin 4) : Chunk where
  q t d := vQ V (ix5 j b h t d)
  k t d := vK V (ix5 j b h t d)
  v t u := vV V (ix5 j b h t u)
  ig t := vI V (ix4 j b h t)
  lf t := vF V (ix4 j b h t)

/-- The state the loop carries for head `h` of batch `b`. -/
def st (V : Val) (b : Fin 2) (h : Fin 4) : St where
  C v d := vC V (ix4 b h v d)
  n d := vN V (ix3 b h d)
  m := vM V (ix2 b h)

variable (V : Val) (j : Fin 64) (h6 : V (Proc.devRef .tc main_v83_6) = constantI S_ 32 (BitVec.ofNat 32 j.val))
  (h5 : V (Proc.devRef .tc main_v83_5) = Step.K_main_v68 (F := Ideal))
  (b : Fin 2) (h : Fin 4) (t u : Fin 128) (d : Fin 64)

section
include h6

theorem q_at : (res_main_while0b_v113 V : FVec Ideal S2x4x128x64 .f32) (ix4 b h t d) = (chunk V j b h).q t d := by
  unfold res_main_while0b_v113
  rw [h6]
  exact slice_k (vQ V) j b h t d

theorem k_at : (res_main_while0b_v114 V : FVec Ideal S2x4x128x64 .f32) (ix4 b h t d) = (chunk V j b h).k t d := by
  unfold res_main_while0b_v114
  rw [h6]
  exact slice_k (vK V) j b h t d

theorem v_at : (res_main_while0b_v115 V : FVec Ideal S2x4x128x128 .f32) (ix4 b h t u) = (chunk V j b h).v t u := by
  unfold res_main_while0b_v115
  rw [h6]
  exact slice_v (vV V) j b h t u

theorem i_at : (res_main_while0b_v116 V : FVec Ideal S2x4x128 .f32) (ix3 b h t) = (chunk V j b h).ig t := by
  unfold res_main_while0b_v116
  rw [h6]
  exact slice_g (vI V) j b h t

theorem cum_at : (res_main_while0b_v118 V : FVec Ideal S2x4x128 .f32) (ix3 b h t) = cum (chunk V j b h).lf t := by
  unfold res_main_while0b_v118
  rw [h6]
  refine (cumsum_at _ _ ?_ b h t).trans (congrArg (fun f => cum f t) (funext fun s => slice_g (vF V) j b h s))
  exact Ideal.ofBits_zero_f32

theorem inter_at : (res_main_while0b_v130 V : FVec Ideal S2x4x128 .f32) (ix3 b h t) = inter (chunk V j b h) (st V b h) t := by
  pointwise [res_main_while0b_v130]
  rw [cum_at V j h6]
  rfl

theorem last_at : (res_main_while0b_v159 V : FVec Ideal S2x4 .f32) (ix2 b h) = last (chunk V j b h) := by
  pointwise [res_main_while0b_v159]
  rw [cum_at V j h6]
  rfl

theorem decay_at : (res_main_while0b_v163 V : FVec Ideal S2x4x128 .f32) (ix3 b h t) = decay (chunk V j b h) t := by
  pointwise [res_main_while0b_v163]
  rw [cum_at V j h6, last_at V j h6, i_at V j h6]
  rfl

theorem mnew_at : (res_main_while0b_v166 V : FVec Ideal S2x4 .f32) (ix2 b h) = mnew (chunk V j b h) (st V b h) := by
  unfold res_main_while0b_v166
  refine (congrArg₂ (max : EReal → EReal → EReal) (congrArg (fun z : EReal => z + vM V (ix2 b h)) (last_at V j h6 b h)) (rowmax3 (res_main_while0b_v163 V) b h)).trans ?_
  simp only [decay_at V j h6]
  rfl

theorem wst_at : (res_main_while0b_v170 V : FVec Ideal S2x4x128 .f32) (ix3 b h t) = wst (chunk V j b h) (st V b h) t := by
  pointwise [res_main_while0b_v170]
  rw [decay_at V j h6, mnew_at V j h6]
  rfl

theorem carry_at : (res_main_while0b_v173 V : FVec Ideal S2x4 .f32) (ix2 b h) = carry (chunk V j b h) (st V b h) := by
  pointwise [res_main_while0b_v173]
  rw [last_at V j h6, mnew_at V j h6]
  rfl

theorem stepC : (step_main_v83_7 V : FVec Ideal S2x4x128x64 .f32) (ix4 b h u d) = (next (chunk V j b h) (st V b h)).C u d := by
  pointwise [step_main_v83_7, id]
  simp only [carry_at V j h6, wst_at V j h6, v_at V j h6, k_at V j h6]
  rfl

theorem stepN : (step_main_v83_8 V : FVec Ideal S2x4x64 .f32) (ix3 b h d) = (next (chunk V j b h) (st V b h)).n d := by
  pointwise [step_main_v83_8, id]
  simp only [carry_at V j h6, wst_at V j h6, k_at V j h6]
  rfl

theorem stepM : (step_main_v83_9 V : FVec Ideal S2x4 .f32) (ix2 b h) = (next (chunk V j b h) (st V b h)).m := by
  unfold step_main_v83_9
  exact mnew_at V j h6 b h

include h5

theorem dlog_at : (res_main_while0b_v127 V : FVec Ideal S2x4x128x128 .f32) (ix4 b h t u) = dlog (chunk V j b h) t u := by
  pointwise [res_main_while0b_v127, h5, id]
  rw [cum_at V j h6, cum_at V j h6, i_at V j h6, mask_at]
  unfold dlog
  split <;> rfl

theorem mrow_at : (res_main_while0b_v132 V : FVec Ideal S2x4x128 .f32) (ix3 b h t) = mrow (chunk V j b h) (st V b h) t := by
  unfold res_main_while0b_v132
  refine (congrArg₂ (max : EReal → EReal → EReal) (inter_at V j h6 b h t) (rowmax4 (res_main_while0b_v127 V) b h t)).trans ?_
  simp only [dlog_at V j h6 h5]
  rfl

theorem wint_at : (res_main_while0b_v138 V : FVec Ideal S2x4x128 .f32) (ix3 b h t) = wint (chunk V j b h) (st V b h) t := by
  pointwise [res_main_while0b_v138]
  rw [inter_at V j h6, mrow_at V j h6 h5]
  rfl

theorem score_at :
    (res_main_while0b_v140 V : FVec Ideal S2x4x128x128 .f32) (ix4 b h t u) = score (chunk V j b h) (st V b h) t u := by
  pointwise [res_main_while0b_v140]
  simp only [dlog_at V j h6 h5, mrow_at V j h6 h5, q_at V j h6, k_at V j h6]
  rfl

theorem stepH (i : Fin 64) :
    (step_main_v83_10 V : FVec Ideal S64x2x4x128x128 .f32) (ix5 i b h t u)
      = if i = j then hout (chunk V j b h) (st V b h) t u else vH V (ix5 i b h t u) := by
  unfold step_main_v83_10
  rw [h6]
  refine (put_at (vH V) _ i j b h t u).trans ?_
  congr 1
  pointwise []
  simp only [score_at V j h6 h5, wint_at V j h6 h5, mrow_at V j h6 h5, q_at V j h6, v_at V j h6]
  refine congrArg₂ Ideal.div rfl (congrArg₂ max (congrArg _ (congrArg₂ (· + ·) rfl (congrArg _ ?_))) rfl)
  exact Finset.sum_congr rfl fun x _ => mul_comm _ _
end

end Cert.ReferenceIdeal.Loop
end
-- ==== Proof.RefValue.lean ====
module
public import proofs.«01_k».proof.Proof.RefLoop

@[expose] public section
set_option maxRecDepth 16384
noncomputable section

namespace Cert.ReferenceIdeal.Loop

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step Cert.Mlstm

variable (a0 a1 a2 : FVec Ideal S16384x512 .bf16) (a3 : FVec Ideal S16384x128 .f32) (a4 : FVec Ideal S4x512 .f32)
  (a5 a6 : FVec Ideal S1x512 .f32)
  (j : Fin 64) (b : Fin 2) (h : Fin 4) (t v : Fin 128) (r : Fin 8192) (u : Fin 512) (d : Fin 64)

theorem pad_at (r : Fin 8195) :
    (A_main_v7 (F := Ideal) a0 a1 a3 a4 a5 (ix3 b r u) : EReal) = if 3 ≤ r.val then rowOf a0 b (r.val - 3) u else 0 := by
  pointwise [A_main_v7, A_main_v0, A_main_v1, K_main_call0_v0, K_main_c]
  have hr := r.isLt
  by_cases h3 : 3 ≤ r.val
  · rw [dif_pos ⟨by omega, by omega⟩, if_pos h3, rowOf_lt _ _ _ (by omega)]
  · rw [dif_neg (by omega), if_neg h3]
    show (((0#32 : BitVec 32).toInt : ℝ) : EReal) = 0
    simp

theorem conv_at : (A_main_v37 (F := Ideal) a0 a1 a3 a4 a5 (ix3 b r u) : EReal)
    = conv (fun q => rowOf a0 b q u) (fun i => a4 (ix2 i u)) (a5 (ix2 0 u)) r.val := by
  pointwise [A_main_v8, A_main_v9, A_main_v10, A_main_v11, A_main_v12, A_main_v13, A_main_v14, A_main_v15, A_main_v16, A_main_v17,
    A_main_v18, A_main_v19, A_main_v20, A_main_v21, A_main_v22, A_main_v23, A_main_v24, A_main_v25, A_main_v26, A_main_v27,
    A_main_v28, A_main_v29, A_main_v30, A_main_v31, A_main_v32, A_main_v33, A_main_v34, A_main_v35, A_main_v36, A_main_v37, A_main_v6]
  rw [pad_at, pad_at, pad_at, pad_at]
  unfold conv
  have e1 : (3 ≤ 1 + r.val) = (2 ≤ r.val) := propext (by omega)
  have e2 : (3 ≤ 2 + r.val) = (1 ≤ r.val) := propext (by omega)
  have f1 : 1 + r.val - 3 = r.val - 2 := by omega
  have f2 : 2 + r.val - 3 = r.val - 1 := by omega
  have f3 : 3 + r.val - 3 = r.val := by omega
  have e3 : 3 ≤ 3 + r.val := by omega
  simp only [e1, e2, f1, f2, f3, if_pos e3]

theorem act_at : (A_main_v38 (F := Ideal) a0 a1 a3 a4 a5 (ix3 b r u) : EReal)
    = act (argsOf a0 a1 a2 a3 a4 a5 a6) b r.val u := by
  pointwise [A_main_v38, A_main_call1_v0, A_main_call1_v1, A_main_call1_v3, A_main_call1_v5, K_main_call1_v2, K_main_call1_v4,
    K_main_call1_cst, K_main_call1_cst_0]
  rw [conv_at]
  rfl

theorem logsig_at : (A_main_v66 (F := Ideal) a0 a1 a3 a4 a5 (ix3 b h r) : EReal)
    = logsig (rowOf a3 b r.val ⟨4 + h.val, by omega⟩) := by
  pointwise [A_main_v4, A_main_v5, A_main_v41, A_main_v49, A_main_v52, A_main_v54, A_main_v56, A_main_v57, A_main_v59,
    A_main_v60, A_main_v61, A_main_v62, A_main_v63, A_main_v64, A_main_v65, A_main_v66, K_main_v53, K_main_v55, K_main_v58, K_main_cst_0]
  rw [if_neg (fun hne => hne rfl), rowOf_lt _ _ _ r.isLt]
  rfl

theorem chunk0_at (V : Val) (hq : vQ V = A_main_v73 (F := Ideal) a0 a1 a3 a4 a5) (hk : vK V = A_main_v75 (F := Ideal) a0 a1 a3 a4 a5)
    (hv : vV V = A_main_v77 (F := Ideal) a0 a1 a3 a4 a5) (hi : vI V = A_main_v79 (F := Ideal) a0 a1 a3 a4 a5) (hf : vF V = A_main_v81 (F := Ideal) a0 a1 a3 a4 a5) :
    chunk V j b h = chunkOf (argsOf a0 a1 a2 a3 a4 a5 a6) b h j.val := by
  unfold chunk chunkOf
  rw [hq, hk, hv, hi, hf]
  congr 1
  · funext t d
    pointwise [A_main_v73, A_main_v72, A_main_v51, A_main_v43, A_main_v42, A_main_v39, K_main_v50, K_main_cst]
    rw [act_at a0 a1 a2 a3 a4 a5 a6]
  · funext t d
    pointwise [A_main_v75, A_main_v74, A_main_v45, A_main_v44, A_main_v40]
    rw [act_at a0 a1 a2 a3 a4 a5 a6]
    congr 1
    exact Fin.ext (Nat.add_assoc _ _ _).symm
  · funext t d
    pointwise [A_main_v77, A_main_v76, A_main_v47, A_main_v46, A_main_v3, A_main_v2]
    exact (rowOf_lt a1 b _ (by omega) _).symm
  · funext t
    pointwise [A_main_v79, A_main_v78, A_main_v48, A_main_v41, A_main_v5, A_main_v4]
    exact (rowOf_lt a3 b _ (by omega) _).symm
  · funext t
    pointwise [A_main_v81, A_main_v80]
    rw [logsig_at]
    rfl

theorem out_at (V : Val) (h2 : V (Proc.devRef .tc main_arg2) = a2) (h6 : V (Proc.devRef .tc main_arg6) = a6) :
    (out_main_v112 V : FVec Ideal S16384x512 .bf16) (ix2 ⟨b.val * 8192 + (j.val * 128 + t.val), by omega⟩ ⟨h.val * 128 + v.val, by omega⟩)
      = gated (fun x => vH V (ix5 j b h t x)) (fun x => a6 (ix2 0 ⟨h.val * 128 + x.val, by omega⟩))
          (fun x => a2 (ix2 ⟨b.val * 8192 + (j.val * 128 + t.val), by omega⟩ ⟨h.val * 128 + x.val, by omega⟩)) v := by
  unfold out_main_v112
  rw [h2, h6]
  pointwise []
  have e : (⟨b.val * 8192 + (b.val * 8192 + (j.val * 128 + t.val)) % 8192, by omega⟩ : Fin 16384)
      = ⟨b.val * 8192 + (j.val * 128 + t.val), by omega⟩ := by simp only [Fin.mk.injEq]; omega
  rw [e]
  rfl

section entry
variable (m : (ℓ : Loc nD τ sig) → Buf (Elt Ideal) ℓ) (c : Dev nD)

/-- What the loop starts from. -/
abbrev start : Val := entryContents preI m c

set_option maxRecDepth 65536 in
set_option maxHeartbeats 1000000 in
theorem start_q : vQ (start m c) = A_main_v73 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  simp only [start, vQ, vK, vV, vI, vF, vC, vN, vM, vH, entryContents, afterL_cons, afterL_nil]
  after_reads_simp
  rfl

set_option maxRecDepth 65536 in
set_option maxHeartbeats 1000000 in
theorem start_k : vK (start m c) = A_main_v75 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  simp only [start, vQ, vK, vV, vI, vF, vC, vN, vM, vH, entryContents, afterL_cons, afterL_nil]
  after_reads_simp
  rfl

set_option maxRecDepth 65536 in
set_option maxHeartbeats 1000000 in
theorem start_v : vV (start m c) = A_main_v77 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  simp only [start, vQ, vK, vV, vI, vF, vC, vN, vM, vH, entryContents, afterL_cons, afterL_nil]
  after_reads_simp
  rfl

set_option maxRecDepth 65536 in
set_option maxHeartbeats 1000000 in
theorem start_i : vI (start m c) = A_main_v79 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  simp only [start, vQ, vK, vV, vI, vF, vC, vN, vM, vH, entryContents, afterL_cons, afterL_nil]
  after_reads_simp
  rfl

set_option maxRecDepth 65536 in
set_option maxHeartbeats 1000000 in
theorem start_f : vF (start m c) = A_main_v81 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  simp only [start, vQ, vK, vV, vI, vF, vC, vN, vM, vH, entryContents, afterL_cons, afterL_nil]
  after_reads_simp
  rfl

set_option maxRecDepth 65536 in
set_option maxHeartbeats 1000000 in
theorem start_5 : start m c (Proc.devRef .tc main_v83_5) = K_main_v68 (F := Ideal) := by
  simp only [start, vQ, vK, vV, vI, vF, vC, vN, vM, vH, entryContents, afterL_cons, afterL_nil]
  after_reads_simp
  rfl

set_option maxRecDepth 65536 in
set_option maxHeartbeats 1000000 in
theorem start_6 : start m c (Proc.devRef .tc main_v83_6) = constantI S_ 32 (BitVec.ofNat 32 0) := by
  simp only [start, vQ, vK, vV, vI, vF, vC, vN, vM, vH, entryContents, afterL_cons, afterL_nil]
  after_reads_simp
  rfl

set_option maxRecDepth 65536 in
set_option maxHeartbeats 1000000 in
theorem start_C : vC (start m c) = K_main_v69 (F := Ideal) := by
  simp only [start, vQ, vK, vV, vI, vF, vC, vN, vM, vH, entryContents, afterL_cons, afterL_nil]
  after_reads_simp
  rfl

set_option maxRecDepth 65536 in
set_option maxHeartbeats 1000000 in
theorem start_N : vN (start m c) = K_main_v70 (F := Ideal) := by
  simp only [start, vQ, vK, vV, vI, vF, vC, vN, vM, vH, entryContents, afterL_cons, afterL_nil]
  after_reads_simp
  rfl

set_option maxRecDepth 65536 in
set_option maxHeartbeats 1000000 in
theorem start_M : vM (start m c) = K_main_v71 (F := Ideal) := by
  simp only [start, vQ, vK, vV, vI, vF, vC, vN, vM, vH, entryContents, afterL_cons, afterL_nil]
  after_reads_simp
  rfl

/-- The program's arguments, by batch and row. -/
abbrev argsR : Args := argsOf (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6))

theorem start_st (b : Fin 2) (h : Fin 4) : st (start m c) b h = ⟨fun _ _ => 0, fun _ => 0, 0⟩ := by
  unfold st
  rw [start_C, start_N, start_M]
  congr 1
  · funext v d
    pointwise [K_main_v69, K_main_cst_2]
  · funext d
    pointwise [K_main_v70, K_main_cst_3]
  · pointwise [K_main_v71, K_main_cst_4]

theorem step_count (V : Val) (k : ℕ) (h6 : V (Proc.devRef .tc main_v83_6) = constantI S_ 32 (BitVec.ofNat 32 k)) :
    step_main_v83_6 V = constantI S_ 32 (BitVec.ofNat 32 (k + 1)) := by
  unfold step_main_v83_6
  rw [h6]
  funext i
  show BitVec.ofNat 32 k + 1#32 = BitVec.ofNat 32 (k + 1)
  simp only [BitVec.ofNat_add]

/-- The loop before trip `k`: the inputs as at the start, the counter at `k`, the mask, the state after `k` chunks, and
the outputs of the trips done. -/
structure Inv (V : Val) (k : ℕ) : Prop where
  hq : vQ V = vQ (start m c)
  hk : vK V = vK (start m c)
  hv : vV V = vV (start m c)
  hi : vI V = vI (start m c)
  hf : vF V = vF (start m c)
  mask : V (Proc.devRef .tc main_v83_5) = K_main_v68 (F := Ideal)
  count : V (Proc.devRef .tc main_v83_6) = constantI S_ 32 (BitVec.ofNat 32 k)
  hst : ∀ b h, st V b h = state (chunkOf (argsR m c) b h) k
  out : ∀ (i : Fin 64) b h t u, i.val < k → vH V (ix5 i b h t u)
    = hout (chunkOf (argsR m c) b h i.val) (state (chunkOf (argsR m c) b h) i.val) t u

theorem chunk_inv (V : Val) (k : ℕ) (I : Inv m c V k) (j : Fin 64) (b : Fin 2) (h : Fin 4) :
    chunk V j b h = chunkOf (argsR m c) b h j.val :=
  chunk0_at _ _ _ _ _ _ _ j b h V (I.hq.trans (start_q m c)) (I.hk.trans (start_k m c)) (I.hv.trans (start_v m c))
    (I.hi.trans (start_i m c)) (I.hf.trans (start_f m c))

theorem inv_step (V : Val) (k : ℕ) (hk : k < 64) (I : Inv m c V k) : Inv m c (STEP V) (k + 1) where
  hq := (STEP_main_v83_0 V).trans I.hq
  hk := (STEP_main_v83_1 V).trans I.hk
  hv := (STEP_main_v83_2 V).trans I.hv
  hi := (STEP_main_v83_3 V).trans I.hi
  hf := (STEP_main_v83_4 V).trans I.hf
  mask := (STEP_main_v83_5 V).trans I.mask
  count := (STEP_main_v83_6 V).trans (step_count V k I.count)
  hst b h := by
    show _ = next _ _
    rw [← I.hst b h, ← chunk_inv m c V k I ⟨k, hk⟩ b h]
    unfold Loop.st
    congr 1
    · funext u d
      exact (congrFun (STEP_main_v83_7 V) _).trans (stepC V ⟨k, hk⟩ I.count b h u d)
    · funext d
      exact (congrFun (STEP_main_v83_8 V) _).trans (stepN V ⟨k, hk⟩ I.count b h d)
    · exact (congrFun (STEP_main_v83_9 V) _).trans (stepM V ⟨k, hk⟩ I.count b h)
  out i b h t u hi := by
    refine (congrFun (STEP_main_v83_10 V) _).trans ((stepH V ⟨k, hk⟩ I.count I.mask b h t u i).trans ?_)
    by_cases e : i.val = k
    · rw [if_pos (Fin.ext e), chunk_inv m c V k I ⟨k, hk⟩ b h, I.hst b h, e]
    · rw [if_neg (fun e' => e (congrArg Fin.val e'))]
      exact I.out i b h t u (by omega)

theorem inv_iter : ∀ k ≤ 64, Inv m c (STEP^[k] (start m c)) k
  | 0, _ => ⟨rfl, rfl, rfl, rfl, rfl, start_5 m c, start_6 m c, fun b h => start_st m c b h, fun _ _ _ _ _ h => absurd h (by omega)⟩
  | k + 1, hk => by
    rw [Function.iterate_succ_apply']
    exact inv_step m c _ k (by omega) (inv_iter k (by omega))

/-- The reference's result at head `h`, row `t` of chunk `j` of batch `b`. -/
theorem result_at (j : Fin 64) (b : Fin 2) (h : Fin 4) (t v : Fin 128) :
    (out_main_v112 (STEP^[64] (start m c)) : FVec Ideal S16384x512 .bf16)
      (ix2 ⟨b.val * 8192 + (j.val * 128 + t.val), by omega⟩ ⟨h.val * 128 + v.val, by omega⟩)
      = result (argsR m c) b h j.val t v := by
  generalize hV : STEP^[64] (start m c) = V
  refine (out_at _ _ j b h t v V (hV ▸ iter_main_arg2 m c 64) (hV ▸ iter_main_arg6 m c 64)).trans ?_
  unfold result
  congr 1
  · funext x
    exact (hV ▸ inv_iter m c 64 le_rfl : Inv m c V 64).out j b h t x j.isLt
  · funext x
    exact (rowOf_lt (φ := .bf16) (m ((c.tc : Thread nD τ).loc main_arg2)) b _ (by omega) _).symm
end entry

end Cert.ReferenceIdeal.Loop
end
-- ==== Proof.Head.lean ====
module
public import proofs.«01_k».proof.Proof.Gen.KernelIdeal.Value
public import Idealize.ShloMosaic.Lib.Pointwise
public import proofs.«01_k».proof.Proof.Spec

@[expose] public section
set_option maxRecDepth 16384
noncomputable section

namespace Cert.KernelIdeal.Head

open Idealize.ShloMosaic Idealize.ShloMosaic.TcCoe Idealize.SL.Sem
open Cert.KernelIdeal Cert.KernelIdeal.Gen Cert.Mlstm

/-- A sum whose terms vanish off the image of an injective map is the sum over the map's source. -/
theorem sum_off (off : Fin 64 → Fin 128) (inj : Function.Injective off) (f : Fin 128 → EReal)
    (h : ∀ x, x ∉ Set.range off → f x = 0) : ∑ x, f x = ∑ d, f (off d) :=
  (Fintype.sum_of_injective off inj (fun d => f (off d)) f h fun _ => rfl).symm

/-- A choice by the signed comparison of two small numbers is the choice by their order. -/
theorem select_sle {α : Type} (s t : Fin 128) (a b : α) :
    Scalar.select (IntOp.cmpi .sle (BitVec.ofNat 32 s.val) (BitVec.ofNat 32 t.val)) a b = if s ≤ t then a else b := by
  have ht := t.isLt
  have hs := s.isLt
  have e1 : (BitVec.ofNat 32 t.val).toInt = t.val := by
    rw [BitVec.toInt_eq_toNat_of_lt] <;> simp only [BitVec.toNat_ofNat] <;> omega
  have e2 : (BitVec.ofNat 32 s.val).toInt = s.val := by
    rw [BitVec.toInt_eq_toNat_of_lt] <;> simp only [BitVec.toNat_ofNat] <;> omega
  simp only [IntOp.cmpi, BitVec.sle, e1, e2, Scalar.select, Fin.le_def, Nat.cast_le]
  by_cases hle : s.val ≤ t.val <;> simp [hle]

/-- What one head of one chunk reads: the masked queries and keys with the head's columns at `off`, the values beside a
column of ones, the gates and running sums as columns and rows, and the state. -/
structure Reads (off : Fin 64 → Fin 128) (X : Chunk) (σ : St) (q k : FVec Ideal S128x128 .bf16) (va : FVec Ideal S128x256 .bf16)
    (ic bc : FVec Ideal S128x1 .f32) (ir br : FVec Ideal S1x128 .f32) (m : Vec Ideal S1x1 .f32) (st : Vec Ideal S1x128x256 .f32) : Prop where
  inj : Function.Injective off
  q_on : ∀ t d, (q (ix2 t (off d)) : EReal) = X.q t d
  q_off : ∀ t x, x ∉ Set.range off → (q (ix2 t x) : EReal) = 0
  k_on : ∀ s d, (k (ix2 (off d) s) : EReal) = X.k s d
  va_v : ∀ (s v : Fin 128), (va (ix2 s ⟨v.val, by omega⟩) : EReal) = X.v s v
  va_1 : ∀ s : Fin 128, (va (ix2 s 128) : EReal) = 1
  ic_at : ∀ s, (ic (ix2 s 0) : EReal) = X.ig s
  bc_at : ∀ s, (bc (ix2 s 0) : EReal) = cum X.lf s
  ir_at : ∀ s, (ir (ix2 0 s) : EReal) = X.ig s
  br_at : ∀ s, (br (ix2 0 s) : EReal) = cum X.lf s
  m_at : (m (ix2 0 0) : EReal) = σ.m
  st_v : ∀ (v : Fin 128) d, (st (ix3 0 (off d) ⟨v.val, by omega⟩) : EReal) = σ.C v d
  st_1 : ∀ d, (st (ix3 0 (off d) 128) : EReal) = σ.n d

variable {off : Fin 64 → Fin 128} {X : Chunk} {σ : St} {q k : FVec Ideal S128x128 .bf16} {va : FVec Ideal S128x256 .bf16}
  {ic bc : FVec Ideal S128x1 .f32} {ir br : FVec Ideal S1x128 .f32} {m : Vec Ideal S1x1 .f32} {st : Vec Ideal S1x128x256 .f32}
  (H : Reads off X σ q k va ic bc ir br m st) (t v : Fin 128) (d : Fin 64)
include H

theorem score_sum (s : Fin 128) : (∑ x, (q (ix2 t x) : EReal) * k (ix2 x s)) = ∑ d, X.q t d * X.k s d := by
  rw [sum_off off H.inj _ fun x hx => by rw [H.q_off t x hx, zero_mul]]
  simp only [H.q_on, H.k_on]

theorem state_sum (v : Fin 128) : (∑ x, (q (ix2 t x) : EReal) * st (ix3 0 x ⟨v.val, by omega⟩)) = ∑ d, X.q t d * σ.C v d := by
  rw [sum_off off H.inj _ fun x hx => by rw [H.q_off t x hx, zero_mul]]
  simp only [H.q_on, H.st_v]

theorem norm_sum : (∑ x, (q (ix2 t x) : EReal) * st (ix3 0 x 128)) = ∑ d, X.q t d * σ.n d := by
  rw [sum_off off H.inj _ fun x hx => by rw [H.q_off t x hx, zero_mul]]
  simp only [H.q_on, H.st_1]

/-- The head's hidden output. -/
theorem hidden_at : (k0_pay26 (F := Ideal) k0_pay10 q k va bc ir br m (broadcastTo S128x128 bc broadcasts_S128x1_S128x128) st (ix2 t v) : EReal)
    = hout X σ t v := by
  pointwise [k0_pay26, k0_pay25, k0_pay10]
  simp only [score_sum H, state_sum H, norm_sum H, H.va_v, H.va_1, H.ir_at, H.br_at, H.bc_at, H.m_at, zero_sub, mul_one, select_sle]
  rfl

/-- The stabilizer after the chunk. -/
theorem mnew_at : (k0_pay29 (F := Ideal) ic bc m (ix2 0 0) : EReal) = mnew X σ := by
  pointwise [k0_pay29, k0_pay28, k0_pay27]
  simp only [H.ic_at, H.bc_at, H.m_at]
  rfl

theorem next_C : (k0_pay32 (F := Ideal) k va (k0_pay25 st) (k0_pay30 ic bc m) (k0_pay31 ic bc m) (ix3 0 (off d) ⟨v.val, by omega⟩) : EReal)
    = (next X σ).C v d := by
  pointwise [k0_pay32, k0_pay25, k0_pay30, k0_pay31, k0_pay28, k0_pay27, k0_pay29]
  simp only [H.ic_at, H.bc_at, H.m_at, H.st_v, H.k_on, H.va_v]
  exact congrArg₂ (· + ·) rfl (Finset.sum_congr rfl fun x _ => (mul_comm _ _).trans (mul_assoc _ _ _))

theorem next_n : (k0_pay32 (F := Ideal) k va (k0_pay25 st) (k0_pay30 ic bc m) (k0_pay31 ic bc m) (ix3 0 (off d) 128) : EReal)
    = (next X σ).n d := by
  pointwise [k0_pay32, k0_pay25, k0_pay30, k0_pay31, k0_pay28, k0_pay27, k0_pay29]
  simp only [H.ic_at, H.bc_at, H.m_at, H.st_1, H.k_on, H.va_1]
  exact congrArg₂ (· + ·) rfl (Finset.sum_congr rfl fun x _ => (congrArg _ (one_mul _)).trans (mul_comm _ _))

/-- The head's gated output. -/
theorem gated_at (o : Vec Ideal S128x128 .bf16) (g : Vec Ideal S1x128 .f32) :
    (k0_pay34 (F := Ideal) (k0_pay26 k0_pay10 q k va bc ir br m (broadcastTo S128x128 bc broadcasts_S128x1_S128x128) st) o g (ix2 t v) : EReal)
    = gated (hout X σ t) (fun x => g (ix2 0 x)) (fun x => o (ix2 t x)) v := by
  pointwise [k0_pay34]
  simp only [hidden_at H, zero_sub]
  rfl

end Cert.KernelIdeal.Head
end
-- ==== Proof.HeadReads.lean ====
module
public import proofs.«01_k».proof.Proof.Head

@[expose] public section
set_option maxRecDepth 16384
noncomputable section

namespace Cert.KernelIdeal.Head

open Idealize.ShloMosaic Idealize.ShloMosaic.TcCoe Idealize.SL.Sem
open Cert.KernelIdeal Cert.KernelIdeal.Gen Cert.Mlstm

/-- A choice by two signed comparisons of a small number against literals is the choice by membership in the range. -/
theorem select_band {α : Type} (x : Fin 128) (lo hi : ℕ) (hl : lo ≤ 128) (hh : hi ≤ 128) (a b : α) :
    Scalar.select (IntOp.andi (IntOp.cmpi .sge (BitVec.ofNat 32 x.val) (BitVec.ofNat 32 lo))
      (IntOp.cmpi .slt (BitVec.ofNat 32 x.val) (BitVec.ofNat 32 hi))) a b = if lo ≤ x.val ∧ x.val < hi then a else b := by
  have hx := x.isLt
  have e (n : ℕ) (hn : n ≤ 128) : (BitVec.ofNat 32 n).toInt = n := by
    rw [BitVec.toInt_eq_toNat_of_lt] <;> simp only [BitVec.toNat_ofNat] <;> omega
  simp only [IntOp.cmpi, IntOp.andi, BitVec.sle, BitVec.slt, e _ hl, e _ hh, e _ hx.le, Scalar.select, Nat.cast_le, Nat.cast_lt]
  by_cases h1 : lo ≤ x.val <;> by_cases h2 : x.val < hi <;> simp [h1, h2]

/-- A comparison of a row number with four. -/
theorem select_lt4 {α : Type} (r : Fin 8) (a b : α) :
    Scalar.select (IntOp.cmpi .slt (BitVec.ofNat 32 r.val) 4#32) a b = if r.val < 4 then a else b := by
  have h : ∀ r : Fin 8, IntOp.cmpi .slt (BitVec.ofNat 32 r.val) 4#32 = if r.val < 4 then 1#1 else 0#1 := by decide
  rw [h]
  split <;> rfl
theorem select_ge4 {α : Type} (r : Fin 8) (a b : α) :
    Scalar.select (IntOp.cmpi .sge (BitVec.ofNat 32 r.val) 4#32) a b = if 4 ≤ r.val then a else b := by
  have h : ∀ r : Fin 8, IntOp.cmpi .sge (BitVec.ofNat 32 r.val) 4#32 = if 4 ≤ r.val then 1#1 else 0#1 := by decide
  rw [h]
  split <;> rfl

/-- The word of a comparison of two small numbers, converted, is one or zero by their order. -/
theorem order_word (x s : Fin 128) :
    (FloatOps.sitofp (F := Ideal) FTy.f32 (BitVec.setWidth 32 (IntOp.cmpi CmpIPredicate.sle (BitVec.ofNat 32 x.val) (BitVec.ofNat 32 s.val))) : EReal)
      = if x ≤ s then 1 else 0 := by
  have e := select_sle x s (1#1 : BitVec 1) 0#1
  have h : ∀ w : BitVec 1, Scalar.select w (1#1 : BitVec 1) 0#1 = w := by decide
  rw [h] at e
  rw [e]
  by_cases hle : x ≤ s
  · rw [if_pos hle, if_pos hle]
    show (((BitVec.setWidth 32 1#1).toInt : ℝ) : EReal) = 1
    simp
  · rw [if_neg hle, if_neg hle]
    show (((BitVec.setWidth 32 0#1).toInt : ℝ) : EReal) = 0
    simp

theorem absf_neg (x : EReal) : FloatOps.absf (F := Ideal) (φ := .f32) (-x) = FloatOps.absf (F := Ideal) (φ := .f32) x := by
  show max (-x) (- -x) = max x (-x)
  rw [neg_neg, max_comm]

variable (g : Vec Ideal S128x128 .f32)

theorem rows_hi (r : Fin 8) (hr : 4 ≤ r.val) (s : Fin 128) :
    (k0_pay11 (F := Ideal) g (ix2 r s) : EReal) = cum (fun x => logsig (g (ix2 x ⟨r.val, by omega⟩))) s := by
  pointwise [k0_pay11]
  simp only [select_lt4, select_ge4, order_word, if_pos hr, if_neg (show ¬r.val < 4 by omega), zero_sub]
  unfold cum logsig
  refine Finset.sum_congr rfl fun x _ => ?_
  by_cases hle : x ≤ s
  · rw [if_pos hle, if_pos hle, mul_one]
    exact congrArg (fun z : EReal => -(max (-g (ix2 x ⟨r.val, by omega⟩)) 0 + Ideal.log1p (Ideal.exp (-z)))) (absf_neg (g (ix2 x ⟨r.val, by omega⟩))).symm
  · rw [if_neg hle, if_neg hle, mul_zero]

theorem rows_lo (r : Fin 8) (hr : r.val < 4) (s : Fin 128) :
    (k0_pay11 (F := Ideal) g (ix2 r s) : EReal) = g (ix2 s ⟨r.val, by omega⟩) := by
  pointwise [k0_pay11]
  simp only [select_lt4, if_pos hr]

theorem cols_at (r : Fin 8) (s : Fin 128) :
    (k0_pay12 (F := Ideal) g (ix2 s ⟨r.val, by omega⟩) : EReal) = k0_pay11 (F := Ideal) g (ix2 r s) := by
  unfold k0_pay12
  generalize k0_pay11 (F := Ideal) g = R
  pointwise []

/-- The head's columns: 64 from `o` on. -/
def col (o : ℕ) (ho : o + 64 ≤ 128) (d : Fin 64) : Fin 128 := ⟨o + d.val, by omega⟩

theorem col_inj (o : ℕ) (ho : o + 64 ≤ 128) : Function.Injective (col o ho) := fun a b e => by
  have := congrArg Fin.val e
  unfold col at this
  exact Fin.ext (by simp only at this; omega)

theorem not_band (o hi : ℕ) (ho : o + 64 ≤ 128) (hh : hi = o + 64) (x : Fin 128) (hx : x ∉ Set.range (col o ho)) : ¬(o ≤ x.val ∧ x.val < hi) :=
  fun h => hx ⟨⟨x.val - o, by omega⟩, Fin.ext (by show o + (x.val - o) = x.val; omega)⟩

theorem in_band (o hi : ℕ) (ho : o + 64 ≤ 128) (hh : hi = o + 64) (d : Fin 64) : o ≤ (col o ho d).val ∧ (col o ho d).val < hi := by
  have := d.isLt
  show o ≤ o + d.val ∧ o + d.val < hi
  omega

theorem at2 {n k : ℕ} {α : Type} (Y : (⟨2, ![n, k]⟩ : Shape).Idx → α) (t : Fin n) {u w : Fin k} (e : u.val = w.val) : Y (ix2 t u) = Y (ix2 t w) := by
  rw [Fin.ext e]

/-- What head `h` reads of a chunk whose gated convolution is `Y`, values `x1`, gates `g`. -/
def blockChunk (Y : FVec Ideal S128x512 .f32) (x1 : Vec Ideal S128x512 .bf16) (g : Vec Ideal S128x128 .f32) (h : Fin 4) : Chunk where
  q t d := Y (ix2 t ⟨h.val * 64 + d.val, by omega⟩) * Ideal.ofBits FTy.f32 1040187392#32
  k t d := Y (ix2 t ⟨256 + h.val * 64 + d.val, by omega⟩)
  v t u := x1 (ix2 t ⟨h.val * 128 + u.val, by omega⟩)
  ig t := g (ix2 t ⟨h.val, by omega⟩)
  lf t := logsig (g (ix2 t ⟨4 + h.val, by omega⟩))

/-- The first of the head's columns within its pair. -/
def base (h : Fin 4) : ℕ := h.val % 2 * 64
theorem base_le (h : Fin 4) : base h + 64 ≤ 128 := by unfold base; omega

/-- Head `h`'s state in the two scratch buffers. -/
def blockState (s0 : Vec Ideal S4x128x256 .f32) (s1 : Vec Ideal S8x128 .f32) (h : Fin 4) : St where
  C v d := s0 (ix3 h (col (base h) (base_le h) d) ⟨v.val, by omega⟩)
  n d := s0 (ix3 h (col (base h) (base_le h) d) 128)
  m := s1 (ix2 ⟨h.val, by omega⟩ 0)

variable (Y6 Y8 Y : FVec Ideal S128x512 .f32) (one : Ideal .f32) (hY : k0_pay9 Y6 Y8 one = Y) (x1 x2 : Vec Ideal S128x512 .bf16)
  (x6 : Vec Ideal S1x512 .f32) (s0 : Vec Ideal S4x128x256 .f32) (s1 : Vec Ideal S8x128 .f32) (t v : Fin 128) (d : Fin 64)

/-- The lane numbers and the row numbers. -/
abbrev lanes : IVec S128x128 32 := iota Kind.tc S128x128 32 [1] iota_S128x128_d1_w32
abbrev rowsI : IVec S128x128 32 := iota Kind.tc S128x128 32 [0] iota_S128x128_d0_w32

include hY in
/-- What head 0 reads of a chunk. -/
theorem reads0 : Reads (col 0 (by decide)) (blockChunk Y x1 g 0) (blockState s0 s1 0) (k0_pay17 Y lanes) (k0_pay18 rowsI (k0_pay13 Y6 Y8 one)) (k0_pay19 lanes (View.ld x1 (Rect.unit ![0, 0] ![128, 128] inb_S128x512_S128x128_0_0)))
    (k0_pay20 (k0_pay12 g)) (k0_pay21 (k0_pay12 g)) (k0_pay22 (k0_pay11 g)) (k0_pay23 (k0_pay11 g)) (View.ld s1 (Rect.unit ![0, 0] ![1, 1] inb_S8x128_S1x1_0_0)) (View.ld s0 (Rect.unit ![0, 0, 0] ![1, 128, 256] inb_S4x128x256_S1x128x256_0_0_0)) where
  inj := col_inj _ _
  q_on t d := by
    pointwise [k0_pay17]
    rw [select_band _ 0 64 (by decide) (by decide), if_pos (in_band 0 64 (by decide) (by decide) d)]
    exact congrArg (fun z : EReal => z * _) (at2 Y t (by show (0 + d.val) = 0 * 64 + d.val; omega))
  q_off t x hx := by
    pointwise [k0_pay17]
    rw [select_band _ 0 64 (by decide) (by decide), if_neg (not_band 0 64 (by decide) (by decide) x hx)]
  k_on s d := by
    unfold k0_pay13
    rw [hY]
    pointwise [k0_pay18]
    rw [select_band _ 0 64 (by decide) (by decide), if_pos (in_band 0 64 (by decide) (by decide) d)]
    exact at2 Y s (by show 256 + (0 + d.val) = 256 + 0 * 64 + d.val; omega)
  va_v s v := by
    pointwise [k0_pay19, k0_pay16]
    exact at2 x1 s (by show _ = 0 * 128 + v.val; simp)
  va_1 s := by
    pointwise [k0_pay19, k0_pay16]
  ic_at s := by
    refine Eq.trans ?_ ((cols_at g 0 s).trans (rows_lo g 0 (by decide) s))
    generalize k0_pay12 g = R
    pointwise [k0_pay20]
  bc_at s := by
    refine Eq.trans ?_ ((cols_at g 4 s).trans (rows_hi g 4 (by decide) s))
    generalize k0_pay12 g = R
    pointwise [k0_pay21]
  ir_at s := by
    refine Eq.trans ?_ (rows_lo g 0 (by decide) s)
    generalize k0_pay11 g = R
    pointwise [k0_pay22]
  br_at s := by
    refine Eq.trans ?_ (rows_hi g 4 (by decide) s)
    generalize k0_pay11 g = R
    pointwise [k0_pay23]
  m_at := by
    pointwise []
    rfl
  st_v v d := by
    pointwise []
    rfl
  st_1 d := by
    pointwise []
    rfl

include hY in
/-- What head 1 reads of a chunk. -/
theorem reads1 : Reads (col 64 (by decide)) (blockChunk Y x1 g 1) (blockState s0 s1 1) (k0_pay35 Y lanes) (k0_pay36 rowsI (k0_pay13 Y6 Y8 one)) (k0_pay37 (k0_pay16 lanes) (View.ld x1 (Rect.unit ![0, 128] ![128, 128] inb_S128x512_S128x128_0_128)))
    (k0_pay38 (k0_pay12 g)) (k0_pay39 (k0_pay12 g)) (extractStridedSlice S1x128 ![1, 0] (k0_pay11 g) slices_S8x128_o1_0_S1x128) (extractStridedSlice S1x128 ![5, 0] (k0_pay11 g) slices_S8x128_o5_0_S1x128) (View.ld s1 (Rect.unit ![1, 0] ![1, 1] inb_S8x128_S1x1_1_0)) (View.ld s0 (Rect.unit ![1, 0, 0] ![1, 128, 256] inb_S4x128x256_S1x128x256_1_0_0)) where
  inj := col_inj _ _
  q_on t d := by
    pointwise [k0_pay35]
    rw [select_band _ 64 128 (by decide) (by decide), if_pos (in_band 64 128 (by decide) (by decide) d)]
    exact congrArg (fun z : EReal => z * _) (at2 Y t (by show (64 + d.val) = 1 * 64 + d.val; omega))
  q_off t x hx := by
    pointwise [k0_pay35]
    rw [select_band _ 64 128 (by decide) (by decide), if_neg (not_band 64 128 (by decide) (by decide) x hx)]
  k_on s d := by
    unfold k0_pay13
    rw [hY]
    pointwise [k0_pay36]
    rw [select_band _ 64 128 (by decide) (by decide), if_pos (in_band 64 128 (by decide) (by decide) d)]
    exact at2 Y s (by show 256 + (64 + d.val) = 256 + 1 * 64 + d.val; omega)
  va_v s v := by
    pointwise [k0_pay37, k0_pay16]
    exact at2 x1 s (by show _ = 1 * 128 + v.val; simp)
  va_1 s := by
    pointwise [k0_pay37, k0_pay16]
  ic_at s := by
    refine Eq.trans ?_ ((cols_at g 1 s).trans (rows_lo g 1 (by decide) s))
    generalize k0_pay12 g = R
    pointwise [k0_pay38]
  bc_at s := by
    refine Eq.trans ?_ ((cols_at g 5 s).trans (rows_hi g 5 (by decide) s))
    generalize k0_pay12 g = R
    pointwise [k0_pay39]
  ir_at s := by
    refine Eq.trans ?_ (rows_lo g 1 (by decide) s)
    generalize k0_pay11 g = R
    pointwise []
  br_at s := by
    refine Eq.trans ?_ (rows_hi g 5 (by decide) s)
    generalize k0_pay11 g = R
    pointwise []
  m_at := by
    pointwise []
    rfl
  st_v v d := by
    pointwise []
    rfl
  st_1 d := by
    pointwise []
    rfl

include hY in
/-- What head 2 reads of a chunk. -/
theorem reads2 : Reads (col 0 (by decide)) (blockChunk Y x1 g 2) (blockState s0 s1 2) (k0_pay55 Y (k0_pay52 lanes)) (k0_pay56 (k0_pay53 rowsI) (k0_pay54 rowsI) (k0_pay15 (k0_pay14 Y6 Y8 one))) (k0_pay57 (k0_pay16 lanes) (View.ld x1 (Rect.unit ![0, 256] ![128, 128] inb_S128x512_S128x128_0_256)))
    (k0_pay58 (k0_pay12 g)) (k0_pay59 (k0_pay12 g)) (extractStridedSlice S1x128 ![2, 0] (k0_pay11 g) slices_S8x128_o2_0_S1x128) (extractStridedSlice S1x128 ![6, 0] (k0_pay11 g) slices_S8x128_o6_0_S1x128) (View.ld s1 (Rect.unit ![2, 0] ![1, 1] inb_S8x128_S1x1_2_0)) (View.ld s0 (Rect.unit ![2, 0, 0] ![1, 128, 256] inb_S4x128x256_S1x128x256_2_0_0)) where
  inj := col_inj _ _
  q_on t d := by
    pointwise [k0_pay55, k0_pay52]
    rw [select_band _ 0 64 (by decide) (by decide), if_pos (in_band 0 64 (by decide) (by decide) d)]
    exact congrArg (fun z : EReal => z * _) (at2 Y t (by show 128 + (0 + d.val) = 2 * 64 + d.val; omega))
  q_off t x hx := by
    pointwise [k0_pay55, k0_pay52]
    rw [select_band _ 0 64 (by decide) (by decide), if_neg (not_band 0 64 (by decide) (by decide) x hx)]
  k_on s d := by
    unfold k0_pay15 k0_pay14
    rw [hY]
    pointwise [k0_pay53, k0_pay54, k0_pay56]
    rw [select_band _ 0 64 (by decide) (by decide), if_pos (in_band 0 64 (by decide) (by decide) d)]
    exact at2 Y s (by show 384 + (0 + d.val) = 256 + 2 * 64 + d.val; omega)
  va_v s v := by
    pointwise [k0_pay57, k0_pay16]
    exact at2 x1 s (by show _ = 2 * 128 + v.val; simp)
  va_1 s := by
    pointwise [k0_pay57, k0_pay16]
  ic_at s := by
    refine Eq.trans ?_ ((cols_at g 2 s).trans (rows_lo g 2 (by decide) s))
    generalize k0_pay12 g = R
    pointwise [k0_pay58]
  bc_at s := by
    refine Eq.trans ?_ ((cols_at g 6 s).trans (rows_hi g 6 (by decide) s))
    generalize k0_pay12 g = R
    pointwise [k0_pay59]
  ir_at s := by
    refine Eq.trans ?_ (rows_lo g 2 (by decide) s)
    generalize k0_pay11 g = R
    pointwise []
  br_at s := by
    refine Eq.trans ?_ (rows_hi g 6 (by decide) s)
    generalize k0_pay11 g = R
    pointwise []
  m_at := by
    pointwise []
    rfl
  st_v v d := by
    pointwise []
    rfl
  st_1 d := by
    pointwise []
    rfl

include hY in
/-- What head 3 reads of a chunk. -/
theorem reads3 : Reads (col 64 (by decide)) (blockChunk Y x1 g 3) (blockState s0 s1 3) (k0_pay77 Y lanes) (k0_pay79 (k0_pay76 rowsI) (k0_pay78 (k0_pay15 (k0_pay14 Y6 Y8 one))) (FloatOps.ofBits FTy.f32 0#32)) (k0_pay80 (k0_pay16 lanes) (View.ld x1 (Rect.unit ![0, 384] ![128, 128] inb_S128x512_S128x128_0_384)))
    (k0_pay81 (k0_pay12 g)) (k0_pay82 (k0_pay12 g)) (extractStridedSlice S1x128 ![3, 0] (k0_pay11 g) slices_S8x128_o3_0_S1x128) (extractStridedSlice S1x128 ![7, 0] (k0_pay11 g) slices_S8x128_o7_0_S1x128) (View.ld s1 (Rect.unit ![3, 0] ![1, 1] inb_S8x128_S1x1_3_0)) (View.ld s0 (Rect.unit ![3, 0, 0] ![1, 128, 256] inb_S4x128x256_S1x128x256_3_0_0)) where
  inj := col_inj _ _
  q_on t d := by
    pointwise [k0_pay77]
    rw [select_band _ 64 128 (by decide) (by decide), if_pos (in_band 64 128 (by decide) (by decide) d)]
    exact congrArg (fun z : EReal => z * _) (at2 Y t (by show 128 + (64 + d.val) = 3 * 64 + d.val; omega))
  q_off t x hx := by
    pointwise [k0_pay77]
    rw [select_band _ 64 128 (by decide) (by decide), if_neg (not_band 64 128 (by decide) (by decide) x hx)]
  k_on s d := by
    unfold k0_pay15 k0_pay14
    rw [hY]
    pointwise [k0_pay76, k0_pay78, k0_pay79]
    rw [select_band _ 64 128 (by decide) (by decide), if_pos (in_band 64 128 (by decide) (by decide) d)]
    exact at2 Y s (by show 384 + (64 + d.val) = 256 + 3 * 64 + d.val; omega)
  va_v s v := by
    pointwise [k0_pay80, k0_pay16]
    exact at2 x1 s (by show _ = 3 * 128 + v.val; simp)
  va_1 s := by
    pointwise [k0_pay80, k0_pay16]
  ic_at s := by
    refine Eq.trans ?_ ((cols_at g 3 s).trans (rows_lo g 3 (by decide) s))
    generalize k0_pay12 g = R
    pointwise [k0_pay81]
  bc_at s := by
    refine Eq.trans ?_ ((cols_at g 7 s).trans (rows_hi g 7 (by decide) s))
    generalize k0_pay12 g = R
    pointwise [k0_pay82]
  ir_at s := by
    refine Eq.trans ?_ (rows_lo g 3 (by decide) s)
    generalize k0_pay11 g = R
    pointwise []
  br_at s := by
    refine Eq.trans ?_ (rows_hi g 7 (by decide) s)
    generalize k0_pay11 g = R
    pointwise []
  m_at := by
    pointwise []
    rfl
  st_v v d := by
    pointwise []
    rfl
  st_1 d := by
    pointwise []
    rfl

end Cert.KernelIdeal.Head
end
-- ==== Proof.KHead.lean ====
module
public import proofs.«01_k».proof.Proof.HeadReads
public import Idealize.ShloMosaic.Lib.Pipeline.ValueKit.Acc
public import Idealize.ShloMosaic.Lib.Pipeline.ReadBack
public import Idealize.ShloMosaic.Lib.WritesUnit

@[expose] public section
set_option maxRecDepth 16384
noncomputable section

namespace Cert.KernelIdeal.Head

open Idealize.ShloMosaic Idealize.ShloMosaic.TcCoe Idealize.SL.Sem
open Cert.KernelIdeal Cert.KernelIdeal.Gen Cert.Mlstm

section lists
variable {s : Shape} {e : EltTy} {Val : EltTy → Type} [∀ e, Nonempty (Val e)]

/-- Under the newest store's rectangle, its payload. -/
theorem canon_hit {off size : Fin s.rank → ℕ} (inb : ∀ a, off a + size a ≤ s.size a) (w : (Rect.unit off size inb).shape.Idx → Val e)
    (L : List (View.Piece Val s e)) (y : s.Idx) (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb _ w L x

/-- Off it, what the earlier stores left. -/
theorem canon_miss {off size : Fin s.rank → ℕ} (inb : ∀ a, off a + size a ≤ s.size a) (w : (Rect.unit off size inb).shape.Idx → Val e)
    (L : List (View.Piece Val s e)) (y : s.Idx) (a : Fin s.rank) (ha : (y a).val < off a ∨ off a + size a ≤ (y a).val) :
    View.canon ((⟨Rect.unit off size inb, w⟩ : View.Piece Val s e) :: L) y = View.canon L y := by
  refine View.canon_cons_of_not_mem _ L fun hm => ?_
  have := (Rect.mem_set_unit (inb := inb) (i := y)).mp hm a
  omega
end lists

variable {Val : EltTy → Type} [∀ e, Nonempty (Val e)]

/-- The four heads' stores, read at a place of head `h`. -/
theorem out_sel {e : EltTy} (P0 P1 P2 P3 : S128x128.Idx → Val e) (L : List (View.Piece Val S128x512 e)) (h : Fin 4) (t v : Fin 128) :
    View.canon ((⟨Rect.unit ![0, 384] ![128, 128] inb_S128x512_S128x128_0_384, P3⟩ : View.Piece Val S128x512 e) :: (⟨Rect.unit ![0, 256] ![128, 128] inb_S128x512_S128x128_0_256, P2⟩ : View.Piece Val S128x512 e) :: (⟨Rect.unit ![0, 128] ![128, 128] inb_S128x512_S128x128_0_128, P1⟩ : View.Piece Val S128x512 e) :: (⟨Rect.unit ![0, 0] ![128, 128] inb_S128x512_S128x128_0_0, P0⟩ : View.Piece Val S128x512 e) :: L) (ix2 t ⟨h.val * 128 + v.val, by omega⟩) = (![P0, P1, P2, P3] h) (ix2 t v) := by
  match h with
  | 0 =>
    refine (canon_miss _ _ _ _ (1 : Fin 2) ?_).trans ?_
    · exact Or.inl (by show 0 * 128 + v.val < 384; have := v.isLt; omega)
    refine (canon_miss _ _ _ _ (1 : Fin 2) ?_).trans ?_
    · exact Or.inl (by show 0 * 128 + v.val < 256; have := v.isLt; omega)
    refine (canon_miss _ _ _ _ (1 : Fin 2) ?_).trans ?_
    · exact Or.inl (by show 0 * 128 + v.val < 128; have := v.isLt; omega)
    refine canon_hit (s := S128x512) (off := ![0, 0]) (size := ![128, 128]) _ _ _ _ (ix2 t v) ?_
    intro a
    match a with | 0 => exact (Nat.zero_add _).symm | 1 => rfl
  | 1 =>
    refine (canon_miss _ _ _ _ (1 : Fin 2) ?_).trans ?_
    · exact Or.inl (by show 1 * 128 + v.val < 384; have := v.isLt; omega)
    refine (canon_miss _ _ _ _ (1 : Fin 2) ?_).trans ?_
    · exact Or.inl (by show 1 * 128 + v.val < 256; have := v.isLt; omega)
    refine canon_hit (s := S128x512) (off := ![0, 128]) (size := ![128, 128]) _ _ _ _ (ix2 t v) ?_
    intro a
    match a with | 0 => exact (Nat.zero_add _).symm | 1 => rfl
  | 2 =>
    refine (canon_miss _ _ _ _ (1 : Fin 2) ?_).trans ?_
    · exact Or.inl (by show 2 * 128 + v.val < 384; have := v.isLt; omega)
    refine canon_hit (s := S128x512) (off := ![0, 256]) (size := ![128, 128]) _ _ _ _ (ix2 t v) ?_
    intro a
    match a with | 0 => exact (Nat.zero_add _).symm | 1 => rfl
  | 3 =>
    refine canon_hit (s := S128x512) (off := ![0, 384]) (size := ![128, 128]) _ _ _ _ (ix2 t v) ?_
    intro a
    match a with | 0 => exact (Nat.zero_add _).symm | 1 => rfl
theorem s0_sel {e : EltTy} (P0 P1 P2 P3 : S1x128x256.Idx → Val e) (L : List (View.Piece Val S4x128x256 e)) (h : Fin 4) (t : Fin 128) (v : Fin 256) :
    View.canon ((⟨Rect.unit ![3, 0, 0] ![1, 128, 256] inb_S4x128x256_S1x128x256_3_0_0, P3⟩ : View.Piece Val S4x128x256 e) :: (⟨Rect.unit ![2, 0, 0] ![1, 128, 256] inb_S4x128x256_S1x128x256_2_0_0, P2⟩ : View.Piece Val S4x128x256 e) :: (⟨Rect.unit ![1, 0, 0] ![1, 128, 256] inb_S4x128x256_S1x128x256_1_0_0, P1⟩ : View.Piece Val S4x128x256 e) :: (⟨Rect.unit ![0, 0, 0] ![1, 128, 256] inb_S4x128x256_S1x128x256_0_0_0, P0⟩ : View.Piece Val S4x128x256 e) :: L) (ix3 h t v) = (![P0, P1, P2, P3] h) (ix3 0 t v) := by
  match h with
  | 0 =>
    refine (canon_miss _ _ _ _ (0 : Fin 3) ?_).trans ?_
    · exact Or.inl (by show 0 < 3; omega)
    refine (canon_miss _ _ _ _ (0 : Fin 3) ?_).trans ?_
    · exact Or.inl (by show 0 < 2; omega)
    refine (canon_miss _ _ _ _ (0 : Fin 3) ?_).trans ?_
    · exact Or.inl (by show 0 < 1; omega)
    refine canon_hit (s := S4x128x256) (off := ![0, 0, 0]) (size := ![1, 128, 256]) _ _ _ _ (ix3 0 t v) ?_
    intro a
    match a with | 0 => rfl | 1 => exact (Nat.zero_add _).symm | 2 => exact (Nat.zero_add _).symm
  | 1 =>
    refine (canon_miss _ _ _ _ (0 : Fin 3) ?_).trans ?_
    · exact Or.inl (by show 1 < 3; omega)
    refine (canon_miss _ _ _ _ (0 : Fin 3) ?_).trans ?_
    · exact Or.inl (by show 1 < 2; omega)
    refine canon_hit (s := S4x128x256) (off := ![1, 0, 0]) (size := ![1, 128, 256]) _ _ _ _ (ix3 0 t v) ?_
    intro a
    match a with | 0 => rfl | 1 => exact (Nat.zero_add _).symm | 2 => exact (Nat.zero_add _).symm
  | 2 =>
    refine (canon_miss _ _ _ _ (0 : Fin 3) ?_).trans ?_
    · exact Or.inl (by show 2 < 3; omega)
    refine canon_hit (s := S4x128x256) (off := ![2, 0, 0]) (size := ![1, 128, 256]) _ _ _ _ (ix3 0 t v) ?_
    intro a
    match a with | 0 => rfl | 1 => exact (Nat.zero_add _).symm | 2 => exact (Nat.zero_add _).symm
  | 3 =>
    refine canon_hit (s := S4x128x256) (off := ![3, 0, 0]) (size := ![1, 128, 256]) _ _ _ _ (ix3 0 t v) ?_
    intro a
    match a with | 0 => rfl | 1 => exact (Nat.zero_add _).symm | 2 => exact (Nat.zero_add _).symm
theorem s1_sel {e : EltTy} (P0 P1 P2 P3 : S1x128.Idx → Val e) (L : List (View.Piece Val S8x128 e)) (h : Fin 4)  :
    View.canon ((⟨Rect.unit ![3, 0] ![1, 128] inb_S8x128_S1x128_3_0, P3⟩ : View.Piece Val S8x128 e) :: (⟨Rect.unit ![2, 0] ![1, 128] inb_S8x128_S1x128_2_0, P2⟩ : View.Piece Val S8x128 e) :: (⟨Rect.unit ![1, 0] ![1, 128] inb_S8x128_S1x128_1_0, P1⟩ : View.Piece Val S8x128 e) :: (⟨Rect.unit ![0, 0] ![1, 128] inb_S8x128_S1x128_0_0, P0⟩ : View.Piece Val S8x128 e) :: L) (ix2 ⟨h.val, by omega⟩ 0) = (![P0, P1, P2, P3] h) (ix2 0 0) := by
  match h with
  | 0 =>
    refine (canon_miss _ _ _ _ (0 : Fin 2) ?_).trans ?_
    · exact Or.inl (by show 0 < 3; omega)
    refine (canon_miss _ _ _ _ (0 : Fin 2) ?_).trans ?_
    · exact Or.inl (by show 0 < 2; omega)
    refine (canon_miss _ _ _ _ (0 : Fin 2) ?_).trans ?_
    · exact Or.inl (by show 0 < 1; omega)
    refine canon_hit (s := S8x128) (off := ![0, 0]) (size := ![1, 128]) _ _ _ _ (ix2 0 0) ?_
    intro a
    match a with | 0 => rfl | 1 => rfl
  | 1 =>
    refine (canon_miss _ _ _ _ (0 : Fin 2) ?_).trans ?_
    · exact Or.inl (by show 1 < 3; omega)
    refine (canon_miss _ _ _ _ (0 : Fin 2) ?_).trans ?_
    · exact Or.inl (by show 1 < 2; omega)
    refine canon_hit (s := S8x128) (off := ![1, 0]) (size := ![1, 128]) _ _ _ _ (ix2 0 0) ?_
    intro a
    match a with | 0 => rfl | 1 => rfl
  | 2 =>
    refine (canon_miss _ _ _ _ (0 : Fin 2) ?_).trans ?_
    · exact Or.inl (by show 2 < 3; omega)
    refine canon_hit (s := S8x128) (off := ![2, 0]) (size := ![1, 128]) _ _ _ _ (ix2 0 0) ?_
    intro a
    match a with | 0 => rfl | 1 => rfl
  | 3 =>
    refine canon_hit (s := S8x128) (off := ![3, 0]) (size := ![1, 128]) _ _ _ _ (ix2 0 0) ?_
    intro a
    match a with | 0 => rfl | 1 => rfl

theorem s1_sel_writes {sig : RefSig} {κ : Kind} {sp : Space} {e : EltTy} (w : View sig κ sp S8x128 e) (f : _) (P0 P1 P2 P3 : S1x128.Idx → Val e) (h : Fin 4) :
    w.read Val (w.writes Val f [⟨Rect.unit ![3, 0] ![1, 128] inb_S8x128_S1x128_3_0, P3⟩, ⟨Rect.unit ![2, 0] ![1, 128] inb_S8x128_S1x128_2_0, P2⟩, ⟨Rect.unit ![1, 0] ![1, 128] inb_S8x128_S1x128_1_0, P1⟩, ⟨Rect.unit ![0, 0] ![1, 128] inb_S8x128_S1x128_0_0, P0⟩]) (ix2 ⟨h.val, by omega⟩ 0) = (![P0, P1, P2, P3] h) (ix2 0 0) := by
  match h with
  | 0 =>
    refine (View.read_writes_cons_unit_of_not_mem w f _ _ _ _ rfl (0 : Fin 2) ?_).trans ?_
    · exact Or.inl (by show 0 < 3; omega)
    refine (View.read_writes_cons_unit_of_not_mem w f _ _ _ _ rfl (0 : Fin 2) ?_).trans ?_
    · exact Or.inl (by show 0 < 2; omega)
    refine (View.read_writes_cons_unit_of_not_mem w f _ _ _ _ rfl (0 : Fin 2) ?_).trans ?_
    · exact Or.inl (by show 0 < 1; omega)
    refine View.read_writes_cons_unit_of_mem w f _ _ _ _ (ix2 0 0) rfl ?_
    intro a
    match a with | 0 => rfl | 1 => rfl
  | 1 =>
    refine (View.read_writes_cons_unit_of_not_mem w f _ _ _ _ rfl (0 : Fin 2) ?_).trans ?_
    · exact Or.inl (by show 1 < 3; omega)
    refine (View.read_writes_cons_unit_of_not_mem w f _ _ _ _ rfl (0 : Fin 2) ?_).trans ?_
    · exact Or.inl (by show 1 < 2; omega)
    refine View.read_writes_cons_unit_of_mem w f _ _ _ _ (ix2 0 0) rfl ?_
    intro a
    match a with | 0 => rfl | 1 => rfl
  | 2 =>
    refine (View.read_writes_cons_unit_of_not_mem w f _ _ _ _ rfl (0 : Fin 2) ?_).trans ?_
    · exact Or.inl (by show 2 < 3; omega)
    refine View.read_writes_cons_unit_of_mem w f _ _ _ _ (ix2 0 0) rfl ?_
    intro a
    match a with | 0 => rfl | 1 => rfl
  | 3 =>
    refine View.read_writes_cons_unit_of_mem w f _ _ _ _ (ix2 0 0) rfl ?_
    intro a
    match a with | 0 => rfl | 1 => rfl

variable (g : Vec Ideal S128x128 .f32)
variable (Y6 Y8 Y : FVec Ideal S128x512 .f32) (one : Ideal .f32) (hY : k0_pay9 Y6 Y8 one = Y) (x1 x2 : Vec Ideal S128x512 .bf16)
  (x6 : Vec Ideal S1x512 .f32) (s0 : Vec Ideal S4x128x256 .f32) (s1 : Vec Ideal S8x128 .f32)

theorem pay33_at (w : FVec Ideal S1x1 .f32) (x : Fin 128) : (k0_pay33 (F := Ideal) w (ix2 0 x) : EReal) = w (ix2 0 0) := by
  pointwise [k0_pay33]

include hY in
/-- Head 0's payloads, read. -/
theorem out0_at (t v : Fin 128) : ((k0_pay34 (k0_pay26 k0_pay10 (k0_pay17 Y lanes) (k0_pay18 rowsI (k0_pay13 Y6 Y8 one)) (k0_pay19 lanes (View.ld x1 (Rect.unit ![0, 0] ![128, 128] inb_S128x512_S128x128_0_0))) (k0_pay21 (k0_pay12 g)) (k0_pay22 (k0_pay11 g)) (k0_pay23 (k0_pay11 g)) (View.ld s1 (Rect.unit ![0, 0] ![1, 1] inb_S8x128_S1x1_0_0)) (k0_pay24 (k0_pay12 g)) (View.ld s0 (Rect.unit ![0, 0, 0] ![1, 128, 256] inb_S4x128x256_S1x128x256_0_0_0))) (View.ld x2 (Rect.unit ![0, 0] ![128, 128] inb_S128x512_S128x128_0_0)) (View.ld x6 (Rect.unit ![0, 0] ![1, 128] inb_S1x512_S1x128_0_0)) : FVec Ideal S128x128 .bf16) (ix2 t v) : EReal)
    = gated (hout (blockChunk Y x1 g 0) (blockState s0 s1 0) t) (fun x => x6 (ix2 0 ⟨0 * 128 + x.val, by omega⟩)) (fun x => x2 (ix2 t ⟨0 * 128 + x.val, by omega⟩)) v := by
  have e := gated_at (reads0 g Y6 Y8 Y one hY x1 s0 s1) t v (View.ld x2 (Rect.unit ![0, 0] ![128, 128] inb_S128x512_S128x128_0_0)) (View.ld x6 (Rect.unit ![0, 0] ![1, 128] inb_S1x512_S1x128_0_0))
  refine Eq.trans ?_ (e.trans ?_)
  · rfl
  · congr 1 <;> funext x <;> pointwise [] <;> exact congrArg _ (congrArg _ (Fin.ext (by simp)))
include hY in
theorem c0_at (v : Fin 128) (d : Fin 64) : ((k0_pay32 (k0_pay18 rowsI (k0_pay13 Y6 Y8 one)) (k0_pay19 lanes (View.ld x1 (Rect.unit ![0, 0] ![128, 128] inb_S128x512_S128x128_0_0))) (k0_pay25 (View.ld s0 (Rect.unit ![0, 0, 0] ![1, 128, 256] inb_S4x128x256_S1x128x256_0_0_0))) (k0_pay30 (k0_pay20 (k0_pay12 g)) (k0_pay21 (k0_pay12 g)) (View.ld s1 (Rect.unit ![0, 0] ![1, 1] inb_S8x128_S1x1_0_0))) (k0_pay31 (k0_pay20 (k0_pay12 g)) (k0_pay21 (k0_pay12 g)) (View.ld s1 (Rect.unit ![0, 0] ![1, 1] inb_S8x128_S1x1_0_0))) : FVec Ideal S1x128x256 .f32) (ix3 0 (col 0 (by decide) d) ⟨v.val, by omega⟩) : EReal)
    = (next (blockChunk Y x1 g 0) (blockState s0 s1 0)).C v d :=
  next_C (reads0 g Y6 Y8 Y one hY x1 s0 s1) v d
include hY in
theorem n0_at (d : Fin 64) : ((k0_pay32 (k0_pay18 rowsI (k0_pay13 Y6 Y8 one)) (k0_pay19 lanes (View.ld x1 (Rect.unit ![0, 0] ![128, 128] inb_S128x512_S128x128_0_0))) (k0_pay25 (View.ld s0 (Rect.unit ![0, 0, 0] ![1, 128, 256] inb_S4x128x256_S1x128x256_0_0_0))) (k0_pay30 (k0_pay20 (k0_pay12 g)) (k0_pay21 (k0_pay12 g)) (View.ld s1 (Rect.unit ![0, 0] ![1, 1] inb_S8x128_S1x1_0_0))) (k0_pay31 (k0_pay20 (k0_pay12 g)) (k0_pay21 (k0_pay12 g)) (View.ld s1 (Rect.unit ![0, 0] ![1, 1] inb_S8x128_S1x1_0_0))) : FVec Ideal S1x128x256 .f32) (ix3 0 (col 0 (by decide) d) 128) : EReal)
    = (next (blockChunk Y x1 g 0) (blockState s0 s1 0)).n d :=
  next_n (reads0 g Y6 Y8 Y one hY x1 s0 s1) d
include hY in
theorem m0_at : ((k0_pay33 (k0_pay29 (k0_pay20 (k0_pay12 g)) (k0_pay21 (k0_pay12 g)) (View.ld s1 (Rect.unit ![0, 0] ![1, 1] inb_S8x128_S1x1_0_0))) : FVec Ideal S1x128 .f32) (ix2 0 0) : EReal)
    = (next (blockChunk Y x1 g 0) (blockState s0 s1 0)).m :=
  (pay33_at _ 0).trans (mnew_at (reads0 g Y6 Y8 Y one hY x1 s0 s1))
include hY in
/-- Head 1's payloads, read. -/
theorem out1_at (t v : Fin 128) : ((k0_pay51 (k0_pay45 (k0_pay35 Y lanes) (k0_pay36 rowsI (k0_pay13 Y6 Y8 one)) (k0_pay37 (k0_pay16 lanes) (View.ld x1 (Rect.unit ![0, 128] ![128, 128] inb_S128x512_S128x128_0_128))) (k0_pay41 (k0_pay12 g) (View.ld s1 (Rect.unit ![1, 0] ![1, 1] inb_S8x128_S1x1_1_0))) (k0_pay42 k0_pay10 (k0_pay11 g) (k0_pay12 g) (View.ld s1 (Rect.unit ![1, 0] ![1, 1] inb_S8x128_S1x1_1_0))) (k0_pay43 k0_pay10 (k0_pay11 g) (k0_pay12 g) (View.ld s1 (Rect.unit ![1, 0] ![1, 1] inb_S8x128_S1x1_1_0))) (View.ld s0 (Rect.unit ![1, 0, 0] ![1, 128, 256] inb_S4x128x256_S1x128x256_1_0_0))) (View.ld x2 (Rect.unit ![0, 128] ![128, 128] inb_S128x512_S128x128_0_128)) (View.ld x6 (Rect.unit ![0, 128] ![1, 128] inb_S1x512_S1x128_0_128)) : FVec Ideal S128x128 .bf16) (ix2 t v) : EReal)
    = gated (hout (blockChunk Y x1 g 1) (blockState s0 s1 1) t) (fun x => x6 (ix2 0 ⟨1 * 128 + x.val, by omega⟩)) (fun x => x2 (ix2 t ⟨1 * 128 + x.val, by omega⟩)) v := by
  have e := gated_at (reads1 g Y6 Y8 Y one hY x1 s0 s1) t v (View.ld x2 (Rect.unit ![0, 128] ![128, 128] inb_S128x512_S128x128_0_128)) (View.ld x6 (Rect.unit ![0, 128] ![1, 128] inb_S1x512_S1x128_0_128))
  refine Eq.trans ?_ (e.trans ?_)
  · rfl
  · congr 1 <;> funext x <;> pointwise [] <;> exact congrArg _ (congrArg _ (Fin.ext (by simp)))
include hY in
theorem c1_at (v : Fin 128) (d : Fin 64) : ((k0_pay49 (k0_pay36 rowsI (k0_pay13 Y6 Y8 one)) (k0_pay37 (k0_pay16 lanes) (View.ld x1 (Rect.unit ![0, 128] ![128, 128] inb_S128x512_S128x128_0_128))) (k0_pay38 (k0_pay12 g)) (k0_pay39 (k0_pay12 g)) (View.ld s1 (Rect.unit ![1, 0] ![1, 1] inb_S8x128_S1x1_1_0)) (View.ld s0 (Rect.unit ![1, 0, 0] ![1, 128, 256] inb_S4x128x256_S1x128x256_1_0_0)) : FVec Ideal S1x128x256 .f32) (ix3 0 (col 64 (by decide) d) ⟨v.val, by omega⟩) : EReal)
    = (next (blockChunk Y x1 g 1) (blockState s0 s1 1)).C v d :=
  next_C (reads1 g Y6 Y8 Y one hY x1 s0 s1) v d
include hY in
theorem n1_at (d : Fin 64) : ((k0_pay49 (k0_pay36 rowsI (k0_pay13 Y6 Y8 one)) (k0_pay37 (k0_pay16 lanes) (View.ld x1 (Rect.unit ![0, 128] ![128, 128] inb_S128x512_S128x128_0_128))) (k0_pay38 (k0_pay12 g)) (k0_pay39 (k0_pay12 g)) (View.ld s1 (Rect.unit ![1, 0] ![1, 1] inb_S8x128_S1x1_1_0)) (View.ld s0 (Rect.unit ![1, 0, 0] ![1, 128, 256] inb_S4x128x256_S1x128x256_1_0_0)) : FVec Ideal S1x128x256 .f32) (ix3 0 (col 64 (by decide) d) 128) : EReal)
    = (next (blockChunk Y x1 g 1) (blockState s0 s1 1)).n d :=
  next_n (reads1 g Y6 Y8 Y one hY x1 s0 s1) d
include hY in
theorem m1_at : ((k0_pay50 (k0_pay48 (k0_pay38 (k0_pay12 g)) (k0_pay39 (k0_pay12 g)) (View.ld s1 (Rect.unit ![1, 0] ![1, 1] inb_S8x128_S1x1_1_0))) : FVec Ideal S1x128 .f32) (ix2 0 0) : EReal)
    = (next (blockChunk Y x1 g 1) (blockState s0 s1 1)).m :=
  (pay33_at _ 0).trans (mnew_at (reads1 g Y6 Y8 Y one hY x1 s0 s1))
include hY in
/-- Head 2's payloads, read. -/
theorem out2_at (t v : Fin 128) : ((k0_pay75 (k0_pay67 (k0_pay55 Y (k0_pay52 lanes)) (k0_pay62 k0_pay10 (k0_pay11 g) (k0_pay12 g) (View.ld s1 (Rect.unit ![2, 0] ![1, 1] inb_S8x128_S1x1_2_0))) (k0_pay63 k0_pay10 (k0_pay11 g) (k0_pay12 g) (View.ld s1 (Rect.unit ![2, 0] ![1, 1] inb_S8x128_S1x1_2_0))) (k0_pay65 Y k0_pay10 (k0_pay11 g) (k0_pay12 g) (k0_pay16 lanes) (k0_pay52 lanes) (k0_pay53 rowsI) (k0_pay54 rowsI) (k0_pay15 (k0_pay14 Y6 Y8 one)) (View.ld x1 (Rect.unit ![0, 256] ![128, 128] inb_S128x512_S128x128_0_256)) (View.ld s1 (Rect.unit ![2, 0] ![1, 1] inb_S8x128_S1x1_2_0))) (k0_pay66 (View.ld s0 (Rect.unit ![2, 0, 0] ![1, 128, 256] inb_S4x128x256_S1x128x256_2_0_0)))) (k0_pay73 (k0_pay55 Y (k0_pay52 lanes)) (k0_pay62 k0_pay10 (k0_pay11 g) (k0_pay12 g) (View.ld s1 (Rect.unit ![2, 0] ![1, 1] inb_S8x128_S1x1_2_0))) (k0_pay63 k0_pay10 (k0_pay11 g) (k0_pay12 g) (View.ld s1 (Rect.unit ![2, 0] ![1, 1] inb_S8x128_S1x1_2_0))) (k0_pay65 Y k0_pay10 (k0_pay11 g) (k0_pay12 g) (k0_pay16 lanes) (k0_pay52 lanes) (k0_pay53 rowsI) (k0_pay54 rowsI) (k0_pay15 (k0_pay14 Y6 Y8 one)) (View.ld x1 (Rect.unit ![0, 256] ![128, 128] inb_S128x512_S128x128_0_256)) (View.ld s1 (Rect.unit ![2, 0] ![1, 1] inb_S8x128_S1x1_2_0))) (k0_pay66 (View.ld s0 (Rect.unit ![2, 0, 0] ![1, 128, 256] inb_S4x128x256_S1x128x256_2_0_0)))) k0_pay74 (View.ld x2 (Rect.unit ![0, 256] ![128, 128] inb_S128x512_S128x128_0_256)) (View.ld x6 (Rect.unit ![0, 256] ![1, 128] inb_S1x512_S1x128_0_256)) : FVec Ideal S128x128 .bf16) (ix2 t v) : EReal)
    = gated (hout (blockChunk Y x1 g 2) (blockState s0 s1 2) t) (fun x => x6 (ix2 0 ⟨2 * 128 + x.val, by omega⟩)) (fun x => x2 (ix2 t ⟨2 * 128 + x.val, by omega⟩)) v := by
  have e := gated_at (reads2 g Y6 Y8 Y one hY x1 s0 s1) t v (View.ld x2 (Rect.unit ![0, 256] ![128, 128] inb_S128x512_S128x128_0_256)) (View.ld x6 (Rect.unit ![0, 256] ![1, 128] inb_S1x512_S1x128_0_256))
  refine Eq.trans ?_ (e.trans ?_)
  · rfl
  · congr 1 <;> funext x <;> pointwise [] <;> exact congrArg _ (congrArg _ (Fin.ext (by simp)))
include hY in
theorem c2_at (v : Fin 128) (d : Fin 64) : ((k0_pay71 (k0_pay56 (k0_pay53 rowsI) (k0_pay54 rowsI) (k0_pay15 (k0_pay14 Y6 Y8 one))) (k0_pay57 (k0_pay16 lanes) (View.ld x1 (Rect.unit ![0, 256] ![128, 128] inb_S128x512_S128x128_0_256))) (k0_pay58 (k0_pay12 g)) (k0_pay59 (k0_pay12 g)) (View.ld s1 (Rect.unit ![2, 0] ![1, 1] inb_S8x128_S1x1_2_0)) (k0_pay64 (View.ld s0 (Rect.unit ![2, 0, 0] ![1, 128, 256] inb_S4x128x256_S1x128x256_2_0_0))) : FVec Ideal S1x128x256 .f32) (ix3 0 (col 0 (by decide) d) ⟨v.val, by omega⟩) : EReal)
    = (next (blockChunk Y x1 g 2) (blockState s0 s1 2)).C v d :=
  next_C (reads2 g Y6 Y8 Y one hY x1 s0 s1) v d
include hY in
theorem n2_at (d : Fin 64) : ((k0_pay71 (k0_pay56 (k0_pay53 rowsI) (k0_pay54 rowsI) (k0_pay15 (k0_pay14 Y6 Y8 one))) (k0_pay57 (k0_pay16 lanes) (View.ld x1 (Rect.unit ![0, 256] ![128, 128] inb_S128x512_S128x128_0_256))) (k0_pay58 (k0_pay12 g)) (k0_pay59 (k0_pay12 g)) (View.ld s1 (Rect.unit ![2, 0] ![1, 1] inb_S8x128_S1x1_2_0)) (k0_pay64 (View.ld s0 (Rect.unit ![2, 0, 0] ![1, 128, 256] inb_S4x128x256_S1x128x256_2_0_0))) : FVec Ideal S1x128x256 .f32) (ix3 0 (col 0 (by decide) d) 128) : EReal)
    = (next (blockChunk Y x1 g 2) (blockState s0 s1 2)).n d :=
  next_n (reads2 g Y6 Y8 Y one hY x1 s0 s1) d
include hY in
theorem m2_at : ((k0_pay72 (k0_pay58 (k0_pay12 g)) (k0_pay59 (k0_pay12 g)) (View.ld s1 (Rect.unit ![2, 0] ![1, 1] inb_S8x128_S1x1_2_0)) : FVec Ideal S1x128 .f32) (ix2 0 0) : EReal)
    = (next (blockChunk Y x1 g 2) (blockState s0 s1 2)).m :=
  (pay33_at _ 0).trans (mnew_at (reads2 g Y6 Y8 Y one hY x1 s0 s1))
include hY in
/-- Head 3's payloads, read. -/
theorem out3_at (t v : Fin 128) : ((k0_pay1 (k0_pay84 k0_pay10 (k0_pay11 g) (k0_pay12 g) (k0_pay16 lanes) (k0_pay76 rowsI) (k0_pay77 Y lanes) (k0_pay78 (k0_pay15 (k0_pay14 Y6 Y8 one))) (FloatOps.ofBits FTy.f32 0#32) (View.ld x1 (Rect.unit ![0, 384] ![128, 128] inb_S128x512_S128x128_0_384)) (View.ld s1 (Rect.unit ![3, 0] ![1, 1] inb_S8x128_S1x1_3_0)) (View.ld s0 (Rect.unit ![3, 0, 0] ![1, 128, 256] inb_S4x128x256_S1x128x256_3_0_0))) (k0_pay90 (k0_pay84 k0_pay10 (k0_pay11 g) (k0_pay12 g) (k0_pay16 lanes) (k0_pay76 rowsI) (k0_pay77 Y lanes) (k0_pay78 (k0_pay15 (k0_pay14 Y6 Y8 one))) (FloatOps.ofBits FTy.f32 0#32) (View.ld x1 (Rect.unit ![0, 384] ![128, 128] inb_S128x512_S128x128_0_384)) (View.ld s1 (Rect.unit ![3, 0] ![1, 1] inb_S8x128_S1x1_3_0)) (View.ld s0 (Rect.unit ![3, 0, 0] ![1, 128, 256] inb_S4x128x256_S1x128x256_3_0_0)))) (k0_pay91 (View.ld x2 (Rect.unit ![0, 384] ![128, 128] inb_S128x512_S128x128_0_384))) (View.ld x6 (Rect.unit ![0, 384] ![1, 128] inb_S1x512_S1x128_0_384)) : FVec Ideal S128x128 .bf16) (ix2 t v) : EReal)
    = gated (hout (blockChunk Y x1 g 3) (blockState s0 s1 3) t) (fun x => x6 (ix2 0 ⟨3 * 128 + x.val, by omega⟩)) (fun x => x2 (ix2 t ⟨3 * 128 + x.val, by omega⟩)) v := by
  have e := gated_at (reads3 g Y6 Y8 Y one hY x1 s0 s1) t v (View.ld x2 (Rect.unit ![0, 384] ![128, 128] inb_S128x512_S128x128_0_384)) (View.ld x6 (Rect.unit ![0, 384] ![1, 128] inb_S1x512_S1x128_0_384))
  refine Eq.trans ?_ (e.trans ?_)
  · rfl
  · congr 1 <;> funext x <;> pointwise [] <;> exact congrArg _ (congrArg _ (Fin.ext (by simp)))
include hY in
theorem c3_at (v : Fin 128) (d : Fin 64) : ((k0_pay88 (k0_pay79 (k0_pay76 rowsI) (k0_pay78 (k0_pay15 (k0_pay14 Y6 Y8 one))) (FloatOps.ofBits FTy.f32 0#32)) (k0_pay80 (k0_pay16 lanes) (View.ld x1 (Rect.unit ![0, 384] ![128, 128] inb_S128x512_S128x128_0_384))) (k0_pay81 (k0_pay12 g)) (k0_pay82 (k0_pay12 g)) (View.ld s1 (Rect.unit ![3, 0] ![1, 1] inb_S8x128_S1x1_3_0)) (k0_pay83 (View.ld s0 (Rect.unit ![3, 0, 0] ![1, 128, 256] inb_S4x128x256_S1x128x256_3_0_0))) : FVec Ideal S1x128x256 .f32) (ix3 0 (col 64 (by decide) d) ⟨v.val, by omega⟩) : EReal)
    = (next (blockChunk Y x1 g 3) (blockState s0 s1 3)).C v d :=
  next_C (reads3 g Y6 Y8 Y one hY x1 s0 s1) v d
include hY in
theorem n3_at (d : Fin 64) : ((k0_pay88 (k0_pay79 (k0_pay76 rowsI) (k0_pay78 (k0_pay15 (k0_pay14 Y6 Y8 one))) (FloatOps.ofBits FTy.f32 0#32)) (k0_pay80 (k0_pay16 lanes) (View.ld x1 (Rect.unit ![0, 384] ![128, 128] inb_S128x512_S128x128_0_384))) (k0_pay81 (k0_pay12 g)) (k0_pay82 (k0_pay12 g)) (View.ld s1 (Rect.unit ![3, 0] ![1, 1] inb_S8x128_S1x1_3_0)) (k0_pay83 (View.ld s0 (Rect.unit ![3, 0, 0] ![1, 128, 256] inb_S4x128x256_S1x128x256_3_0_0))) : FVec Ideal S1x128x256 .f32) (ix3 0 (col 64 (by decide) d) 128) : EReal)
    = (next (blockChunk Y x1 g 3) (blockState s0 s1 3)).n d :=
  next_n (reads3 g Y6 Y8 Y one hY x1 s0 s1) d
include hY in
theorem m3_at : ((k0_pay89 (k0_pay81 (k0_pay12 g)) (k0_pay82 (k0_pay12 g)) (View.ld s1 (Rect.unit ![3, 0] ![1, 1] inb_S8x128_S1x1_3_0)) : FVec Ideal S1x128 .f32) (ix2 0 0) : EReal)
    = (next (blockChunk Y x1 g 3) (blockState s0 s1 3)).m :=
  (pay33_at _ 0).trans (mnew_at (reads3 g Y6 Y8 Y one hY x1 s0 s1))

end Cert.KernelIdeal.Head
end
-- ==== Proof.KCase.lean ====
module
public import proofs.«01_k».proof.Proof.KHead

@[expose] public section
set_option maxRecDepth 16384
noncomputable section

namespace Cert.KernelIdeal.Head

open Idealize.ShloMosaic Idealize.ShloMosaic.TcCoe Idealize.SL.Sem
open Cert.KernelIdeal Cert.KernelIdeal.Gen Cert.KernelIdeal.Value Cert.Mlstm

/-- The block's gated convolution. -/
def yOf (x0 : Vec Ideal S128x512 .bf16) (tail : Vec Ideal S8x512 .f32) (x4 : Vec Ideal S4x512 .f32) (x5 : Vec Ideal S1x512 .f32) : FVec Ideal S128x512 .f32 :=
  k0_pay9 (k0_pay6 x0 tail x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 tail x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (FloatOps.ofBits FTy.f32 1065353216#32)

theorem outB_at (c : Dev nD) (i : grid0.Coords) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x128 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S128x512 .bf16) (harg9 : arg9.IsWhole) (arg10 : Memref sig .tc .vmem S4x128x256 .f32) (harg10 : arg10.IsWhole) (arg11 : Memref sig .tc .vmem S8x128 .f32) (harg11 : arg11.IsWhole) (arg12 : Memref sig .tc .vmem S8x512 .f32) (harg12 : arg12.IsWhole) (arg13 : Memref sig .tc .vmem S2x128x128 .f32) (harg13 : arg13.IsWhole) (hc0 : ¬cond0_0 i) (x0 : Vec Ideal S128x512 .bf16) (x1 : Vec Ideal S128x512 .bf16) (x2 : Vec Ideal S128x512 .bf16) (x3 : Vec Ideal S128x128 .f32) (x4 : Vec Ideal S4x512 .f32) (x5 : Vec Ideal S1x512 .f32) (x6 : Vec Ideal S1x512 .f32) (xs0 : Vec Ideal S4x128x256 .f32) (xs1 : Vec Ideal S8x128 .f32) (xs2 : Vec Ideal S8x512 .f32) (h : Fin 4) (t v : Fin 128) :
    (out0_B_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 xs2 (ix2 t ⟨h.val * 128 + v.val, by omega⟩) : EReal)
      = gated (hout (blockChunk (yOf x0 xs2 x4 x5) x1 x3 h) (blockState xs0 xs1 h) t) (fun x => x6 (ix2 0 ⟨h.val * 128 + x.val, by omega⟩)) (fun x => x2 (ix2 t ⟨h.val * 128 + x.val, by omega⟩)) v := by
  frame_out
  try simp (disch := decide) only [View.readCov_skip, View.readCov_cons_toLoadRect]
  refine (out_sel _ _ _ _ _ h t v).trans ?_
  match h with
  | 0 => exact out0_at x3 (k0_pay6 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 xs2 x4 x5) (FloatOps.ofBits FTy.f32 1065353216#32) rfl x1 x2 x6 xs0 xs1 t v
  | 1 => exact out1_at x3 (k0_pay6 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 xs2 x4 x5) (FloatOps.ofBits FTy.f32 1065353216#32) rfl x1 x2 x6 xs0 xs1 t v
  | 2 => exact out2_at x3 (k0_pay6 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 xs2 x4 x5) (FloatOps.ofBits FTy.f32 1065353216#32) rfl x1 x2 x6 xs0 xs1 t v
  | 3 => exact out3_at x3 (k0_pay6 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 xs2 x4 x5) (FloatOps.ofBits FTy.f32 1065353216#32) rfl x1 x2 x6 xs0 xs1 t v
theorem cB_at (c : Dev nD) (i : grid0.Coords) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x128 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S128x512 .bf16) (harg9 : arg9.IsWhole) (arg10 : Memref sig .tc .vmem S4x128x256 .f32) (harg10 : arg10.IsWhole) (arg11 : Memref sig .tc .vmem S8x128 .f32) (harg11 : arg11.IsWhole) (arg12 : Memref sig .tc .vmem S8x512 .f32) (harg12 : arg12.IsWhole) (arg13 : Memref sig .tc .vmem S2x128x128 .f32) (harg13 : arg13.IsWhole) (hc0 : ¬cond0_0 i) (x0 : Vec Ideal S128x512 .bf16) (x1 : Vec Ideal S128x512 .bf16) (x2 : Vec Ideal S128x512 .bf16) (x3 : Vec Ideal S128x128 .f32) (x4 : Vec Ideal S4x512 .f32) (x5 : Vec Ideal S1x512 .f32) (x6 : Vec Ideal S1x512 .f32) (xs0 : Vec Ideal S4x128x256 .f32) (xs1 : Vec Ideal S8x128 .f32) (xs2 : Vec Ideal S8x512 .f32) (h : Fin 4) (v : Fin 128) (d : Fin 64) :
    (sout0_B_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 xs2 (ix3 h (col (base h) (base_le h) d) ⟨v.val, by omega⟩) : EReal)
      = (next (blockChunk (yOf x0 xs2 x4 x5) x1 x3 h) (blockState xs0 xs1 h)).C v d := by
  frame_out
  try simp (disch := decide) only [View.readCov_skip, View.readCov_cons_toLoadRect]
  refine (s0_sel _ _ _ _ _ h _ _).trans ?_
  match h with
  | 0 => exact c0_at x3 (k0_pay6 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 xs2 x4 x5) (FloatOps.ofBits FTy.f32 1065353216#32) rfl x1 xs0 xs1 v d
  | 1 => exact c1_at x3 (k0_pay6 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 xs2 x4 x5) (FloatOps.ofBits FTy.f32 1065353216#32) rfl x1 xs0 xs1 v d
  | 2 => exact c2_at x3 (k0_pay6 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 xs2 x4 x5) (FloatOps.ofBits FTy.f32 1065353216#32) rfl x1 xs0 xs1 v d
  | 3 => exact c3_at x3 (k0_pay6 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 xs2 x4 x5) (FloatOps.ofBits FTy.f32 1065353216#32) rfl x1 xs0 xs1 v d
theorem nB_at (c : Dev nD) (i : grid0.Coords) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x128 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S128x512 .bf16) (harg9 : arg9.IsWhole) (arg10 : Memref sig .tc .vmem S4x128x256 .f32) (harg10 : arg10.IsWhole) (arg11 : Memref sig .tc .vmem S8x128 .f32) (harg11 : arg11.IsWhole) (arg12 : Memref sig .tc .vmem S8x512 .f32) (harg12 : arg12.IsWhole) (arg13 : Memref sig .tc .vmem S2x128x128 .f32) (harg13 : arg13.IsWhole) (hc0 : ¬cond0_0 i) (x0 : Vec Ideal S128x512 .bf16) (x1 : Vec Ideal S128x512 .bf16) (x2 : Vec Ideal S128x512 .bf16) (x3 : Vec Ideal S128x128 .f32) (x4 : Vec Ideal S4x512 .f32) (x5 : Vec Ideal S1x512 .f32) (x6 : Vec Ideal S1x512 .f32) (xs0 : Vec Ideal S4x128x256 .f32) (xs1 : Vec Ideal S8x128 .f32) (xs2 : Vec Ideal S8x512 .f32) (h : Fin 4) (d : Fin 64) :
    (sout0_B_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 xs2 (ix3 h (col (base h) (base_le h) d) 128) : EReal)
      = (next (blockChunk (yOf x0 xs2 x4 x5) x1 x3 h) (blockState xs0 xs1 h)).n d := by
  frame_out
  try simp (disch := decide) only [View.readCov_skip, View.readCov_cons_toLoadRect]
  refine (s0_sel _ _ _ _ _ h _ _).trans ?_
  match h with
  | 0 => exact n0_at x3 (k0_pay6 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 xs2 x4 x5) (FloatOps.ofBits FTy.f32 1065353216#32) rfl x1 xs0 xs1 d
  | 1 => exact n1_at x3 (k0_pay6 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 xs2 x4 x5) (FloatOps.ofBits FTy.f32 1065353216#32) rfl x1 xs0 xs1 d
  | 2 => exact n2_at x3 (k0_pay6 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 xs2 x4 x5) (FloatOps.ofBits FTy.f32 1065353216#32) rfl x1 xs0 xs1 d
  | 3 => exact n3_at x3 (k0_pay6 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 xs2 x4 x5) (FloatOps.ofBits FTy.f32 1065353216#32) rfl x1 xs0 xs1 d
theorem mB_at (c : Dev nD) (i : grid0.Coords) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x128 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S128x512 .bf16) (harg9 : arg9.IsWhole) (arg10 : Memref sig .tc .vmem S4x128x256 .f32) (harg10 : arg10.IsWhole) (arg11 : Memref sig .tc .vmem S8x128 .f32) (harg11 : arg11.IsWhole) (arg12 : Memref sig .tc .vmem S8x512 .f32) (harg12 : arg12.IsWhole) (arg13 : Memref sig .tc .vmem S2x128x128 .f32) (harg13 : arg13.IsWhole) (hc0 : ¬cond0_0 i) (x0 : Vec Ideal S128x512 .bf16) (x1 : Vec Ideal S128x512 .bf16) (x2 : Vec Ideal S128x512 .bf16) (x3 : Vec Ideal S128x128 .f32) (x4 : Vec Ideal S4x512 .f32) (x5 : Vec Ideal S1x512 .f32) (x6 : Vec Ideal S1x512 .f32) (xs0 : Vec Ideal S4x128x256 .f32) (xs1 : Vec Ideal S8x128 .f32) (xs2 : Vec Ideal S8x512 .f32) (h : Fin 4) :
    (sout0_B_1 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 xs2 (ix2 ⟨h.val, by omega⟩ 0) : EReal)
      = (next (blockChunk (yOf x0 xs2 x4 x5) x1 x3 h) (blockState xs0 xs1 h)).m := by
  frame_out
  try simp (disch := decide) only [View.readCov_skip, View.readCov_cons_toLoadRect]
  refine (s1_sel_writes _ _ _ _ _ _ h).trans ?_
  match h with
  | 0 => exact m0_at x3 (k0_pay6 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 xs2 x4 x5) (FloatOps.ofBits FTy.f32 1065353216#32) rfl x1 xs0 xs1
  | 1 => exact m1_at x3 (k0_pay6 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 xs2 x4 x5) (FloatOps.ofBits FTy.f32 1065353216#32) rfl x1 xs0 xs1
  | 2 => exact m2_at x3 (k0_pay6 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 xs2 x4 x5) (FloatOps.ofBits FTy.f32 1065353216#32) rfl x1 xs0 xs1
  | 3 => exact m3_at x3 (k0_pay6 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 xs2 x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 xs2 x4 x5) (FloatOps.ofBits FTy.f32 1065353216#32) rfl x1 xs0 xs1
theorem tailB (c : Dev nD) (i : grid0.Coords) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x128 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S128x512 .bf16) (harg9 : arg9.IsWhole) (arg10 : Memref sig .tc .vmem S4x128x256 .f32) (harg10 : arg10.IsWhole) (arg11 : Memref sig .tc .vmem S8x128 .f32) (harg11 : arg11.IsWhole) (arg12 : Memref sig .tc .vmem S8x512 .f32) (harg12 : arg12.IsWhole) (arg13 : Memref sig .tc .vmem S2x128x128 .f32) (harg13 : arg13.IsWhole) (hc0 : ¬cond0_0 i) (x0 : Vec Ideal S128x512 .bf16) (x1 : Vec Ideal S128x512 .bf16) (x2 : Vec Ideal S128x512 .bf16) (x3 : Vec Ideal S128x128 .f32) (x4 : Vec Ideal S4x512 .f32) (x5 : Vec Ideal S1x512 .f32) (x6 : Vec Ideal S1x512 .f32) (xs0 : Vec Ideal S4x128x256 .f32) (xs1 : Vec Ideal S8x128 .f32) (xs2 : Vec Ideal S8x512 .f32) : sout0_B_2 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 xs2 = k0_pay7 x0 := by
  frame_out
theorem outA_at (c : Dev nD) (i : grid0.Coords) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x128 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S128x512 .bf16) (harg9 : arg9.IsWhole) (arg10 : Memref sig .tc .vmem S4x128x256 .f32) (harg10 : arg10.IsWhole) (arg11 : Memref sig .tc .vmem S8x128 .f32) (harg11 : arg11.IsWhole) (arg12 : Memref sig .tc .vmem S8x512 .f32) (harg12 : arg12.IsWhole) (arg13 : Memref sig .tc .vmem S2x128x128 .f32) (harg13 : arg13.IsWhole) (hc0 : cond0_0 i) (x0 : Vec Ideal S128x512 .bf16) (x1 : Vec Ideal S128x512 .bf16) (x2 : Vec Ideal S128x512 .bf16) (x3 : Vec Ideal S128x128 .f32) (x4 : Vec Ideal S4x512 .f32) (x5 : Vec Ideal S1x512 .f32) (x6 : Vec Ideal S1x512 .f32)  (h : Fin 4) (t v : Fin 128) :
    (out0_A_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 t ⟨h.val * 128 + v.val, by omega⟩) : EReal)
      = gated (hout (blockChunk (yOf x0 (k0_pay4 (F := Ideal)) x4 x5) x1 x3 h) (blockState (k0_pay2 (F := Ideal)) (k0_pay3 (F := Ideal)) h) t) (fun x => x6 (ix2 0 ⟨h.val * 128 + x.val, by omega⟩)) (fun x => x2 (ix2 t ⟨h.val * 128 + x.val, by omega⟩)) v := by
  frame_open
  simp (disch := decide) only [↓ View.readCov_skip, ↓ View.readCov_fill]
  frame_out
  try simp (disch := decide) only [View.readCov_skip, View.readCov_cons_toLoadRect]
  refine (out_sel _ _ _ _ _ h t v).trans ?_
  match h with
  | 0 => exact out0_at x3 (k0_pay6 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 (k0_pay4 (F := Ideal)) x4 x5) (FloatOps.ofBits FTy.f32 1065353216#32) rfl x1 x2 x6 (k0_pay2 (F := Ideal)) (k0_pay3 (F := Ideal)) t v
  | 1 => exact out1_at x3 (k0_pay6 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 (k0_pay4 (F := Ideal)) x4 x5) (FloatOps.ofBits FTy.f32 1065353216#32) rfl x1 x2 x6 (k0_pay2 (F := Ideal)) (k0_pay3 (F := Ideal)) t v
  | 2 => exact out2_at x3 (k0_pay6 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 (k0_pay4 (F := Ideal)) x4 x5) (FloatOps.ofBits FTy.f32 1065353216#32) rfl x1 x2 x6 (k0_pay2 (F := Ideal)) (k0_pay3 (F := Ideal)) t v
  | 3 => exact out3_at x3 (k0_pay6 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 (k0_pay4 (F := Ideal)) x4 x5) (FloatOps.ofBits FTy.f32 1065353216#32) rfl x1 x2 x6 (k0_pay2 (F := Ideal)) (k0_pay3 (F := Ideal)) t v
theorem cA_at (c : Dev nD) (i : grid0.Coords) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x128 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S128x512 .bf16) (harg9 : arg9.IsWhole) (arg10 : Memref sig .tc .vmem S4x128x256 .f32) (harg10 : arg10.IsWhole) (arg11 : Memref sig .tc .vmem S8x128 .f32) (harg11 : arg11.IsWhole) (arg12 : Memref sig .tc .vmem S8x512 .f32) (harg12 : arg12.IsWhole) (arg13 : Memref sig .tc .vmem S2x128x128 .f32) (harg13 : arg13.IsWhole) (hc0 : cond0_0 i) (x0 : Vec Ideal S128x512 .bf16) (x1 : Vec Ideal S128x512 .bf16) (x2 : Vec Ideal S128x512 .bf16) (x3 : Vec Ideal S128x128 .f32) (x4 : Vec Ideal S4x512 .f32) (x5 : Vec Ideal S1x512 .f32) (x6 : Vec Ideal S1x512 .f32)  (h : Fin 4) (v : Fin 128) (d : Fin 64) :
    (sout0_A_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 (ix3 h (col (base h) (base_le h) d) ⟨v.val, by omega⟩) : EReal)
      = (next (blockChunk (yOf x0 (k0_pay4 (F := Ideal)) x4 x5) x1 x3 h) (blockState (k0_pay2 (F := Ideal)) (k0_pay3 (F := Ideal)) h)).C v d := by
  frame_open
  simp (disch := decide) only [↓ View.readCov_skip, ↓ View.readCov_fill]
  frame_out
  try simp (disch := decide) only [View.readCov_skip, View.readCov_cons_toLoadRect]
  refine (s0_sel _ _ _ _ _ h _ _).trans ?_
  match h with
  | 0 => exact c0_at x3 (k0_pay6 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 (k0_pay4 (F := Ideal)) x4 x5) (FloatOps.ofBits FTy.f32 1065353216#32) rfl x1 (k0_pay2 (F := Ideal)) (k0_pay3 (F := Ideal)) v d
  | 1 => exact c1_at x3 (k0_pay6 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 (k0_pay4 (F := Ideal)) x4 x5) (FloatOps.ofBits FTy.f32 1065353216#32) rfl x1 (k0_pay2 (F := Ideal)) (k0_pay3 (F := Ideal)) v d
  | 2 => exact c2_at x3 (k0_pay6 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 (k0_pay4 (F := Ideal)) x4 x5) (FloatOps.ofBits FTy.f32 1065353216#32) rfl x1 (k0_pay2 (F := Ideal)) (k0_pay3 (F := Ideal)) v d
  | 3 => exact c3_at x3 (k0_pay6 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 (k0_pay4 (F := Ideal)) x4 x5) (FloatOps.ofBits FTy.f32 1065353216#32) rfl x1 (k0_pay2 (F := Ideal)) (k0_pay3 (F := Ideal)) v d
theorem nA_at (c : Dev nD) (i : grid0.Coords) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x128 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S128x512 .bf16) (harg9 : arg9.IsWhole) (arg10 : Memref sig .tc .vmem S4x128x256 .f32) (harg10 : arg10.IsWhole) (arg11 : Memref sig .tc .vmem S8x128 .f32) (harg11 : arg11.IsWhole) (arg12 : Memref sig .tc .vmem S8x512 .f32) (harg12 : arg12.IsWhole) (arg13 : Memref sig .tc .vmem S2x128x128 .f32) (harg13 : arg13.IsWhole) (hc0 : cond0_0 i) (x0 : Vec Ideal S128x512 .bf16) (x1 : Vec Ideal S128x512 .bf16) (x2 : Vec Ideal S128x512 .bf16) (x3 : Vec Ideal S128x128 .f32) (x4 : Vec Ideal S4x512 .f32) (x5 : Vec Ideal S1x512 .f32) (x6 : Vec Ideal S1x512 .f32)  (h : Fin 4) (d : Fin 64) :
    (sout0_A_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 (ix3 h (col (base h) (base_le h) d) 128) : EReal)
      = (next (blockChunk (yOf x0 (k0_pay4 (F := Ideal)) x4 x5) x1 x3 h) (blockState (k0_pay2 (F := Ideal)) (k0_pay3 (F := Ideal)) h)).n d := by
  frame_open
  simp (disch := decide) only [↓ View.readCov_skip, ↓ View.readCov_fill]
  frame_out
  try simp (disch := decide) only [View.readCov_skip, View.readCov_cons_toLoadRect]
  refine (s0_sel _ _ _ _ _ h _ _).trans ?_
  match h with
  | 0 => exact n0_at x3 (k0_pay6 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 (k0_pay4 (F := Ideal)) x4 x5) (FloatOps.ofBits FTy.f32 1065353216#32) rfl x1 (k0_pay2 (F := Ideal)) (k0_pay3 (F := Ideal)) d
  | 1 => exact n1_at x3 (k0_pay6 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 (k0_pay4 (F := Ideal)) x4 x5) (FloatOps.ofBits FTy.f32 1065353216#32) rfl x1 (k0_pay2 (F := Ideal)) (k0_pay3 (F := Ideal)) d
  | 2 => exact n2_at x3 (k0_pay6 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 (k0_pay4 (F := Ideal)) x4 x5) (FloatOps.ofBits FTy.f32 1065353216#32) rfl x1 (k0_pay2 (F := Ideal)) (k0_pay3 (F := Ideal)) d
  | 3 => exact n3_at x3 (k0_pay6 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 (k0_pay4 (F := Ideal)) x4 x5) (FloatOps.ofBits FTy.f32 1065353216#32) rfl x1 (k0_pay2 (F := Ideal)) (k0_pay3 (F := Ideal)) d
theorem mA_at (c : Dev nD) (i : grid0.Coords) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x128 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S128x512 .bf16) (harg9 : arg9.IsWhole) (arg10 : Memref sig .tc .vmem S4x128x256 .f32) (harg10 : arg10.IsWhole) (arg11 : Memref sig .tc .vmem S8x128 .f32) (harg11 : arg11.IsWhole) (arg12 : Memref sig .tc .vmem S8x512 .f32) (harg12 : arg12.IsWhole) (arg13 : Memref sig .tc .vmem S2x128x128 .f32) (harg13 : arg13.IsWhole) (hc0 : cond0_0 i) (x0 : Vec Ideal S128x512 .bf16) (x1 : Vec Ideal S128x512 .bf16) (x2 : Vec Ideal S128x512 .bf16) (x3 : Vec Ideal S128x128 .f32) (x4 : Vec Ideal S4x512 .f32) (x5 : Vec Ideal S1x512 .f32) (x6 : Vec Ideal S1x512 .f32)  (h : Fin 4) :
    (sout0_A_1 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 ⟨h.val, by omega⟩ 0) : EReal)
      = (next (blockChunk (yOf x0 (k0_pay4 (F := Ideal)) x4 x5) x1 x3 h) (blockState (k0_pay2 (F := Ideal)) (k0_pay3 (F := Ideal)) h)).m := by
  frame_open
  simp (disch := decide) only [↓ View.readCov_skip, ↓ View.readCov_fill]
  frame_out
  try simp (disch := decide) only [View.readCov_skip, View.readCov_cons_toLoadRect]
  refine (s1_sel _ _ _ _ _ h).trans ?_
  match h with
  | 0 => exact m0_at x3 (k0_pay6 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 (k0_pay4 (F := Ideal)) x4 x5) (FloatOps.ofBits FTy.f32 1065353216#32) rfl x1 (k0_pay2 (F := Ideal)) (k0_pay3 (F := Ideal))
  | 1 => exact m1_at x3 (k0_pay6 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 (k0_pay4 (F := Ideal)) x4 x5) (FloatOps.ofBits FTy.f32 1065353216#32) rfl x1 (k0_pay2 (F := Ideal)) (k0_pay3 (F := Ideal))
  | 2 => exact m2_at x3 (k0_pay6 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 (k0_pay4 (F := Ideal)) x4 x5) (FloatOps.ofBits FTy.f32 1065353216#32) rfl x1 (k0_pay2 (F := Ideal)) (k0_pay3 (F := Ideal))
  | 3 => exact m3_at x3 (k0_pay6 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (k0_pay8 x0 (k0_pay4 (F := Ideal)) x5 (View.ld x4 (Rect.unit ![0, 0] ![1, 512] inb_S4x512_S1x512_0_0)) (View.ld x4 (Rect.unit ![1, 0] ![1, 512] inb_S4x512_S1x512_1_0)) (View.ld x4 (Rect.unit ![2, 0] ![1, 512] inb_S4x512_S1x512_2_0)) (View.ld x4 (Rect.unit ![3, 0] ![1, 512] inb_S4x512_S1x512_3_0))) (yOf x0 (k0_pay4 (F := Ideal)) x4 x5) (FloatOps.ofBits FTy.f32 1065353216#32) rfl x1 (k0_pay2 (F := Ideal)) (k0_pay3 (F := Ideal))
theorem tailA (c : Dev nD) (i : grid0.Coords) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x128 .f32) (harg5 : arg5.IsWhole) (arg6 : Memref sig .tc .vmem S4x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S128x512 .bf16) (harg9 : arg9.IsWhole) (arg10 : Memref sig .tc .vmem S4x128x256 .f32) (harg10 : arg10.IsWhole) (arg11 : Memref sig .tc .vmem S8x128 .f32) (harg11 : arg11.IsWhole) (arg12 : Memref sig .tc .vmem S8x512 .f32) (harg12 : arg12.IsWhole) (arg13 : Memref sig .tc .vmem S2x128x128 .f32) (harg13 : arg13.IsWhole) (hc0 : cond0_0 i) (x0 : Vec Ideal S128x512 .bf16) (x1 : Vec Ideal S128x512 .bf16) (x2 : Vec Ideal S128x512 .bf16) (x3 : Vec Ideal S128x128 .f32) (x4 : Vec Ideal S4x512 .f32) (x5 : Vec Ideal S1x512 .f32) (x6 : Vec Ideal S1x512 .f32)  : sout0_A_2 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 = k0_pay7 x0 := by
  frame_out

end Cert.KernelIdeal.Head
end
-- ==== Proof.KInv.lean ====
module
public import proofs.«01_k».proof.Proof.KCase
public import Idealize.ShloMosaic.Lib.Pipeline.ValueKit.Point

@[expose] public section
set_option maxRecDepth 16384
noncomputable section

namespace Cert.KernelIdeal.Head

open Idealize.ShloMosaic Idealize.ShloMosaic.TcCoe Idealize.SL.Sem
open Cert.KernelIdeal Cert.KernelIdeal.Gen Cert.KernelIdeal.Value Cert.Mlstm

/-- The block's gated convolution is the sequence's, at the block's rows, when the kept rows are the eight before the block. -/
theorem yOf_at (A : Args) (b : Fin 2) (j : ℕ) (x0 : Vec Ideal S128x512 .bf16) (tail : Vec Ideal S8x512 .f32) (x4 : Vec Ideal S4x512 .f32) (x5 : Vec Ideal S1x512 .f32)
    (h0 : ∀ t u, (x0 (ix2 t u) : EReal) = A.qk b (j * 128 + t.val) u)
    (ht : ∀ i u, (tail (ix2 i u) : EReal) = if j = 0 then 0 else A.qk b (j * 128 + i.val - 8) u)
    (h4 : ∀ i u, (x4 (ix2 i u) : EReal) = A.w i u) (h5 : ∀ u, (x5 (ix2 0 u) : EReal) = A.b u)
    (t : Fin 128) (u : Fin 512) : (yOf x0 tail x4 x5 (ix2 t u) : EReal) = act A b (j * 128 + t.val) u := by
  have key (k : ℕ) (hk : k ≤ 3) (hk1 : 1 ≤ k) (e1 : 8 - k + t.val < 8 → 8 - k + t.val < 8) (e2 : ¬(8 - k + t.val < 8) → 8 - k + t.val - 8 < 128) :
      (if h : 8 - k + t.val < 8 then (tail (ix2 ⟨8 - k + t.val, e1 h⟩ u) : EReal) else x0 (ix2 ⟨8 - k + t.val - 8, e2 h⟩ u))
        = if k ≤ j * 128 + t.val then A.qk b (j * 128 + t.val - k) u else 0 := by
    by_cases h : 8 - k + t.val < 8
    · rw [dif_pos h, ht]
      by_cases hj : j = 0
      · rw [if_pos hj, if_neg (by omega)]
      · rw [if_neg hj, if_pos (by omega), show j * 128 + (8 - k + t.val) - 8 = j * 128 + t.val - k by omega]
    · rw [dif_neg h, h0, if_pos (by omega), show j * 128 + (8 - k + t.val - 8) = j * 128 + t.val - k by omega]
  have e5 := key 3 (by omega) (by omega) (fun h => h) (fun _ => by omega)
  have e6 := key 2 (by omega) (by omega) (fun h => h) (fun _ => by omega)
  have e7 := key 1 (by omega) (by omega) (fun h => h) (fun _ => by omega)
  unfold yOf
  pointwise [k0_pay9, k0_pay8, k0_pay6, k0_pay5]
  unfold act silu conv
  dsimp only
  erw [e5, e6, e7]
  rw [h5, h4, h4, h4, h4, h0, zero_sub]

variable (m : (ℓ : Loc nD τ sig) → Buf (Elt Ideal) ℓ) (c : Dev nD)

theorem idx_rows : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) := by decide +kernel

theorem blk0_at (t : Fin cfg0.N) (r : Fin 128) (u : Fin 512) : (iblk m c 0 t : Vec Ideal S128x512 .bf16) (ix2 r u)
    = (m ((c.tc : Thread nD τ).loc main_arg0) : FVec Ideal S16384x512 .bf16) (ix2 ⟨t.val * 128 + r.val, by have : cfg0.N = 128 := N_0; omega⟩ u) := by
  blk_ext [iblk, V, (idx_rows t).1.1, (idx_rows t).1.2]
theorem blk1_at (t : Fin cfg0.N) (r : Fin 128) (u : Fin 512) : (iblk m c 1 t : Vec Ideal S128x512 .bf16) (ix2 r u)
    = (m ((c.tc : Thread nD τ).loc main_arg1) : FVec Ideal S16384x512 .bf16) (ix2 ⟨t.val * 128 + r.val, by have : cfg0.N = 128 := N_0; omega⟩ u) := by
  blk_ext [iblk, V, (idx_rows t).2.1.1, (idx_rows t).2.1.2]
theorem blk2_at (t : Fin cfg0.N) (r : Fin 128) (u : Fin 512) : (iblk m c 2 t : Vec Ideal S128x512 .bf16) (ix2 r u)
    = (m ((c.tc : Thread nD τ).loc main_arg2) : FVec Ideal S16384x512 .bf16) (ix2 ⟨t.val * 128 + r.val, by have : cfg0.N = 128 := N_0; omega⟩ u) := by
  blk_ext [iblk, V, (idx_rows t).2.2.1.1, (idx_rows t).2.2.1.2]
theorem blk3_at (t : Fin cfg0.N) (r : Fin 128) (u : Fin 128) : (iblk m c 3 t : Vec Ideal S128x128 .f32) (ix2 r u)
    = (m ((c.tc : Thread nD τ).loc main_arg3) : FVec Ideal S16384x128 .f32) (ix2 ⟨t.val * 128 + r.val, by have : cfg0.N = 128 := N_0; omega⟩ u) := by
  blk_ext [iblk, V, (idx_rows t).2.2.2.1.1, (idx_rows t).2.2.2.1.2]
theorem blk4_at (t : Fin cfg0.N) (r : Fin 4) (u : Fin 512) : (iblk m c 4 t : Vec Ideal S4x512 .f32) (ix2 r u)
    = (m ((c.tc : Thread nD τ).loc main_arg4) : FVec Ideal S4x512 .f32) (ix2 r u) := by
  blk_ext [iblk, V, (idx_rows t).2.2.2.2.1.1, (idx_rows t).2.2.2.2.1.2]
theorem blk5_at (t : Fin cfg0.N) (r : Fin 1) (u : Fin 512) : (iblk m c 5 t : Vec Ideal S1x512 .f32) (ix2 r u)
    = (m ((c.tc : Thread nD τ).loc main_arg5) : FVec Ideal S1x512 .f32) (ix2 r u) := by
  blk_ext [iblk, V, (idx_rows t).2.2.2.2.2.1.1, (idx_rows t).2.2.2.2.2.1.2]
theorem blk6_at (t : Fin cfg0.N) (r : Fin 1) (u : Fin 512) : (iblk m c 6 t : Vec Ideal S1x512 .f32) (ix2 r u)
    = (m ((c.tc : Thread nD τ).loc main_arg6) : FVec Ideal S1x512 .f32) (ix2 r u) := by
  blk_ext [iblk, V, (idx_rows t).2.2.2.2.2.2.1, (idx_rows t).2.2.2.2.2.2.2]

/-- The programs' arguments. -/
def argsK : Args := argsOf (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6))

/-- A row of an argument by its block. -/
theorem row_blk {n : ℕ} {φ : FTy} (a : FVec Ideal ⟨2, ![16384, n]⟩ φ) (b : Fin 2) (j : Fin 64) (p : ℕ) (hp : p = b.val * 64 + j.val) (t : Fin 128) (u : Fin n) (hb : p * 128 + t.val < 16384) :
    (a (ix2 ⟨p * 128 + t.val, hb⟩ u) : EReal) = rowOf a b (j.val * 128 + t.val) u := by
  have hj := j.isLt
  have ht := t.isLt
  rw [rowOf_lt a b _ (by omega) u]
  exact congrArg (fun r : Fin 16384 => (a (ix2 r u) : EReal)) (Fin.ext (by show p * 128 + t.val = b.val * 8192 + (j.val * 128 + t.val); omega))

/-- What holds after the point. -/
structure After (acc : Vec Ideal S128x512 .bf16 × Vec Ideal S4x128x256 .f32 × Vec Ideal S8x128 .f32 × Vec Ideal S8x512 .f32) (b : Fin 2) (j : ℕ) : Prop where
  out : ∀ (h : Fin 4) (r v : Fin 128), (acc.1 (ix2 r ⟨h.val * 128 + v.val, by omega⟩) : EReal) = result (argsK m c) b h j r v
  st : ∀ h, blockState acc.2.1 acc.2.2.1 h = state (chunkOf (argsK m c) b h) (j + 1)
  tail : ∀ (i : Fin 8) (u : Fin 512), (acc.2.2.2 (ix2 i u) : EReal) = (argsK m c).qk b (j * 128 + 120 + i.val) u

section point
variable (t : Fin cfg0.N) (b : Fin 2) (j : Fin 64) (hp : t.val = b.val * 64 + j.val)
include hp

theorem qk_at (r : Fin 128) (u : Fin 512) : ((iblk m c 0 t : Vec Ideal S128x512 .bf16) (ix2 r u) : EReal) = (argsK m c).qk b (j.val * 128 + r.val) u :=
  (blk0_at m c t r u).trans (row_blk (φ := .bf16) _ b j _ hp r u _)
theorem v_at (r : Fin 128) (u : Fin 512) : ((iblk m c 1 t : Vec Ideal S128x512 .bf16) (ix2 r u) : EReal) = (argsK m c).v b (j.val * 128 + r.val) u :=
  (blk1_at m c t r u).trans (row_blk (φ := .bf16) _ b j _ hp r u _)
theorem o_at (r : Fin 128) (u : Fin 512) : ((iblk m c 2 t : Vec Ideal S128x512 .bf16) (ix2 r u) : EReal) = (argsK m c).o b (j.val * 128 + r.val) u :=
  (blk2_at m c t r u).trans (row_blk (φ := .bf16) _ b j _ hp r u _)
theorem g_at (r : Fin 128) (u : Fin 128) : ((iblk m c 3 t : Vec Ideal S128x128 .f32) (ix2 r u) : EReal) = (argsK m c).g b (j.val * 128 + r.val) u :=
  (blk3_at m c t r u).trans (row_blk (φ := .f32) _ b j _ hp r u _)

/-- What a head reads at a point is its chunk of the sequence. -/
theorem chunk_eq (tail : Vec Ideal S8x512 .f32)
    (ht : ∀ i u, (tail (ix2 i u) : EReal) = if j.val = 0 then 0 else (argsK m c).qk b (j.val * 128 + i.val - 8) u) (h : Fin 4) :
    blockChunk (yOf (iblk m c 0 t) tail (iblk m c 4 t) (iblk m c 5 t)) (iblk m c 1 t) (iblk m c 3 t) h = chunkOf (argsK m c) b h j.val := by
  have hy := yOf_at (argsK m c) b j.val (iblk m c 0 t) tail (iblk m c 4 t) (iblk m c 5 t) (qk_at m c t b j hp) ht (blk4_at m c t) (blk5_at m c t 0)
  unfold blockChunk chunkOf
  congr 1
  · funext r d
    exact congrArg (fun z : EReal => z * _) (hy r _)
  · funext r d
    exact hy r _
  · funext r u
    exact v_at m c t b j hp r _
  · funext r
    exact g_at m c t b j hp r _
  · funext r
    exact congrArg logsig (g_at m c t b j hp r _)

theorem tail_at (i : Fin 8) (u : Fin 512) : (k0_pay7 (F := Ideal) (iblk m c 0 t) (ix2 i u) : EReal) = (argsK m c).qk b (j.val * 128 + 120 + i.val) u := by
  have e := qk_at m c t b j hp ⟨120 + i.val, by omega⟩ u
  generalize (iblk m c 0 t : Vec Ideal S128x512 .bf16) = x at e ⊢
  pointwise [k0_pay7, k0_pay5]
  rw [e]
  exact congrArg (fun r => (argsK m c).qk b r u) (by show j.val * 128 + (120 + i.val) = _; omega)

end point

theorem state_ext {a b : St} (hC : ∀ v d, a.C v d = b.C v d) (hn : ∀ d, a.n d = b.n d) (hm : a.m = b.m) : a = b := by
  cases a; cases b
  congr 1
  · funext v d; exact hC v d
  · funext d; exact hn d

theorem blockState_eq (s0 : Vec Ideal S4x128x256 .f32) (s1 : Vec Ideal S8x128 .f32) (h : Fin 4) (σ : St)
    (hC : ∀ (v : Fin 128) d, (s0 (ix3 h (col (base h) (base_le h) d) ⟨v.val, by omega⟩) : EReal) = σ.C v d)
    (hn : ∀ d, (s0 (ix3 h (col (base h) (base_le h) d) 128) : EReal) = σ.n d) (hm : (s1 (ix2 ⟨h.val, by omega⟩ 0) : EReal) = σ.m) :
    blockState s0 s1 h = σ := state_ext hC hn hm

theorem state_succ (X : ℕ → Chunk) (j : ℕ) : state X (j + 1) = next (X j) (state X j) := rfl

theorem zero_state (h : Fin 4) : blockState (k0_pay2 (F := Ideal)) (k0_pay3 (F := Ideal)) h = ⟨fun _ _ => 0, fun _ => 0, 0⟩ := by
  unfold blockState
  refine state_ext (fun v d => ?_) (fun d => ?_) ?_ <;> dsimp only
  · pointwise [k0_pay2]
  · pointwise [k0_pay2]
  · pointwise [k0_pay3]

theorem zero_tail (i : Fin 8) (u : Fin 512) : (k0_pay4 (F := Ideal) (ix2 i u) : EReal) = 0 := by
  pointwise [k0_pay4]

/-- A batch's first chunk. -/
theorem after_first (t : Fin cfg0.N) (b : Fin 2) (hp : t.val = b.val * 64) (acc : _) : After m c (stAt0 m c t.val t.isLt acc) b 0 := by
  have h0 : t.val % 64 = 0 := by omega
  have hp' : t.val = b.val * 64 + (0 : Fin 64).val := hp
  have hch (h : Fin 4) := chunk_eq m c t b 0 hp' (k0_pay4 (F := Ideal)) (fun i u => (zero_tail i u).trans (if_pos rfl).symm) h
  rw [stAt0_A m c t acc h0]
  refine ⟨fun h r v => ?_, fun h => ?_, fun i u => ?_⟩
  · refine (outA_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) h r v).trans ?_
    rw [hch h, zero_state]
    unfold result
    congr 1
    · funext x
      exact blk6_at m c t 0 _
    · funext x
      exact o_at m c t b 0 hp' r _
  · dsimp only
    rw [state_succ]
    have e := hch h
    refine blockState_eq _ _ h _ (fun v d => (cA_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) h v d).trans ?_) (fun d => (nA_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) h d).trans ?_) ((mA_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) h).trans ?_) <;> rw [e, zero_state] <;> rfl
  · dsimp only
    refine Eq.trans (congrFun (tailA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t)) _) ?_
    exact tail_at m c t b 0 hp' i u

/-- A later chunk, from the one before. -/
theorem after_next (t : Fin cfg0.N) (b : Fin 2) (j : ℕ) (hj : j + 1 < 64) (hp : t.val = b.val * 64 + (j + 1)) (acc : _) (H : After m c acc b j) :
    After m c (stAt0 m c t.val t.isLt acc) b (j + 1) := by
  have h0 : ¬t.val % 64 = 0 := by omega
  have hp' : t.val = b.val * 64 + (⟨j + 1, hj⟩ : Fin 64).val := hp
  have hch (h : Fin 4) := chunk_eq m c t b ⟨j + 1, hj⟩ hp' acc.2.2.2 (fun i u => by
    rw [if_neg (Nat.succ_ne_zero j), H.tail]
    exact congrArg (fun r => (argsK m c).qk b r u) (by show j * 128 + 120 + i.val = (j + 1) * 128 + i.val - 8; omega)) h
  rw [stAt0_B m c t acc h0]
  refine ⟨fun h r v => ?_, fun h => ?_, fun i u => ?_⟩
  · refine (outB_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) acc.2.1 acc.2.2.1 acc.2.2.2 h r v).trans ?_
    rw [hch h, H.st h]
    unfold result
    congr 1
    · funext x
      exact blk6_at m c t 0 _
    · funext x
      exact o_at m c t b ⟨j + 1, hj⟩ hp' r _
  · dsimp only
    rw [state_succ]
    have e := hch h
    refine blockState_eq _ _ h _ (fun v d => (cB_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) acc.2.1 acc.2.2.1 acc.2.2.2 h v d).trans ?_) (fun d => (nB_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) acc.2.1 acc.2.2.1 acc.2.2.2 h d).trans ?_) ((mB_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) acc.2.1 acc.2.2.1 acc.2.2.2 h).trans ?_) <;> rw [e, H.st h] <;> rfl
  · dsimp only
    refine Eq.trans (congrFun (tailB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) acc.2.1 acc.2.2.1 acc.2.2.2) _) ?_
    exact tail_at m c t b ⟨j + 1, hj⟩ hp' i u

/-- After every point, by induction on the points. -/
theorem after_all : ∀ (n : ℕ) (hn : n < cfg0.N) (b : Fin 2) (j : ℕ), j < 64 → n = b.val * 64 + j →
    After m c (outsAt0 m c n hn) b j
  | 0, hn, b, j, hj, e => by
    obtain rfl : j = 0 := by omega
    rw [outsAt0_zero]
    exact after_first m c ⟨0, hn⟩ b (by show 0 = _; omega) _
  | n + 1, hn, b, j, hj, e => by
    rw [outsAt0_succ]
    match j, hj, e with
    | 0, hj, e => exact after_first m c ⟨n + 1, hn⟩ b (by show n + 1 = _; omega) _
    | j + 1, hj, e => exact after_next m c ⟨n + 1, hn⟩ b j hj e _ (after_all n _ b j (by omega) (by omega))

/-- What the kernel's array ends holding. -/
theorem G7_at (b : Fin 2) (j : Fin 64) (h : Fin 4) (t v : Fin 128) :
    (G7 m c : FVec Ideal S16384x512 .bf16) (ix2 ⟨b.val * 8192 + (j.val * 128 + t.val), by omega⟩ ⟨h.val * 128 + v.val, by omega⟩)
      = result (argsK m c) b h j.val t v := by
  have hN : cfg0.N = 128 := N_0
  have hpt : b.val * 64 + j.val < cfg0.N := by omega
  have e := (after_all m c (b.val * 64 + j.val) hpt b j.val j.isLt rfl).out h t v
  rw [outsAt0_sweep] at e
  rw [← e]
  generalize hi : (ix2 (⟨b.val * 8192 + (j.val * 128 + t.val), by omega⟩ : Fin 16384) (⟨h.val * 128 + v.val, by omega⟩ : Fin 512) : S16384x512.Idx) = i
  have hq : pt7Of i = b.val * 64 + j.val := by
    subst hi
    show 1 * ((b.val * 8192 + (j.val * 128 + t.val)) / 128 - 0) + 1 * ((h.val * 128 + v.val) / 512 - 0) = _
    omega
  have hl : loc7Of i = ix2 t ⟨h.val * 128 + v.val, by omega⟩ := by
    subst hi
    funext a
    apply Fin.ext
    match a with
    | 0 => show (b.val * 8192 + (j.val * 128 + t.val)) % 128 = t.val; omega
    | 1 => show (h.val * 128 + v.val) % 512 = h.val * 128 + v.val; omega
  unfold G7
  rw [dif_pos (by rw [hq]; exact hpt), hl, fold0_congr m c _ _ _ _ hq]

end Cert.KernelIdeal.Head
end
-- ==== Proof.MlstmClaims.lean ====
module
public import proofs.«01_k».proof.Defs
public import proofs.«01_k».proof.Proof.Gen.Kernel.Frame
public import proofs.«01_k».proof.Proof.RefValue
public import proofs.«01_k».proof.Proof.KInv

@[expose] public section
set_option maxRecDepth 16384
noncomputable section

namespace Cert.Mlstm

open Idealize.ShloMosaic Idealize.ShloMosaic.TcCoe Idealize.SL.Sem

theorem frameP : Cert.quiescent_Kernel := fun m ρ _ => Cert.Kernel.Gen.frame m ρ
theorem framePI : Cert.quiescent_KernelIdeal := fun m ρ _ => Cert.KernelIdeal.Gen.frame m ρ
theorem frameRI : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem preserves : Cert.preserves_Kernel_KernelIdeal := trivial

/-- Two results that agree at every head's place of every chunk are equal. -/
theorem ext_heads {X Y : FVec Ideal ⟨2, ![16384, 512]⟩ .bf16}
    (e : ∀ (j : Fin 64) (b : Fin 2) (h : Fin 4) (t v : Fin 128),
      X (ix2 ⟨b.val * 8192 + (j.val * 128 + t.val), by omega⟩ ⟨h.val * 128 + v.val, by omega⟩)
        = Y (ix2 ⟨b.val * 8192 + (j.val * 128 + t.val), by omega⟩ ⟨h.val * 128 + v.val, by omega⟩)) : X = Y := by
  funext i
  have h0 : (i 0).val < 16384 := (i 0).isLt
  have h1 : (i 1).val < 512 := (i 1).isLt
  have := e ⟨(i 0).val % 8192 / 128, by omega⟩ ⟨(i 0).val / 8192, by omega⟩ ⟨(i 1).val / 128, by omega⟩ ⟨(i 0).val % 128, by omega⟩ ⟨(i 1).val % 128, by omega⟩
  have hi : i = ix2 (⟨(i 0).val / 8192 * 8192 + ((i 0).val % 8192 / 128 * 128 + (i 0).val % 128), by omega⟩ : Fin 16384)
      (⟨(i 1).val / 128 * 128 + (i 1).val % 128, by omega⟩ : Fin 512) := by
    funext a
    apply Fin.ext
    match a with
    | 0 => show (i 0).val = (i 0).val / 8192 * 8192 + ((i 0).val % 8192 / 128 * 128 + (i 0).val % 128); omega
    | 1 => show (i 1).val = (i 1).val / 128 * 128 + (i 1).val % 128; omega
  rw [hi]
  exact this

theorem algebraic : Cert.algebraic_KernelIdeal_ReferenceIdeal := by
  intro m g m' g' _ hag
  refine ⟨fun c => Cert.KernelIdeal.Value.G7 m c, ?_, ?_⟩
  · exact Cert.KernelIdeal.Value.run (F := Ideal) m g
  · refine (θ_run Cert.ReferenceIdeal.defs _ _).mono (fun r h c => ⟨(h c).1.trans ?_, (h c).2⟩) (Cert.ReferenceIdeal.Value.run (F := Ideal) m' g')
    refine ext_heads fun j b h t v => ?_
    refine (Cert.ReferenceIdeal.Loop.result_at m' c j b h t v).trans (Eq.trans ?_ (Cert.KernelIdeal.Head.G7_at m c b j h t v).symm)
    have hA : Cert.ReferenceIdeal.Loop.argsR m' c = Cert.KernelIdeal.Head.argsK m c := by
      obtain ⟨e0, e1, e2, e3, e4, e5, e6⟩ := hag c
      unfold Cert.ReferenceIdeal.Loop.argsR Cert.KernelIdeal.Head.argsK
      rw [e0, e1, e2, e3, e4, e5, e6]
    rw [hA]

end Cert.Mlstm
end
-- ==== Proof.ExpertRuns.lean ====
module
public import proofs.«01_k».proof.Proof.Gen.Kernel2Ideal.Skeleton
public import proofs.«01_k».proof.Proof.Gen.Kernel2Ideal.Launch
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Pipeline.ReadBack
public import Idealize.ShloMosaic.Lib.Exec
public import Idealize.ShloMosaic.Lib.Tactic

@[expose] public section
set_option maxRecDepth 16384
set_option Elab.async false
noncomputable section

namespace Cert.Kernel2Ideal.Expert

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two tables and the two scratch buffers, as the body is handed them. -/
abbrev tabE : Memref sig .tc .smem S72 .i32 := Memref.whole main_arg4
abbrev tabN : Memref sig .tc .smem S1 .i32 := Memref.whole main_arg5
abbrev scrX : Memref sig .tc .vmem S512x1024 .bf16 := Memref.whole cc0_scratch0
abbrev scrA : Memref sig .tc .vmem S512x1024 .f32 := Memref.whole cc0_scratch1

/-- The one word of the table that holds the number of used tiles. -/
abbrev count (T : S1.Idx → Elt F .i32) : BitVec 32 :=
  View.readAt (Elt F) tabN.view (Rect.unit (s := S1) ![0] S1.size inb_S1_S1_0).toLoadRect T (Shape.Idx.first (numel1_S1.symm ▸ Nat.one_pos))

/-- Whether the tile of point `i` is below the number `v`, as the body computes it. -/
abbrev used (i : grid0.Coords) (v : BitVec 32) : BitVec 1 := Scalar.cmpi .slt (BitVec.ofNat 32 (i 0).val) v

/-- The body's first condition: a used tile's first chunk. -/
abbrev first (i : grid0.Coords) (v : BitVec 32) : BitVec 1 :=
  Scalar.cmpi .ne (Scalar.extui (Scalar.andi (used i v) (Scalar.cmpi .eq (BitVec.ofNat 32 (i 1).val) 0#32))) 0#32

/-- The body's second condition: a used tile. -/
abbrev inUse (i : grid0.Coords) (v : BitVec 32) : BitVec 1 := Scalar.cmpi .ne (Scalar.extui (used i v)) 0#32

section
variable (c : Dev nD) (i : grid0.Coords)
  (m0 : Memref sig .tc .vmem S512x1024 .f32) (h0 : m0.IsWhole) (m1 : Memref sig .tc .vmem S1x1024x1792 .bf16) (h1 : m1.IsWhole)
  (m2 : Memref sig .tc .vmem S1x1024x1792 .bf16) (h2 : m2.IsWhole) (m3 : Memref sig .tc .vmem S1x1792x1024 .bf16) (h3 : m3.IsWhole)
  (m4 : Memref sig .tc .vmem S512x1024 .f32) (h4 : m4.IsWhole)
  (T0 : S72.Idx → Elt F .i32) (T1 : S1.Idx → Elt F .i32)
  (x : Vec F S512x1024 .f32) (wg wu : Vec F S1x1024x1792 .bf16) (wd : Vec F S1x1792x1024 .bf16)

/-- The body at a point, on its staging buffers, the tables and the scratch buffers. -/
abbrev body : Prog (TpuEff nD τ sig (Elt F) Λ₀ .tc) PUnit :=
  cc0_moe_experts i tabE (Memref.isWhole_whole _) tabN (Memref.isWhole_whole _) m0 h0 m1 h1 m2 h2 m3 h3 m4 h4 scrX (Memref.isWhole_whole _) scrA (Memref.isWhole_whole _)

/-- What every path of the body keeps: the four input blocks and the body's halves of the two tables. -/
abbrev kept : sProp 𝕄 :=
  iprop((m0.view.loc (c : Thread nD τ) ↦[m0.view.set]{fullShare} m0.view.rep x)
    ∗ (m1.view.loc (c : Thread nD τ) ↦[m1.view.set]{fullShare} m1.view.rep wg)
    ∗ (m2.view.loc (c : Thread nD τ) ↦[m2.view.set]{fullShare} m2.view.rep wu)
    ∗ (m3.view.loc (c : Thread nD τ) ↦[m3.view.set]{fullShare} m3.view.rep wd)
    ∗ (tabE.view.loc (c : Thread nD τ) ↦{fullShare.right} T0)
    ∗ (tabN.view.loc (c : Thread nD τ) ↦{fullShare.right} T1))

/-- The scratch buffers at contents that read `X` and `A`. -/
abbrev scratch (X : S512x1024.Idx → Elt F .bf16) (A : S512x1024.Idx → Elt F .f32) : sProp 𝕄 :=
  iprop((∃ f, ⌜scrX.view.read (Elt F) f = X⌝ ∗ (scrX.view.loc (c : Thread nD τ) ↦{fullShare} f))
    ∗ (∃ f, ⌜scrA.view.read (Elt F) f = A⌝ ∗ (scrA.view.loc (c : Thread nD τ) ↦{fullShare} f)))

set_option backward.proofsInPublic true in
set_option maxHeartbeats 8000000 in
/-- A used tile's first chunk: the rows are rounded into the first scratch buffer, the first chunk's product is put in the second. -/
theorem run_first (hc0 : first i (count T1) = 1#1) (hc1 : inUse i (count T1) = 1#1) (hc3 : ¬(k0_cond3 i (count T1) = 1#1)) (hc4 : ¬(k0_cond4 i (count T1) = 1#1)) (X : S512x1024.Idx → Elt F .bf16) (A : S512x1024.Idx → Elt F .f32) (y : S512x1024.Idx → Elt F .f32) (K : PUnit → sProp 𝕄) :
    iprop(kept c m0 m1 m2 m3 T0 T1 x wg wu wd ∗ owns (c : Thread nD τ) m4 fullShare y ∗ scratch c X A
        ∗ (iprop(kept c m0 m1 m2 m3 T0 T1 x wg wu wd ∗ owns (c : Thread nD τ) m4 fullShare y ∗ scratch c (k0_pay1 x) (k0_pay3 k0_pay2 (k0_pay1 x) wg wu wd)) -∗ K ⟨⟩))
      ⊢ wp frame (wpE (defs₀ (F := F)) Variants.none c none) Set.univ (body i m0 h0 m1 h1 m2 h2 m3 h3 m4 h4) K := by
  unfold owns
  rw [body, cc0_moe_experts_eq_skeleton]; unfold cc0_moe_experts_skel
  iintro ⟨⟨H0, H1, H2, H3, HT0, HT1⟩, ⟨%f4, %hf4, HO⟩, ⟨⟨%fX, %hX, HX⟩, ⟨%fA, %hA, HA⟩⟩, Hk⟩
  obtain rfl := h4.eq_unread hf4
  have hSX : scrX.IsWhole := Memref.isWhole_whole _
  have hSA : scrA.IsWhole := Memref.isWhole_whole _
  obtain rfl := hSX.eq_unread hX
  obtain rfl := hSA.eq_unread hA
  have hT0 : tabE.IsWhole := Memref.isWhole_whole _
  have hT1 : tabN.IsWhole := Memref.isWhole_whole _
  sl_exec! (disch := first | (guard_target = Scalar.cmpi = _; exact hc0) | (guard_target = Scalar.cmpi = _; exact hc1) | (guard_target = ¬(k0_cond3 _ _ = _); exact hc3) | (guard_target = ¬(k0_cond4 _ _ = _); exact hc4) | exact hc0 | exact hc1)
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO]
  · iexists _; isplitr; swap
    · iexact HO
    · ipureintro; exact hf4
  isplitl [HX]
  · iexists _; isplitr; swap
    · iexact HX
    · ipureintro; frame_out; simp only [View.read_rep]
  iexists _; isplitr; swap
  · iexact HA
  · ipureintro; frame_out; simp only [View.read_rep]

set_option backward.proofsInPublic true in
set_option maxHeartbeats 8000000 in
/-- A used tile's last chunk: its product is added to the second scratch buffer, which is the tile's output. -/
theorem run_last (hc0 : ¬(first i (count T1) = 1#1)) (hc1 : inUse i (count T1) = 1#1) (hc3 : k0_cond3 i (count T1) = 1#1) (hc4 : ¬(k0_cond4 i (count T1) = 1#1)) (X : S512x1024.Idx → Elt F .bf16) (A : S512x1024.Idx → Elt F .f32) (y : S512x1024.Idx → Elt F .f32) (K : PUnit → sProp 𝕄) :
    iprop(kept c m0 m1 m2 m3 T0 T1 x wg wu wd ∗ owns (c : Thread nD τ) m4 fullShare y ∗ scratch c X A
        ∗ (iprop(kept c m0 m1 m2 m3 T0 T1 x wg wu wd ∗ owns (c : Thread nD τ) m4 fullShare (k0_pay3 A X wg wu wd) ∗ scratch c X (k0_pay3 A X wg wu wd)) -∗ K ⟨⟩))
      ⊢ wp frame (wpE (defs₀ (F := F)) Variants.none c none) Set.univ (body i m0 h0 m1 h1 m2 h2 m3 h3 m4 h4) K := by
  unfold owns
  rw [body, cc0_moe_experts_eq_skeleton]; unfold cc0_moe_experts_skel
  iintro ⟨⟨H0, H1, H2, H3, HT0, HT1⟩, ⟨%f4, %hf4, HO⟩, ⟨⟨%fX, %hX, HX⟩, ⟨%fA, %hA, HA⟩⟩, Hk⟩
  obtain rfl := h4.eq_unread hf4
  have hSX : scrX.IsWhole := Memref.isWhole_whole _
  have hSA : scrA.IsWhole := Memref.isWhole_whole _
  obtain rfl := hSX.eq_unread hX
  obtain rfl := hSA.eq_unread hA
  have hT0 : tabE.IsWhole := Memref.isWhole_whole _
  have hT1 : tabN.IsWhole := Memref.isWhole_whole _
  sl_exec! (disch := first | (guard_target = ¬(Scalar.cmpi = _); exact hc0) | (guard_target = Scalar.cmpi = _; exact hc1) | (guard_target = k0_cond3 _ _ = _; exact hc3) | (guard_target = ¬(k0_cond4 _ _ = _); exact hc4) | exact hc0 | exact hc1)
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO]
  · iexists _; isplitr; swap
    · iexact HO
    · ipureintro; frame_out; simp only [View.read_rep, read_unread_whole]
  isplitl [HX]
  · iexists _; isplitr; swap
    · iexact HX
    · ipureintro; exact hX
  iexists _; isplitr; swap
  · iexact HA
  · ipureintro; frame_out; simp only [View.read_rep, read_unread_whole]

set_option backward.proofsInPublic true in
set_option maxHeartbeats 8000000 in
/-- An unused tile's first chunk: nothing is done. -/
theorem run_skip (hc0 : ¬(first i (count T1) = 1#1)) (hc1 : ¬(inUse i (count T1) = 1#1)) (hc3 : ¬(k0_cond3 i (count T1) = 1#1)) (hc4 : ¬(k0_cond4 i (count T1) = 1#1)) (X : S512x1024.Idx → Elt F .bf16) (A : S512x1024.Idx → Elt F .f32) (y : S512x1024.Idx → Elt F .f32) (K : PUnit → sProp 𝕄) :
    iprop(kept c m0 m1 m2 m3 T0 T1 x wg wu wd ∗ owns (c : Thread nD τ) m4 fullShare y ∗ scratch c X A
        ∗ (iprop(kept c m0 m1 m2 m3 T0 T1 x wg wu wd ∗ owns (c : Thread nD τ) m4 fullShare y ∗ scratch c X A) -∗ K ⟨⟩))
      ⊢ wp frame (wpE (defs₀ (F := F)) Variants.none c none) Set.univ (body i m0 h0 m1 h1 m2 h2 m3 h3 m4 h4) K := by
  unfold owns
  rw [body, cc0_moe_experts_eq_skeleton]; unfold cc0_moe_experts_skel
  iintro ⟨⟨H0, H1, H2, H3, HT0, HT1⟩, ⟨%f4, %hf4, HO⟩, ⟨⟨%fX, %hX, HX⟩, ⟨%fA, %hA, HA⟩⟩, Hk⟩
  obtain rfl := h4.eq_unread hf4
  have hSX : scrX.IsWhole := Memref.isWhole_whole _
  have hSA : scrA.IsWhole := Memref.isWhole_whole _
  obtain rfl := hSX.eq_unread hX
  obtain rfl := hSA.eq_unread hA
  have hT0 : tabE.IsWhole := Memref.isWhole_whole _
  have hT1 : tabN.IsWhole := Memref.isWhole_whole _
  sl_exec! (disch := first | (guard_target = ¬(Scalar.cmpi = _); exact hc0) | (guard_target = ¬(Scalar.cmpi = _); exact hc1) | (guard_target = ¬(k0_cond3 _ _ = _); exact hc3) | (guard_target = ¬(k0_cond4 _ _ = _); exact hc4) | exact hc0 | exact hc1)
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO]
  · iexists _; isplitr; swap
    · iexact HO
    · ipureintro; exact hf4
  isplitl [HX]
  · iexists _; isplitr; swap
    · iexact HX
    · ipureintro; exact hX
  iexists _; isplitr; swap
  · iexact HA
  · ipureintro; exact hA

set_option backward.proofsInPublic true in
set_option maxHeartbeats 8000000 in
/-- An unused tile's last chunk: the output is zero. -/
theorem run_zero (hc0 : ¬(first i (count T1) = 1#1)) (hc1 : ¬(inUse i (count T1) = 1#1)) (hc3 : ¬(k0_cond3 i (count T1) = 1#1)) (hc4 : k0_cond4 i (count T1) = 1#1) (X : S512x1024.Idx → Elt F .bf16) (A : S512x1024.Idx → Elt F .f32) (y : S512x1024.Idx → Elt F .f32) (K : PUnit → sProp 𝕄) :
    iprop(kept c m0 m1 m2 m3 T0 T1 x wg wu wd ∗ owns (c : Thread nD τ) m4 fullShare y ∗ scratch c X A
        ∗ (iprop(kept c m0 m1 m2 m3 T0 T1 x wg wu wd ∗ owns (c : Thread nD τ) m4 fullShare k0_pay4 ∗ scratch c X A) -∗ K ⟨⟩))
      ⊢ wp frame (wpE (defs₀ (F := F)) Variants.none c none) Set.univ (body i m0 h0 m1 h1 m2 h2 m3 h3 m4 h4) K := by
  unfold owns
  rw [body, cc0_moe_experts_eq_skeleton]; unfold cc0_moe_experts_skel
  iintro ⟨⟨H0, H1, H2, H3, HT0, HT1⟩, ⟨%f4, %hf4, HO⟩, ⟨⟨%fX, %hX, HX⟩, ⟨%fA, %hA, HA⟩⟩, Hk⟩
  obtain rfl := h4.eq_unread hf4
  have hSX : scrX.IsWhole := Memref.isWhole_whole _
  have hSA : scrA.IsWhole := Memref.isWhole_whole _
  obtain rfl := hSX.eq_unread hX
  obtain rfl := hSA.eq_unread hA
  have hT0 : tabE.IsWhole := Memref.isWhole_whole _
  have hT1 : tabN.IsWhole := Memref.isWhole_whole _
  sl_exec! (disch := first | (guard_target = ¬(Scalar.cmpi = _); exact hc0) | (guard_target = ¬(Scalar.cmpi = _); exact hc1) | (guard_target = ¬(k0_cond3 _ _ = _); exact hc3) | (guard_target = k0_cond4 _ _ = _; exact hc4) | exact hc0 | exact hc1)
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO]
  · iexists _; isplitr; swap
    · iexact HO
    · ipureintro; frame_out
  isplitl [HX]
  · iexists _; isplitr; swap
    · iexact HX
    · ipureintro; exact hX
  iexists _; isplitr; swap
  · iexact HA
  · ipureintro; exact hA

end

end Cert.Kernel2Ideal.Expert

end
-- ==== Proof.ExpertCert.lean ====
module
public import proofs.«01_k».proof.Proof.ExpertRuns
public import Idealize.ShloMosaic.Lib.Claim
public import Idealize.ShloMosaic.Lib.Affine
public import Idealize.ShloMosaic.Adequacy
public import Idealize.ShloMosaic.Init

@[expose] public section
set_option maxRecDepth 16384
set_option Elab.async false
noncomputable section

namespace Cert.Kernel2Ideal.Expert

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's conditions by tile and chunk -/

section
variable (i : grid0.Coords) (v : BitVec 32)

theorem conds_first (hu : used i v = 1#1) (hf : (i 1).val = 0) :
    first i v = 1#1 ∧ inUse i v = 1#1 ∧ ¬(k0_cond3 i v = 1#1) ∧ ¬(k0_cond4 i v = 1#1) := by
  simp only [first, inUse, k0_cond3, k0_cond4, used] at hu ⊢
  rw [hu, hf]; decide

theorem conds_last (hu : used i v = 1#1) (hf : (i 1).val = 1) :
    ¬(first i v = 1#1) ∧ inUse i v = 1#1 ∧ k0_cond3 i v = 1#1 ∧ ¬(k0_cond4 i v = 1#1) := by
  simp only [first, inUse, k0_cond3, k0_cond4, used] at hu ⊢
  rw [hu, hf]; decide

theorem unused (hu : ¬used i v = 1#1) : used i v = 0#1 := by
  have : ∀ b : BitVec 1, ¬b = 1#1 → b = 0#1 := by decide
  exact this _ hu

theorem conds_skip (hu : ¬used i v = 1#1) (hf : (i 1).val = 0) :
    ¬(first i v = 1#1) ∧ ¬(inUse i v = 1#1) ∧ ¬(k0_cond3 i v = 1#1) ∧ ¬(k0_cond4 i v = 1#1) := by
  have hu := unused i v hu
  simp only [first, inUse, k0_cond3, k0_cond4, used] at hu ⊢
  rw [hu, hf]; decide

theorem conds_zero (hu : ¬used i v = 1#1) (hf : (i 1).val = 1) :
    ¬(first i v = 1#1) ∧ ¬(inUse i v = 1#1) ∧ ¬(k0_cond3 i v = 1#1) ∧ k0_cond4 i v = 1#1 := by
  have hu := unused i v hu
  simp only [first, inUse, k0_cond3, k0_cond4, used] at hu ⊢
  rw [hu, hf]; decide
end

/-- A point's tile and chunk. -/
theorem coord0 : ∀ t : Fin grid0.N, (grid0.coords t 0).val = t.val / 2 := by decide +kernel
theorem coord1 : ∀ t : Fin grid0.N, (grid0.coords t 1).val = t.val % 2 := by decide +kernel

/-- The output's block is written back after a tile's last chunk. -/
theorem flushOf4 : ∀ t : Fin grid0.N, Window.flushOf grid0 true cc0_transform_4 t = decide (t.val % 2 = 1) := by decide +kernel

variable (a : (pcfg0 (F := F)).Adm)
variable (m : (ℓ : Loc nD τ sig) → Buf (Elt F) ℓ) (ρ : Dev nD → PrngReg)

abbrev pcs : Fin 1 → Cfg sig Λ₀ := Pipeline.pin (pcfgs (F := F)) fun _ => a
abbrev EP : Emb (UR sig nD τ) 𝕄 := emb₁
abbrev start : MemSt nD τ sig (Elt F) := ⟨m, fun _ => 0, ρ⟩

/-- The number of used tiles. -/
abbrev cnt : BitVec 32 := count (a.1 1)

theorem flush4 (t : Fin (cfg0 a).N) : ((cfg0 a).win (4 : Fin 5)).flush t = decide (t.val % 2 = 1) := flushOf4 t

abbrev crd (t : Fin (cfg0 a).N) : grid0.Coords := grid0.coords t

theorem idle4 (t : Fin (cfg0 a).N) : (cfg0 a).idle (4 : Fin 5) ((cfg0 a).grid.coords t) = decide (t.val % 2 = 0) := by
  have h : (cfg0 a).idle (4 : Fin 5) ((cfg0 a).grid.coords t)
      = (!(k0_cond3 (crd a t) (cnt a) == 1#1) && !(k0_cond4 (crd a t) (cnt a) == 1#1)) := rfl
  rw [h]
  have hc := coord1 t
  by_cases hu : used (crd a t) (cnt a) = 1#1 <;> rcases Nat.mod_two_eq_zero_or_one t.val with ht | ht <;> rw [ht] at hc ⊢
  · obtain ⟨-, -, h3, h4⟩ := conds_first _ _ hu hc; simp [h3, h4]
  · obtain ⟨-, -, h3, h4⟩ := conds_last _ _ hu hc; simp [h3, h4]
  · obtain ⟨-, -, h3, h4⟩ := conds_skip _ _ hu hc; simp [h3, h4]
  · obtain ⟨-, -, h3, h4⟩ := conds_zero _ _ hu hc; simp [h3, h4]

/-! ## Staging buffers, blocks and the values -/

abbrev st0 (t : Fin (cfg0 a).N) := spec0_0.stage ((cfg0 a).slots t (0 : Fin 5))
abbrev st1 (t : Fin (cfg0 a).N) := spec0_1.stage ((cfg0 a).slots t (1 : Fin 5))
abbrev st2 (t : Fin (cfg0 a).N) := spec0_2.stage ((cfg0 a).slots t (2 : Fin 5))
abbrev st3 (t : Fin (cfg0 a).N) := spec0_3.stage ((cfg0 a).slots t (3 : Fin 5))
abbrev st4 (t : Fin (cfg0 a).N) := spec0_4.stage ((cfg0 a).slots t (4 : Fin 5))
theorem wh0 (t : Fin (cfg0 a).N) : (st0 a t).IsWhole := hstage0_0 (((cfg0 a).slots t (0 : Fin 5)).cast nbuf0_0)
theorem wh1 (t : Fin (cfg0 a).N) : (st1 a t).IsWhole := hstage0_1 (((cfg0 a).slots t (1 : Fin 5)).cast nbuf0_1)
theorem wh2 (t : Fin (cfg0 a).N) : (st2 a t).IsWhole := hstage0_2 (((cfg0 a).slots t (2 : Fin 5)).cast nbuf0_2)
theorem wh3 (t : Fin (cfg0 a).N) : (st3 a t).IsWhole := hstage0_3 (((cfg0 a).slots t (3 : Fin 5)).cast nbuf0_3)
theorem wh4 (t : Fin (cfg0 a).N) : (st4 a t).IsWhole := hstage0_4 (((cfg0 a).slots t (4 : Fin 5)).cast nbuf0_4)

/-- Window `w`'s block at point `t`. -/
def iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) ((start m ρ).mem (((cfg0 a).win w).arr.view.loc (c : Thread nD τ)))

/-- The four input blocks at their shapes. -/
abbrev bx (c : Dev nD) (t : Fin (cfg0 a).N) : Vec F S512x1024 .f32 := iblk a m ρ c (0 : Fin 5) t
abbrev bg (c : Dev nD) (t : Fin (cfg0 a).N) : Vec F S1x1024x1792 .bf16 := iblk a m ρ c (1 : Fin 5) t
abbrev bu (c : Dev nD) (t : Fin (cfg0 a).N) : Vec F S1x1024x1792 .bf16 := iblk a m ρ c (2 : Fin 5) t
abbrev bd (c : Dev nD) (t : Fin (cfg0 a).N) : Vec F S1x1792x1024 .bf16 := iblk a m ρ c (3 : Fin 5) t

/-- What the second scratch buffer holds after a used tile's first chunk. -/
def half (c : Dev nD) (t : Fin (cfg0 a).N) : Vec F S512x1024 .f32 :=
  k0_pay3 k0_pay2 (k0_pay1 (bx a m ρ c t)) (bg a m ρ c t) (bu a m ρ c t) (bd a m ρ c t)

/-- The point before. -/
def pred (t : Fin (cfg0 a).N) : Fin (cfg0 a).N := ⟨t.val - 1, Nat.lt_of_le_of_lt (Nat.sub_le _ _) t.isLt⟩

/-- The tile's output, at its last chunk's point. -/
def tileOut (c : Dev nD) (t : Fin (cfg0 a).N) : Vec F S512x1024 .f32 :=
  if used (crd a t) (cnt a) = 1#1 then
    k0_pay3 (half a m ρ c (pred a t)) (k0_pay1 (bx a m ρ c (pred a t))) (bg a m ρ c t) (bu a m ρ c t) (bd a m ρ c t)
  else k0_pay4

/-- What the scratch buffers hold before point `n`, when point `n - 1` was a used tile's first chunk. -/
def Held (c : Dev nD) (n : ℕ) (X : S512x1024.Idx → Elt F .bf16) (A : S512x1024.Idx → Elt F .f32) : Prop :=
  ∀ s : Fin (cfg0 a).N, n = s.val + 1 → s.val % 2 = 0 → used (crd a s) (cnt a) = 1#1 →
    X = k0_pay1 (bx a m ρ c s) ∧ A = half a m ρ c s

/-- The invariant before a point: the scratch buffers, and the body's halves of the tables. -/
def Phi (c : Dev nD) (t : Fin ((cfg0 a).N + 1)) : sProp 𝕄 :=
  iprop((∃ X A, ⌜Held a m ρ c t.val X A⌝ ∗ scratch c X A)
    ∗ (tabE.view.loc (c : Thread nD τ) ↦{fullShare.right} a.1 0) ∗ (tabN.view.loc (c : Thread nD τ) ↦{fullShare.right} a.1 1))

/-- The proof data of the pipeline. -/
def dats (_ : Fin 1) (c : Dev nD) : Dat τ (Elt F) Unit ℕ (UR sig nD τ) ℕ (cfg0 a) c where
  A w := (start m ρ).mem (((cfg0 a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => tileOut a m ρ c t
  Φ t := Phi a m ρ c t
  q _ := fullShare
  owed _ := 0

theorem after0_0 (c : Dev nD) (t : Fin (cfg0 a).N) : (dats a m ρ 0 c).after (0 : Fin 5) t = iblk a m ρ c (0 : Fin 5) t := rfl
theorem after0_1 (c : Dev nD) (t : Fin (cfg0 a).N) : (dats a m ρ 0 c).after (1 : Fin 5) t = iblk a m ρ c (1 : Fin 5) t := rfl
theorem after0_2 (c : Dev nD) (t : Fin (cfg0 a).N) : (dats a m ρ 0 c).after (2 : Fin 5) t = iblk a m ρ c (2 : Fin 5) t := rfl
theorem after0_3 (c : Dev nD) (t : Fin (cfg0 a).N) : (dats a m ρ 0 c).after (3 : Fin 5) t = iblk a m ρ c (3 : Fin 5) t := rfl
theorem after0_4 (c : Dev nD) (t : Fin (cfg0 a).N) : (dats a m ρ 0 c).after (4 : Fin 5) t = tileOut a m ρ c t := rfl

theorem before0_0 (c : Dev nD) (t : Fin (cfg0 a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfg0 a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfg0 a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfg0 a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-! ## The body obligation -/

/-- The body at point `t` on its staging buffers. -/
abbrev bodyAt (t : Fin (cfg0 a).N) : Prog (TpuEff nD τ sig (Elt F) Λ₀ .tc) PUnit :=
  body (crd a t) (st0 a t) (wh0 a t) (st1 a t) (wh1 a t) (st2 a t) (wh2 a t) (st3 a t) (wh3 a t) (st4 a t) (wh4 a t)

/-- What the body is entered with at point `t`, the input blocks named. -/
abbrev entered (c : Dev nD) (t : Fin (cfg0 a).N) (y : S512x1024.Idx → Elt F .f32) (X : S512x1024.Idx → Elt F .bf16) (A : S512x1024.Idx → Elt F .f32) : sProp 𝕄 :=
  iprop(kept c (st0 a t) (st1 a t) (st2 a t) (st3 a t) (a.1 0) (a.1 1) (bx a m ρ c t) (bg a m ρ c t) (bu a m ρ c t) (bd a m ρ c t)
    ∗ owns (c : Thread nD τ) (st4 a t) fullShare y ∗ scratch c X A)

set_option maxHeartbeats 1000000 in
/-- One point of the body, by cases on its tile and chunk. -/
theorem step (c : Dev nD) (t : Fin (cfg0 a).N) (y : S512x1024.Idx → Elt F .f32) (X : S512x1024.Idx → Elt F .bf16) (A : S512x1024.Idx → Elt F .f32)
    (h : Held a m ρ c t.val X A) (K : PUnit → sProp 𝕄) :
    iprop(entered a m ρ c t y X A
        ∗ ((∃ y' X' A', ⌜Held a m ρ c (t.val + 1) X' A' ∧ y' = (if t.val % 2 = 0 then y else tileOut a m ρ c t)⌝ ∗ entered a m ρ c t y' X' A') -∗ K ⟨⟩))
      ⊢ wp frame (wpE (defs₀ (F := F)) Variants.none c none) Set.univ (bodyAt a t) K := by
  have hc := coord1 t
  by_cases hu : used (crd a t) (cnt a) = 1#1 <;> rcases Nat.mod_two_eq_zero_or_one t.val with ht | ht <;> rw [ht] at hc
  · obtain ⟨q0, q1, q3, q4⟩ := conds_first _ _ hu hc
    iintro ⟨⟨Hk, HO, HS⟩, HK⟩
    iapply (run_first c (crd a t) (st0 a t) (wh0 a t) (st1 a t) (wh1 a t) (st2 a t) (wh2 a t) (st3 a t) (wh3 a t) (st4 a t) (wh4 a t) (a.1 0) (a.1 1) (bx a m ρ c t) (bg a m ρ c t) (bu a m ρ c t) (bd a m ρ c t) q0 q1 q3 q4 X A y K)
    isplitl [Hk]; · iexact Hk
    isplitl [HO]; · iexact HO
    isplitl [HS]; · iexact HS
    iintro ⟨Hk, HO, HS⟩
    iapply HK
    iexists _, _, _
    isplitr; swap
    · isplitl [Hk]; · iexact Hk
      isplitl [HO]; · iexact HO
      iexact HS
    ipureintro
    refine ⟨fun s hs _ _ => ?_, (if_pos ht).symm⟩
    obtain rfl : t = s := Fin.ext (Nat.add_right_cancel hs)
    exact ⟨rfl, rfl⟩
  · obtain ⟨q0, q1, q3, q4⟩ := conds_last _ _ hu hc
    have hu' : used (crd a (pred a t)) (cnt a) = 1#1 := by
      rw [← hu]; unfold used
      have e : (crd a (pred a t) 0).val = (crd a t 0).val := by
        rw [coord0, coord0]; show (t.val - 1) / 2 = t.val / 2; omega
      rw [e]
    obtain ⟨rfl, rfl⟩ := h (pred a t) (by show t.val = t.val - 1 + 1; omega) (by show (t.val - 1) % 2 = 0; omega) hu'
    iintro ⟨⟨Hk, HO, HS⟩, HK⟩
    iapply (run_last c (crd a t) (st0 a t) (wh0 a t) (st1 a t) (wh1 a t) (st2 a t) (wh2 a t) (st3 a t) (wh3 a t) (st4 a t) (wh4 a t) (a.1 0) (a.1 1) (bx a m ρ c t) (bg a m ρ c t) (bu a m ρ c t) (bd a m ρ c t) q0 q1 q3 q4 _ _ y K)
    isplitl [Hk]; · iexact Hk
    isplitl [HO]; · iexact HO
    isplitl [HS]; · iexact HS
    iintro ⟨Hk, HO, HS⟩
    iapply HK
    iexists _, _, _
    isplitr; swap
    · isplitl [Hk]; · iexact Hk
      isplitl [HO]; · iexact HO
      iexact HS
    ipureintro
    refine ⟨fun s hs h0 _ => ?_, ?_⟩
    · omega
    · rw [if_neg (by omega)]; unfold tileOut; rw [if_pos hu]
  · obtain ⟨q0, q1, q3, q4⟩ := conds_skip _ _ hu hc
    iintro ⟨⟨Hk, HO, HS⟩, HK⟩
    iapply (run_skip c (crd a t) (st0 a t) (wh0 a t) (st1 a t) (wh1 a t) (st2 a t) (wh2 a t) (st3 a t) (wh3 a t) (st4 a t) (wh4 a t) (a.1 0) (a.1 1) (bx a m ρ c t) (bg a m ρ c t) (bu a m ρ c t) (bd a m ρ c t) q0 q1 q3 q4 X A y K)
    isplitl [Hk]; · iexact Hk
    isplitl [HO]; · iexact HO
    isplitl [HS]; · iexact HS
    iintro ⟨Hk, HO, HS⟩
    iapply HK
    iexists _, _, _
    isplitr; swap
    · isplitl [Hk]; · iexact Hk
      isplitl [HO]; · iexact HO
      iexact HS
    ipureintro
    refine ⟨fun s hs _ hs' => ?_, (if_pos ht).symm⟩
    obtain rfl : t = s := Fin.ext (Nat.add_right_cancel hs)
    exact absurd hs' hu
  · obtain ⟨q0, q1, q3, q4⟩ := conds_zero _ _ hu hc
    iintro ⟨⟨Hk, HO, HS⟩, HK⟩
    iapply (run_zero c (crd a t) (st0 a t) (wh0 a t) (st1 a t) (wh1 a t) (st2 a t) (wh2 a t) (st3 a t) (wh3 a t) (st4 a t) (wh4 a t) (a.1 0) (a.1 1) (bx a m ρ c t) (bg a m ρ c t) (bu a m ρ c t) (bd a m ρ c t) q0 q1 q3 q4 X A y K)
    isplitl [Hk]; · iexact Hk
    isplitl [HO]; · iexact HO
    isplitl [HS]; · iexact HS
    iintro ⟨Hk, HO, HS⟩
    iapply HK
    iexists _, _, _
    isplitr; swap
    · isplitl [Hk]; · iexact Hk
      isplitl [HO]; · iexact HO
      iexact HS
    ipureintro
    refine ⟨fun s hs h0 _ => ?_, ?_⟩
    · omega
    · rw [if_neg (by omega)]; unfold tileOut; rw [if_neg hu]

set_option maxHeartbeats 4000000 in
/-- The body obligation at a point. -/
theorem sound_body (c : Dev nD) (t : Fin (cfg0 a).N) :
    iprop((dats a m ρ 0 c).Φ t.castSucc ∗ (dats a m ρ 0 c).owesAt () t.castSucc
        ∗ (∃ d, owns (c : Thread nD τ) (st0 a t) fullShare ((dats a m ρ 0 c).before (0 : Fin 5) t d))
        ∗ (∃ d, owns (c : Thread nD τ) (st1 a t) fullShare ((dats a m ρ 0 c).before (1 : Fin 5) t d))
        ∗ (∃ d, owns (c : Thread nD τ) (st2 a t) fullShare ((dats a m ρ 0 c).before (2 : Fin 5) t d))
        ∗ (∃ d, owns (c : Thread nD τ) (st3 a t) fullShare ((dats a m ρ 0 c).before (3 : Fin 5) t d))
        ∗ (∃ d, owns (c : Thread nD τ) (st4 a t) fullShare ((dats a m ρ 0 c).before (4 : Fin 5) t d)))
      ⊢ wp frame (wpE (defs₀ (F := F)) Variants.none c none) Set.univ (bodyAt a t) fun _ =>
          iprop((dats a m ρ 0 c).Φ t.succ ∗ (dats a m ρ 0 c).owesAt () t.succ
            ∗ bigSep Finset.univ fun w : Fin (cfg0 a).W =>
                match (cfg0 a).idle w ((cfg0 a).grid.coords t) with
                | true =>
                  match ((cfg0 a).win w).flush t with
                  | false => iprop(∃ d, owns (c : Thread nD τ) (((cfg0 a).win w).stage ((cfg0 a).slots t w)) fullShare ((dats a m ρ 0 c).before w t d))
                  | true => owns (c : Thread nD τ) (((cfg0 a).win w).stage ((cfg0 a).slots t w)) fullShare ((dats a m ρ 0 c).after w t)
                | false => owns (c : Thread nD τ) (((cfg0 a).win w).stage ((cfg0 a).slots t w)) fullShare ((dats a m ρ 0 c).after w t)) := by
  rw [bigSep_W0, idle4, flush4]
  simp only [before0_0, before0_1, before0_2, before0_3, after0_0, after0_1, after0_2, after0_3, after0_4]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi; simp only [Fin.val_castSucc, Fin.val_succ]
  iintro ⟨⟨⟨%X, %A, %hXA, HS⟩, HT0, HT1⟩, Ho, ⟨%d0, H0⟩, ⟨%d1, H1⟩, ⟨%d2, H2⟩, ⟨%d3, H3⟩, ⟨%d4, H4⟩⟩
  iapply (step a m ρ c t _ X A hXA _)
  isplitl [H0 H1 H2 H3 H4 HT0 HT1 HS]
  · isplitl [H0 H1 H2 H3 HT0 HT1]
    · isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      iexact HT1
    isplitl [H4]; · iexact H4
    iexact HS
  iintro ⟨%y, %X', %A', %hH, ⟨H0, H1, H2, H3, HT0, HT1⟩, H4, HS⟩
  isplitl [HS HT0 HT1]
  · isplitl [HS]
    · iexists X', A'; isplitr; swap
      · iexact HS
      · ipureintro; exact hH.1
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  obtain ⟨-, hy⟩ := hH
  rcases Nat.mod_two_eq_zero_or_one t.val with ht | ht <;> simp only [ht, decide_true, decide_false, reduceIte, Nat.zero_ne_one, Nat.one_ne_zero] at hy ⊢
  · rw [hy]; iexists d4; iexact H4
  · rw [hy]; iexact H4

theorem body_obligation (c : Dev nD) : BodyObligation (dats a m ρ 0 c) (defs₀ (F := F)) Variants.none () Set.univ := fun t => by
  rw [bigSep_W0]
  exact sound_body a m ρ c t

/-! ## The launch -/

def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfg0 a).W) : (dats a m ρ 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg4) ↦{q 0} v 0) ∗ (((c : Thread nD τ).loc main_arg5) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%a0, HS0⟩, ⟨%a1, HS1⟩⟩
  isplitl [HS0 HS1]
  · iexists _, _; isplitr; swap
    · isplitl [HS0]
      · iexists a0; isplitr; swap
        · iexact HS0
        · ipureintro; rfl
      · iexists a1; isplitr; swap
        · iexact HS1
        · ipureintro; rfl
    · ipureintro; intro s hs; exact absurd (hs.symm.trans (show (0 : Fin ((cfg0 a).N + 1)).val = 0 from rfl)) (Nat.succ_ne_zero _)
  isplitl [HT0]; · iexact HT0
  iexact HT1

theorem phiN_exit (c : Dev nD) : (dats a m ρ 0 c).Φ (Fin.last (cfg0 a).N) ⊢ iprop(BI.emp ∗ Pipeline.scopedRest spec0 c) := by
  rw [scopedRest0_eq, show (dats a m ρ 0 c).Φ (Fin.last (cfg0 a).N) = Phi a m ρ c (Fin.last _) from rfl]
  unfold Phi
  iintro ⟨⟨%X, %A, -, ⟨%a0, -, HS0⟩, ⟨%a1, -, HS1⟩⟩, -, -⟩
  isplitr; · iempintro
  isplitl [HS0]
  · iexists a0; iexact HS0
  iexists a1; iexact HS1

/-- Every array at what the library computes, every table as it was. -/
def QC : PUnit × MemSt nD τ sig (Elt F) → Prop := fun r =>
  ∀ c : Dev nD, (∀ w : Fin (cfg0 a).W, r.2.mem (((cfg0 a).win w).arr.view.loc (c : Thread nD τ)) = (dats a m ρ 0 c).arrAt w (cfg0 a).N)
    ∧ ∀ j, r.2.mem ((c : Thread nD τ).loc (pre0.ref j)) = a.1 j

set_option backward.isDefEq.respectTransparency.types false in
set_option maxHeartbeats 4000000 in
theorem run_main_quiescent (hp : ∀ (c : Dev nD) j, m ((c : Thread nD τ).loc (pre0.ref j)) = a.1 j) :
    θ_run (defs (F := F)) (onTc (τ := τ) (main (F := F))) (start m ρ) (fun r => QC a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

end Cert.Kernel2Ideal.Expert
-- ==== Proof.ExpertFrame.lean ====
module
public import proofs.«01_k».proof.Proof.ExpertCert
public import proofs.«01_k».proof.Proof.Gen.Pre_in_range
public import Idealize.ShloMosaic.Lib.ReduceAll

@[expose] public section
set_option maxRecDepth 16384
noncomputable section

namespace Cert.Kernel2Ideal.Expert

open Idealize.ShloMosaic Idealize.ShloMosaic.TcCoe Idealize.SL.Sem
open Cert.Kernel2Ideal Cert.Kernel2Ideal.Gen

variable {F : FTy → Type} [FloatOps F]

/-- The precondition says every entry of the tile table names an expert. -/
theorem range_of_pre {x g u d} {te : IVec S72 32} {na} (h : Cert.Pre_in_range.fn (F := F) x g u d te na = fun _ => 1#1) (j : S72.Idx) :
    (te j).toNat < 8 := by
  have hj := Host.reduce_andi_all _ _ _ _ (ValueIdx.ix0) (congrFun h _) j
  obtain ⟨h0, h1⟩ := IntOp.andi_eq_one.1 hj
  have h0 := IntOp.cmpi_sge.1 h0
  have h1 := IntOp.cmpi_slt.1 h1
  change (0#32).toInt ≤ (te j).toInt at h0
  change (te j).toInt < (8#32).toInt at h1
  have e0 : (0#32).toInt = 0 := by decide
  have e8 : (8#32).toInt = 8 := by decide
  rw [e0] at h0; rw [e8] at h1
  have := BitVec.toInt_eq_toNat_cond (te j)
  split at this <;> omega

theorem entry_eq (i : grid0.Coords) :
    (Rect.unit (s := S72) ![(Scalar.indexCast (BitVec.ofNat 32 (i 0).val) : BitVec 32).toNat] S1.size (k0_off1_inb i)).emb (Shape.Idx.first (numel1_S1.symm ▸ Nat.one_pos))
      = ValueIdx.ix1 (i 0) := by
  have h0 : (i 0).val < 72 := (i 0).isLt
  funext a
  fin_cases a
  apply Fin.ext
  show (BitVec.ofNat 32 (i 0).val).toNat + _ * _ = (i 0).val
  simp [Shape.Idx.first]
  omega

/-- A tile's expert and a point's chunk, as the weights' index maps compute them. -/
abbrev expertAt (pf : pre0.Contents (Elt F)) (i : grid0.Coords) : ℕ := (pf 0 (ValueIdx.ix1 (i 0)) : BitVec 32).toNat
abbrev chunkAt (pf : pre0.Contents (Elt F)) (i : grid0.Coords) : ℕ := if used i (count (pf 1)) = 1#1 then (i 1).val else 1

theorem t1_0 (pf : pre0.Contents (Elt F)) (i : grid0.Coords) : cc0_transform_1 k0_off1_inb numel1_S1 inb_S1_S1_0 pf i 0 = expertAt pf i :=
  congrArg (fun j => (pf 0 j : BitVec 32).toNat) (entry_eq i)
theorem t2_0 (pf : pre0.Contents (Elt F)) (i : grid0.Coords) : cc0_transform_2 k0_off1_inb numel1_S1 inb_S1_S1_0 pf i 0 = expertAt pf i :=
  congrArg (fun j => (pf 0 j : BitVec 32).toNat) (entry_eq i)
theorem t3_0 (pf : pre0.Contents (Elt F)) (i : grid0.Coords) : cc0_transform_3 k0_off1_inb numel1_S1 inb_S1_S1_0 pf i 0 = expertAt pf i :=
  congrArg (fun j => (pf 0 j : BitVec 32).toNat) (entry_eq i)

theorem chunk_word (v : BitVec 1) (i : grid0.Coords) :
    (Scalar.select v (BitVec.ofNat 32 (i 1).val) 1#32 : BitVec 32).toNat = if v = 1#1 then (i 1).val else 1 := by
  have h1 : (i 1).val < 2 := (i 1).isLt
  unfold Scalar.select
  split <;> rename_i h
  · rw [if_pos (by simpa using h)]; simp; omega
  · rw [if_neg (by simpa using h)]; rfl

theorem t1_2 (pf : pre0.Contents (Elt F)) (i : grid0.Coords) : cc0_transform_1 k0_off1_inb numel1_S1 inb_S1_S1_0 pf i 2 = chunkAt pf i := chunk_word (used i (count (pf 1))) i
theorem t2_2 (pf : pre0.Contents (Elt F)) (i : grid0.Coords) : cc0_transform_2 k0_off1_inb numel1_S1 inb_S1_S1_0 pf i 2 = chunkAt pf i := chunk_word (used i (count (pf 1))) i
theorem t3_1 (pf : pre0.Contents (Elt F)) (i : grid0.Coords) : cc0_transform_3 k0_off1_inb numel1_S1 inb_S1_S1_0 pf i 1 = chunkAt pf i := chunk_word (used i (count (pf 1))) i

/-- The rows' block of a tile: its own, wherever the tile is used. -/
theorem row_word (i : grid0.Coords) (v : BitVec 32) :
    (Scalar.maxsi (Scalar.minsi (BitVec.ofNat 32 (i 0).val) (Scalar.subi v 1#32)) 0#32 : BitVec 32).toNat < 72
      ∧ (used i v = 1#1 → (Scalar.maxsi (Scalar.minsi (BitVec.ofNat 32 (i 0).val) (Scalar.subi v 1#32)) 0#32 : BitVec 32).toNat = (i 0).val) := by
  have h0 : (i 0).val < 72 := (i 0).isLt
  generalize hn : (i 0).val = n at h0
  have e : (BitVec.ofNat 32 n).toInt = n := by rw [BitVec.toInt_ofNat']; simp [Int.bmod]; omega
  unfold used
  rw [hn]
  show (IntOp.maxsi (IntOp.minsi (BitVec.ofNat 32 n) (v - 1#32)) 0#32).toNat < 72 ∧ (IntOp.cmpi .slt (BitVec.ofNat 32 n) v = 1#1 → (IntOp.maxsi (IntOp.minsi (BitVec.ofNat 32 n) (v - 1#32)) 0#32).toNat = n)
  rw [IntOp.cmpi_slt, e]
  have en : (BitVec.ofNat 32 n).toNat = n := by simp; omega
  have ev := BitVec.toInt_eq_toNat_cond v
  have ew := BitVec.toInt_eq_toNat_cond (v - 1#32)
  have ws : (v - 1#32).toNat = (2 ^ 32 - 1 + v.toNat) % 2 ^ 32 := by rw [BitVec.toNat_sub]; rfl
  have hv := v.isLt
  have hw := (v - 1#32).isLt
  have z : (0#32).toInt = 0 := by decide
  have zn : (0#32).toNat = 0 := by decide
  unfold IntOp.maxsi IntOp.minsi
  simp only [BitVec.slt_iff_toInt_lt, e, z]
  by_cases hlt : (n : ℤ) < (v - 1#32).toInt
  · simp only [if_pos hlt, e]
    by_cases hp : (0 : ℤ) < n
    · rw [if_pos hp, en]; exact ⟨h0, fun _ => rfl⟩
    · rw [if_neg hp, zn]; exact ⟨by omega, fun _ => by omega⟩
  · simp only [if_neg hlt]
    by_cases hp : (0 : ℤ) < (v - 1#32).toInt
    · rw [if_pos hp]; constructor <;> (try intro hh) <;> split at ev <;> split at ew <;> omega
    · rw [if_neg hp, zn]; exact ⟨by omega, fun hh => by split at ev <;> split at ew <;> omega⟩

theorem chunk_lt (pf : pre0.Contents (Elt F)) (i : grid0.Coords) : chunkAt pf i < 2 := by
  have h1 : (i 1).val < 2 := (i 1).isLt
  unfold chunkAt; split <;> omega

theorem ok_of_range (pf : pre0.Contents (Elt F)) (h : ∀ j : S72.Idx, (pf 0 j : BitVec 32).toNat < 8) : ok0 pf := by
  refine ⟨fun i => ⟨fun a => ?_, .inl rfl⟩, fun i => ⟨fun a => ?_, .inr (Affine.block_words_dvd (s := S8x1024x3584) (p := EltTy.packing .bf16) (by decide) (by decide))⟩,
    fun i => ⟨fun a => ?_, .inr (Affine.block_words_dvd (s := S8x1024x3584) (p := EltTy.packing .bf16) (by decide) (by decide))⟩,
    fun i => ⟨fun a => ?_, .inr (Affine.block_words_dvd (s := S8x3584x1024) (p := EltTy.packing .bf16) (by decide) (by decide))⟩⟩
  all_goals have hc := chunk_lt pf i; have he : expertAt pf i < 8 := h _
  · fin_cases a
    · have := (row_word i (count (pf 1))).1
      change (_ + 1) * 512 ≤ 36864
      exact (Nat.mul_le_mul_right 512 this).trans (Nat.le_refl 36864)
    · exact Nat.le_refl 1024
  · fin_cases a
    · show (cc0_transform_1 _ _ _ pf i 0 + 1) * 1 ≤ 8
      rw [t1_0]; omega
    · exact Nat.le_refl 1024
    · show (cc0_transform_1 _ _ _ pf i 2 + 1) * 1792 ≤ 3584
      rw [t1_2]; omega
  · fin_cases a
    · show (cc0_transform_2 _ _ _ pf i 0 + 1) * 1 ≤ 8
      rw [t2_0]; omega
    · exact Nat.le_refl 1024
    · show (cc0_transform_2 _ _ _ pf i 2 + 1) * 1792 ≤ 3584
      rw [t2_2]; omega
  · fin_cases a
    · show (cc0_transform_3 _ _ _ pf i 0 + 1) * 1 ≤ 8
      rw [t3_0]; omega
    · show (cc0_transform_3 _ _ _ pf i 1 + 1) * 1792 ≤ 3584
      rw [t3_1]; omega
    · exact Nat.le_refl 1024

/-- The tables of a state, admitted when every entry names an expert. -/
abbrev tables (m : (ℓ : Loc nD τ sig) → Buf (Elt F) ℓ) : pre0.Contents (Elt F) := fun j => m (((0 : Dev nD) : Thread nD τ).loc (pre0.ref j))

abbrev adm (m : (ℓ : Loc nD τ sig) → Buf (Elt F) ℓ) (h : ∀ j : S72.Idx, (tables m 0 j : BitVec 32).toNat < 8) : (pcfg0 (F := F)).Adm := ⟨tables m, ok_of_range _ h⟩

theorem adm_eq (m : (ℓ : Loc nD τ sig) → Buf (Elt F) ℓ) (h : ∀ j : S72.Idx, (tables m 0 j : BitVec 32).toNat < 8) (c : Dev nD) (j) :
    m ((c : Thread nD τ).loc (pre0.ref j)) = (adm m h).1 j := by rw [Subsingleton.elim c 0]

/-- The arguments after a run are the arguments before it. -/
theorem args_kept (a : (pcfg0 (F := F)).Adm) (m : (ℓ : Loc nD τ sig) → Buf (Elt F) ℓ) (ρ : Dev nD → PrngReg)
    (hp : ∀ (c : Dev nD) j, m ((c : Thread nD τ).loc (pre0.ref j)) = a.1 j) (r) (hr : QC a m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  have hw := (hr c).1
  have hj := (hr c).2
  ⟨(hw 0).trans ((dats a m ρ 0 c).arrAt_in 0 rfl _), (hw 1).trans ((dats a m ρ 0 c).arrAt_in 1 rfl _),
    (hw 2).trans ((dats a m ρ 0 c).arrAt_in 2 rfl _), (hw 3).trans ((dats a m ρ 0 c).arrAt_in 3 rfl _),
    (hj 0).trans (hp c 0).symm, (hj 1).trans (hp c 1).symm⟩

theorem frame (m : (ℓ : Loc nD τ sig) → Buf (Elt F) ℓ) (ρ : Dev nD → PrngReg) (h : ∀ j : S72.Idx, (tables m 0 j : BitVec 32).toNat < 8) :
    θ_run (defs (F := F)) (onTc (τ := τ) (main (F := F))) ⟨m, fun _ => 0, ρ⟩ (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run (defs (F := F)) _ _).mono (fun r hr => ⟨args_kept (adm m h) m ρ (adm_eq m h) r hr.1, hr.2⟩)
    (run_main_quiescent (adm m h) m ρ (adm_eq m h))

end Cert.Kernel2Ideal.Expert
end
-- ==== Proof.ExpertFrameBits.lean ====
module
public import proofs.«01_k».proof.Defs
public import proofs.«01_k».proof.Proof.ExpertFrame
public import proofs.«01_k».proof.Proof.Gen.Kernel2
public import proofs.«01_k».proof.Proof.Gen.Reference2Ideal.Run

@[expose] public section
set_option maxRecDepth 16384
noncomputable section

namespace Cert.Expert

open Idealize.ShloMosaic Idealize.ShloMosaic.TcCoe Idealize.SL.Sem

theorem framePI2 : Cert.quiescent_Kernel2Ideal := fun m ρ hpre =>
  Cert.Kernel2Ideal.Expert.frame m ρ (Cert.Kernel2Ideal.Expert.range_of_pre (hpre 0))
theorem preserves2 : Cert.preserves_Kernel2_Kernel2Ideal := trivial

theorem frameRI2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference's frame does not depend on the range of the table. -/
theorem frameRI2_in_range : Cert.quiescent_Reference2Ideal_pre_in_range := fun m ρ _ => frameRI2 m ρ trivial

/-- The kernel's own text and its idealization are one program at every float instance: their bodies, -/
theorem bodies_eq {F : FTy → Type} [FloatOps F] : Cert.Kernel2.defs₀ (F := F) = Cert.Kernel2Ideal.defs₀ (F := F) := by
  unfold Cert.Kernel2.defs₀ Cert.Kernel2Ideal.defs₀
  refine congrArg Defs.onTc ?_
  funext l p
  match l with
  | 0 => rfl

/-- and their pipelines on them. -/
theorem defs_eq {F : FTy → Type} [FloatOps F] : Cert.Kernel2.defs (F := F) = Cert.Kernel2Ideal.defs (F := F) := by
  unfold Cert.Kernel2.defs
  rw [bodies_eq]
  rfl

theorem frameP2 : Cert.quiescent_Kernel2 := fun m ρ hpre => by
  rw [defs_eq]
  exact Cert.Kernel2Ideal.Expert.frame (F := Bits) m ρ (Cert.Kernel2Ideal.Expert.range_of_pre (hpre 0))

end Cert.Expert
end
-- ==== Proof.ExpertSpec.lean ====
module
public import proofs.«01_k».proof.Proof.Spec

@[expose] public section
noncomputable section

namespace Cert.Expert

open Idealize.ShloMosaic Cert.Mlstm

/-- One hidden unit of an expert on a row: the gate's product through silu, times the up product. -/
def hid (x g u : Fin 1024 → EReal) : EReal := silu (∑ k, x k * g k) * ∑ k, x k * u k

/-- One output of an expert's feed-forward part on a row. -/
def ffn (x : Fin 1024 → EReal) (wg wu : Fin 1024 → Fin 3584 → EReal) (wd : Fin 3584 → EReal) : EReal :=
  ∑ j, hid x (fun k => wg k j) (fun k => wu k j) * wd j

/-- The arguments' floats, and per tile the expert and whether the tile is used. -/
structure Args where
  x : Fin 36864 → Fin 1024 → EReal
  wg : Fin 8 → Fin 1024 → Fin 3584 → EReal
  wu : Fin 8 → Fin 1024 → Fin 3584 → EReal
  wd : Fin 8 → Fin 3584 → Fin 1024 → EReal
  expert : Fin 72 → Fin 8
  on : Fin 72 → Prop

open Classical in
/-- The output at a row and a column: the row's tile's expert, or zero where the tile is unused. -/
def out (A : Args) (R : Fin 36864) (l : Fin 1024) : EReal :=
  if A.on ⟨R.val / 512, by omega⟩ then
    ffn (A.x R) (A.wg (A.expert ⟨R.val / 512, by omega⟩)) (A.wu (A.expert ⟨R.val / 512, by omega⟩)) fun j => A.wd (A.expert ⟨R.val / 512, by omega⟩) j l
  else 0

open Classical in
/-- The output at a row of a tile. -/
theorem out_tile (A : Args) (g : Fin 72) (r : Fin 512) (l : Fin 1024) : out A ⟨g.val * 512 + r.val, by omega⟩ l
    = if A.on g then ffn (A.x ⟨g.val * 512 + r.val, by omega⟩) (A.wg (A.expert g)) (A.wu (A.expert g)) fun j => A.wd (A.expert g) j l else 0 := by
  have e : (⟨(g.val * 512 + r.val) / 512, by omega⟩ : Fin 72) = g := Fin.ext (by show (g.val * 512 + r.val) / 512 = g.val; omega)
  unfold out
  rw [e]

/-- The arguments of the arrays, given the range of the table's entries. -/
def argsOf (x : FVec Ideal ⟨2, ![36864, 1024]⟩ .f32) (wg wu : FVec Ideal ⟨3, ![8, 1024, 3584]⟩ .bf16) (wd : FVec Ideal ⟨3, ![8, 3584, 1024]⟩ .bf16)
    (te : IVec ⟨1, ![72]⟩ 32) (na : IVec ⟨1, ![1]⟩ 32) (h : ∀ g : Fin 72, (te (ix1 g)).toNat < 8) : Args where
  x R k := x (ix2 R k)
  wg e k j := wg (ix3 e k j)
  wu e k j := wu (ix3 e k j)
  wd e j l := wd (ix3 e j l)
  expert g := ⟨(te (ix1 g)).toNat, h g⟩
  on g := Scalar.cmpi .slt (BitVec.ofNat 32 g.val) (na (ix1 0)) = 1#1

/-- A sum of eight terms of which one has the weight one and the others zero. -/
theorem pick (c f : Fin 8 → EReal) (e : Fin 8) (hc : ∀ i, c i = if i = e then 1 else 0) : ∑ i, c i * f i = f e := by
  rw [Finset.sum_eq_single e]
  · rw [hc, if_pos rfl, one_mul]
  · intro i _ hi; rw [hc, if_neg hi, zero_mul]
  · intro h; exact absurd (Finset.mem_univ _) h

/-- The hidden units in two halves. -/
theorem halves (f : Fin 3584 → EReal) :
    ∑ j, f j = (∑ j : Fin 1792, f ⟨j.val, by omega⟩) + ∑ j : Fin 1792, f ⟨1792 + j.val, by omega⟩ :=
  Fin.sum_univ_add (a := 1792) (b := 1792) f

end Cert.Expert
end
-- ==== Proof.ExpertValue.lean ====
module
public import proofs.«01_k».proof.Proof.ExpertFrame
public import proofs.«01_k».proof.Proof.ExpertSpec
public import Idealize.ShloMosaic.Lib.Pointwise

@[expose] public section
set_option maxRecDepth 16384
noncomputable section

namespace Cert.Kernel2Ideal.Expert

open Idealize.ShloMosaic Idealize.ShloMosaic.TcCoe Idealize.SL.Sem
open Cert.Kernel2Ideal Cert.Kernel2Ideal.Gen Cert.Expert

/-- A chunk's term at an element: what was there, and the chunk's hidden units times the down weights. -/
theorem pay3_at (A : Vec Ideal S512x1024 .f32) (X : Vec Ideal S512x1024 .bf16) (g u : Vec Ideal S1x1024x1792 .bf16) (d : Vec Ideal S1x1792x1024 .bf16) (r : Fin 512) (l : Fin 1024) :
    ((k0_pay3 A X g u d : FVec Ideal S512x1024 .f32) (ix2 r l) : EReal)
      = (A (ix2 r l) : EReal) + ∑ j : Fin 1792, hid (fun k => X (ix2 r k)) (fun k => g (ix3 0 k j)) (fun k => u (ix3 0 k j)) * (d (ix3 0 j l) : EReal) := by
  pointwise [k0_pay3]
  simp only [zero_sub]
  rfl

variable (a : (pcfg0 (F := Ideal)).Adm) (m : (ℓ : Loc nD τ sig) → Buf (Elt Ideal) ℓ) (ρ : Dev nD → PrngReg) (c : Dev nD)

theorem N_eq : (cfg0 a).N = 144 := N_0

theorem bg_at (t : Fin (cfg0 a).N) (k : Fin 1024) (j : Fin 1792) (he : expertAt a.1 (crd a t) < 8) :
    (bg a m ρ c t : FVec Ideal S1x1024x1792 .bf16) (ix3 0 k j)
      = (m ((c.tc : Thread nD τ).loc main_arg1) : FVec Ideal S8x1024x3584 .bf16) (ix3 ⟨expertAt a.1 (crd a t), he⟩ k ⟨chunkAt a.1 (crd a t) * 1792 + j.val, by have := chunk_lt a.1 (crd a t); omega⟩) := by
  unfold bg
  blk_ext [iblk]
  · exact t1_0 a.1 (crd a t)
  · exact (congrArg (· + k.val) (Nat.zero_mul 1024)).trans (Nat.zero_add _)
  · exact congrArg (fun n => n * 1792 + j.val) (t1_2 a.1 (crd a t))

theorem bu_at (t : Fin (cfg0 a).N) (k : Fin 1024) (j : Fin 1792) (he : expertAt a.1 (crd a t) < 8) :
    (bu a m ρ c t : FVec Ideal S1x1024x1792 .bf16) (ix3 0 k j)
      = (m ((c.tc : Thread nD τ).loc main_arg2) : FVec Ideal S8x1024x3584 .bf16) (ix3 ⟨expertAt a.1 (crd a t), he⟩ k ⟨chunkAt a.1 (crd a t) * 1792 + j.val, by have := chunk_lt a.1 (crd a t); omega⟩) := by
  unfold bu
  blk_ext [iblk]
  · exact t2_0 a.1 (crd a t)
  · exact (congrArg (· + k.val) (Nat.zero_mul 1024)).trans (Nat.zero_add _)
  · exact congrArg (fun n => n * 1792 + j.val) (t2_2 a.1 (crd a t))

theorem bd_at (t : Fin (cfg0 a).N) (j : Fin 1792) (l : Fin 1024) (he : expertAt a.1 (crd a t) < 8) :
    (bd a m ρ c t : FVec Ideal S1x1792x1024 .bf16) (ix3 0 j l)
      = (m ((c.tc : Thread nD τ).loc main_arg3) : FVec Ideal S8x3584x1024 .bf16) (ix3 ⟨expertAt a.1 (crd a t), he⟩ ⟨chunkAt a.1 (crd a t) * 1792 + j.val, by have := chunk_lt a.1 (crd a t); omega⟩ l) := by
  unfold bd
  blk_ext [iblk]
  · exact t3_0 a.1 (crd a t)
  · exact congrArg (fun n => n * 1792 + j.val) (t3_1 a.1 (crd a t))
  · exact (congrArg (· + l.val) (Nat.zero_mul 1024)).trans (Nat.zero_add _)

theorem bx_at (t : Fin (cfg0 a).N) (hu : used (crd a t) (cnt a) = 1#1) (g : Fin 72) (hg : t.val / 2 = g.val) (r : Fin 512) (k : Fin 1024) :
    (bx a m ρ c t : FVec Ideal S512x1024 .f32) (ix2 r k)
      = (m ((c.tc : Thread nD τ).loc main_arg0) : FVec Ideal S36864x1024 .f32) (ix2 ⟨g.val * 512 + r.val, by omega⟩ k) := by
  unfold bx
  blk_ext [iblk]
  · exact congrArg (fun n => n * 512 + r.val) (((row_word (crd a t) (cnt a)).2 hu).trans ((coord0 t).trans hg))
  · exact (congrArg (· + k.val) (Nat.zero_mul 1024)).trans (Nat.zero_add _)

variable (h : ∀ g : Fin 72, (a.1 0 (ix1 g) : BitVec 32).toNat < 8)

/-- The arguments as the specification takes them. -/
abbrev args : Expert.Args := argsOf (m ((c.tc : Thread nD τ).loc main_arg0)) (m ((c.tc : Thread nD τ).loc main_arg1)) (m ((c.tc : Thread nD τ).loc main_arg2))
  (m ((c.tc : Thread nD τ).loc main_arg3)) (a.1 0) (a.1 1) h

/-- Whether a point's tile is used, by its number. -/
theorem used_on (t : Fin (cfg0 a).N) (g : Fin 72) (hg : t.val / 2 = g.val) : used (crd a t) (cnt a) = 1#1 ↔ (args a m c h).on g := by
  have e : (crd a t 0).val = g.val := (coord0 t).trans hg
  show Scalar.cmpi .slt (BitVec.ofNat 32 (crd a t 0).val) (cnt a) = 1#1 ↔ Scalar.cmpi .slt (BitVec.ofNat 32 g.val) (a.1 1 (ix1 0)) = 1#1
  have e1 : cnt a = a.1 1 (ix1 0) := congrArg (a.1 1) (show (_ : S1.Idx) = _ from funext fun b => Fin.ext (by fin_cases b; rfl))
  rw [e, e1]

/-- A point's chunk of the experts' weights, in the specification's terms. -/
theorem term_at (t : Fin (cfg0 a).N) (hu : used (crd a t) (cnt a) = 1#1) (g : Fin 72) (hg : t.val / 2 = g.val) (s : Fin (cfg0 a).N) (hus : used (crd a s) (cnt a) = 1#1) (hs : s.val / 2 = g.val)
    (A : Vec Ideal S512x1024 .f32) (r : Fin 512) (l : Fin 1024) :
    ((k0_pay3 A (k0_pay1 (bx a m ρ c s)) (bg a m ρ c t) (bu a m ρ c t) (bd a m ρ c t) : FVec Ideal S512x1024 .f32) (ix2 r l) : EReal)
      = (A (ix2 r l) : EReal) + ∑ j : Fin 1792,
        (fun j : Fin 3584 => hid ((args a m c h).x ⟨g.val * 512 + r.val, by omega⟩) (fun k => (args a m c h).wg ((args a m c h).expert g) k j) (fun k => (args a m c h).wu ((args a m c h).expert g) k j)
          * (args a m c h).wd ((args a m c h).expert g) j l) ⟨t.val % 2 * 1792 + j.val, by omega⟩ := by
  have eg : crd a t 0 = g := Fin.ext ((coord0 t).trans hg)
  have ee : expertAt a.1 (crd a t) = ((args a m c h).expert g).val := by unfold expertAt; rw [eg]; rfl
  have he : expertAt a.1 (crd a t) < 8 := ee ▸ ((args a m c h).expert g).isLt
  have ec : chunkAt a.1 (crd a t) = t.val % 2 := (if_pos hu).trans (coord1 t)
  have e8 : (⟨expertAt a.1 (crd a t), he⟩ : Fin 8) = (args a m c h).expert g := Fin.ext ee
  rw [pay3_at]
  refine congrArg _ (Finset.sum_congr rfl fun j _ => ?_)
  have ej : (⟨chunkAt a.1 (crd a t) * 1792 + j.val, by have := chunk_lt a.1 (crd a t); omega⟩ : Fin 3584) = ⟨t.val % 2 * 1792 + j.val, by omega⟩ := Fin.ext (congrArg (fun n => n * 1792 + j.val) ec)
  have ex : (fun k => ((k0_pay1 (bx a m ρ c s) : FVec Ideal S512x1024 .bf16) (ix2 r k) : EReal)) = (args a m c h).x ⟨g.val * 512 + r.val, by omega⟩ := by
    funext k
    refine Eq.trans ?_ (bx_at a m ρ c s hus g hs r k)
    pointwise [k0_pay1]
  have e1 : (fun k => ((bg a m ρ c t : FVec Ideal S1x1024x1792 .bf16) (ix3 0 k j) : EReal)) = fun k => (args a m c h).wg ((args a m c h).expert g) k ⟨t.val % 2 * 1792 + j.val, by omega⟩ := by
    funext k; rw [bg_at a m ρ c t k j he, e8, ej]; rfl
  have e2 : (fun k => ((bu a m ρ c t : FVec Ideal S1x1024x1792 .bf16) (ix3 0 k j) : EReal)) = fun k => (args a m c h).wu ((args a m c h).expert g) k ⟨t.val % 2 * 1792 + j.val, by omega⟩ := by
    funext k; rw [bu_at a m ρ c t k j he, e8, ej]; rfl
  have e3 : ((bd a m ρ c t : FVec Ideal S1x1792x1024 .bf16) (ix3 0 j l) : EReal) = (args a m c h).wd ((args a m c h).expert g) ⟨t.val % 2 * 1792 + j.val, by omega⟩ l := by
    rw [bd_at a m ρ c t j l he, e8, ej]; rfl
  exact congrArg₂ (· * ·) (by rw [ex, e1, e2]) e3

theorem tileOut_at (t : Fin (cfg0 a).N) (ht : t.val % 2 = 1) (g : Fin 72) (hg : t.val / 2 = g.val) (r : Fin 512) (l : Fin 1024) :
    ((tileOut a m ρ c t : FVec Ideal S512x1024 .f32) (ix2 r l) : EReal) = out (args a m c h) ⟨g.val * 512 + r.val, by omega⟩ l := by
  rw [out_tile]
  have hgp : (pred a t).val / 2 = g.val := by show (t.val - 1) / 2 = g.val; omega
  have hp0 : (pred a t).val % 2 = 0 := by show (t.val - 1) % 2 = 0; omega
  unfold tileOut
  by_cases hu : used (crd a t) (cnt a) = 1#1
  · have hon := (used_on a m c h t g hg).1 hu
    have hup := (used_on a m c h (pred a t) g hgp).2 hon
    rw [if_pos hu, if_pos hon, term_at a m ρ c h t hu g hg (pred a t) hup hgp]
    unfold half
    rw [term_at a m ρ c h (pred a t) hup g hgp (pred a t) hup hgp]
    unfold ffn
    rw [halves]
    refine congrArg₂ (· + ·) (Eq.trans ?_ (zero_add _)) ?_
    · refine congrArg₂ (· + ·) ?_ (Finset.sum_congr rfl fun j _ => ?_)
      · pointwise [k0_pay2]
      · have : (⟨(pred a t).val % 2 * 1792 + j.val, by omega⟩ : Fin 3584) = ⟨j.val, by omega⟩ := Fin.ext (by show (pred a t).val % 2 * 1792 + j.val = j.val; rw [hp0]; omega)
        rw [this]
    · refine Finset.sum_congr rfl fun j _ => ?_
      have : (⟨t.val % 2 * 1792 + j.val, by omega⟩ : Fin 3584) = ⟨1792 + j.val, by omega⟩ := Fin.ext (by show t.val % 2 * 1792 + j.val = 1792 + j.val; rw [ht])
      rw [this]
  · rw [if_neg hu, if_neg fun hon => hu ((used_on a m c h t g hg).2 hon)]
    pointwise [k0_pay4]

end Cert.Kernel2Ideal.Expert
end
-- ==== Proof.ExpertRef.lean ====
module
public import proofs.«01_k».proof.Proof.Gen.Reference2Ideal.Run
public import proofs.«01_k».proof.Proof.ExpertSpec

@[expose] public section
set_option maxRecDepth 16384
noncomputable section

namespace Cert.Reference2Ideal.Expert

open Idealize.ShloMosaic Idealize.ShloMosaic.TcCoe Idealize.SL.Sem Idealize.ShloMosaic.StableHlo
open Cert.Reference2Ideal Cert.Reference2Ideal.Gen Cert.Reference2Ideal.Value Cert.Expert

/-- The reference's result, as its run leaves it. -/
def total {F : FTy → Type} [FloatOps F] (V : Valuation τ sig (Elt F)) : (Proc.devRef .tc main_v131 : DevRef τ sig).ty.Contents (Elt F) := addf (addf (addf (res_main_v86 V) (mulf (broadcastInDim S36864x1024 ![0, 1] bcast_S36864x1_S36864x1024_0_1 (extractStridedSlice S36864x1 ![0, 5] (res_main_v10 V) slices_S36864x8_S36864x1_0_5)) (Host.dotGeneral dot_S36864x3584_S3584x1024_S36864x1024_1_0_0_1_n_n none (mulf (mulf (res_main_v94 V) (Host.divf (broadcastInDim S36864x3584 ![] bcast_S_S36864x3584 (constant S_ .f32 0x3F800000#32)) (addf (broadcastInDim S36864x3584 ![] bcast_S_S36864x3584 (constant S_ .f32 0x3F800000#32)) (Host.exp (Host.negf (res_main_v94 V)))))) (Host.dotGeneral dot_S36864x1024_S1024x3584_S36864x3584_1_0_0_1_n_n none (V (Proc.devRef .tc main_arg0)) (shapeCast _ (extractStridedSlice S1x1024x3584 ![5, 0, 0] (res_main_v1 V) slices_S8x1024x3584_S1x1024x3584_5_0_0) shapeCasts_S1x1024x3584_S1024x3584))) (shapeCast _ (extractStridedSlice S1x3584x1024 ![5, 0, 0] (res_main_v2 V) slices_S8x3584x1024_S1x3584x1024_5_0_0) shapeCasts_S1x3584x1024_S3584x1024)))) (mulf (broadcastInDim S36864x1024 ![0, 1] bcast_S36864x1_S36864x1024_0_1 (extractStridedSlice S36864x1 ![0, 6] (res_main_v10 V) slices_S36864x8_S36864x1_0_6)) (Host.dotGeneral dot_S36864x3584_S3584x1024_S36864x1024_1_0_0_1_n_n none (mulf (mulf (res_main_v109 V) (Host.divf (broadcastInDim S36864x3584 ![] bcast_S_S36864x3584 (constant S_ .f32 0x3F800000#32)) (addf (broadcastInDim S36864x3584 ![] bcast_S_S36864x3584 (constant S_ .f32 0x3F800000#32)) (Host.exp (Host.negf (res_main_v109 V)))))) (Host.dotGeneral dot_S36864x1024_S1024x3584_S36864x3584_1_0_0_1_n_n none (V (Proc.devRef .tc main_arg0)) (shapeCast _ (extractStridedSlice S1x1024x3584 ![6, 0, 0] (res_main_v1 V) slices_S8x1024x3584_S1x1024x3584_6_0_0) shapeCasts_S1x1024x3584_S1024x3584))) (shapeCast _ (extractStridedSlice S1x3584x1024 ![6, 0, 0] (res_main_v2 V) slices_S8x3584x1024_S1x3584x1024_6_0_0) shapeCasts_S1x3584x1024_S3584x1024)))) (mulf (broadcastInDim S36864x1024 ![0, 1] bcast_S36864x1_S36864x1024_0_1 (extractStridedSlice S36864x1 ![0, 7] (res_main_v10 V) slices_S36864x8_S36864x1_0_7)) (Host.dotGeneral dot_S36864x3584_S3584x1024_S36864x1024_1_0_0_1_n_n none (mulf (mulf (res_main_v124 V) (Host.divf (broadcastInDim S36864x3584 ![] bcast_S_S36864x3584 (constant S_ .f32 0x3F800000#32)) (addf (broadcastInDim S36864x3584 ![] bcast_S_S36864x3584 (constant S_ .f32 0x3F800000#32)) (Host.exp (Host.negf (res_main_v124 V)))))) (Host.dotGeneral dot_S36864x1024_S1024x3584_S36864x3584_1_0_0_1_n_n none (V (Proc.devRef .tc main_arg0)) (shapeCast _ (extractStridedSlice S1x1024x3584 ![7, 0, 0] (res_main_v1 V) slices_S8x1024x3584_S1x1024x3584_7_0_0) shapeCasts_S1x1024x3584_S1024x3584))) (shapeCast _ (extractStridedSlice S1x3584x1024 ![7, 0, 0] (res_main_v2 V) slices_S8x3584x1024_S1x3584x1024_7_0_0) shapeCasts_S1x3584x1024_S3584x1024)))

variable (V : Valuation τ sig (Elt Ideal))

abbrev aX : FVec Ideal S36864x1024 .f32 := V (Proc.devRef .tc main_arg0)
abbrev aG : FVec Ideal S8x1024x3584 .bf16 := V (Proc.devRef .tc main_arg1)
abbrev aU : FVec Ideal S8x1024x3584 .bf16 := V (Proc.devRef .tc main_arg2)
abbrev aD : FVec Ideal S8x3584x1024 .bf16 := V (Proc.devRef .tc main_arg3)
abbrev aT : IVec S72 32 := V (Proc.devRef .tc main_arg4)
abbrev aN : IVec S1 32 := V (Proc.devRef .tc main_arg5)

variable (h : ∀ g : Fin 72, (aT V (ix1 g)).toNat < 8)

theorem tile_lt (R : Fin 36864) : R.val / 512 < 72 := by omega

/-- The arguments as the specification takes them. -/
abbrev args : Expert.Args := argsOf (aX V) (aG V) (aU V) (aD V) (aT V) (aN V) h

theorem weight_eq (R : Fin 36864) (e : Fin 8) :
    (FloatOps.uitofp (F := Ideal) .f32 (IntOp.cmpi .eq (aT V (ix1 ⟨R.val / 512, tile_lt R⟩)) (BitVec.ofNat 32 e.val)) : EReal)
      = if e = (args V h).expert ⟨R.val / 512, tile_lt R⟩ then 1 else 0 := by
  have ht := h ⟨R.val / 512, tile_lt R⟩
  have key : IntOp.cmpi .eq (aT V (ix1 ⟨R.val / 512, tile_lt R⟩)) (BitVec.ofNat 32 e.val) = 1#1 ↔ e = (args V h).expert ⟨R.val / 512, tile_lt R⟩ := by
    rw [IntOp.cmpi_eq]
    constructor
    · intro hh
      apply Fin.ext
      show e.val = (aT V (ix1 ⟨R.val / 512, tile_lt R⟩)).toNat
      rw [hh]; simp; omega
    · intro hh
      rw [hh]
      show _ = BitVec.ofNat 32 (aT V (ix1 ⟨R.val / 512, tile_lt R⟩)).toNat
      simp
  split <;> rename_i hh
  · rw [key.2 hh]; show (((1#1 : BitVec 1).toNat : ℝ) : EReal) = 1; simp
  · rw [(BitVec.eq_zero_or_eq_one _).resolve_right (fun h1 => hh (key.1 h1))]; show (((0#1 : BitVec 1).toNat : ℝ) : EReal) = 0; simp

/-- The weight the reference gives an expert at a row. -/
abbrev weight (R : Fin 36864) (e : Fin 8) : EReal := (res_main_v10 V : FVec Ideal S36864x8 .f32) (ix2 R e)

theorem combine_at (R : Fin 36864) (e : Fin 8) :
    weight V R e
      = (if Scalar.cmpi .slt (BitVec.ofNat 32 (R.val / 512)) (aN V (ix1 0)) = 1#1 then
          if e = (args V h).expert ⟨R.val / 512, tile_lt R⟩ then (1 : EReal) else 0
        else 0 : EReal) := by
  unfold weight
  pointwise [res_main_v10]
  show Scalar.select _ _ (Ideal.ofBits .f32 0#32) = _
  rw [Ideal.ofBits_zero_f32]
  unfold Scalar.select
  split <;> rename_i hh
  · exact (weight_eq V h R e).trans (if_pos hh).symm
  · exact (if_neg hh).symm

theorem total_at (R : Fin 36864) (l : Fin 1024) : (total V : FVec Ideal S36864x1024 .f32) (ix2 R l) = (out (args V h) R l : EReal) := by
  pointwise [total, res_main_v86, res_main_v19, res_main_v34, res_main_v49, res_main_v64, res_main_v79, res_main_v94, res_main_v109, res_main_v124, res_main_v0, res_main_v1, res_main_v2]
  refine (Fin.sum_univ_eight (fun e : Fin 8 => weight V R e * ffn ((args V h).x R) ((args V h).wg e) ((args V h).wu e) fun j => (args V h).wd e j l)).symm.trans ?_
  unfold out
  split <;> rename_i hon
  · exact pick _ _ _ fun e => (combine_at V h R e).trans (if_pos hon)
  · refine Finset.sum_eq_zero fun e _ => ?_
    rw [(combine_at V h R e).trans (if_neg hon), zero_mul]

theorem total_eq : (total V : FVec Ideal S36864x1024 .f32) = fun i => out (args V h) (i 0) (i 1) := by
  funext i
  have hi : i = ix2 (i 0) (i 1) := by funext b; fin_cases b <;> rfl
  exact (congrArg (total V : FVec Ideal S36864x1024 .f32) hi).trans (total_at V h (i 0) (i 1))

/-- The reference's run, its result under its name. -/
theorem run_total (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v131) = total (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  unfold total
  exact Value.run (F := Ideal) m ρ

end Cert.Reference2Ideal.Expert
end
-- ==== Proof.ExpertClaims.lean ====
module
public import proofs.«01_k».proof.Proof.ExpertFrameBits
public import proofs.«01_k».proof.Proof.ExpertValue
public import proofs.«01_k».proof.Proof.ExpertRef

@[expose] public section
set_option maxRecDepth 16384
noncomputable section

namespace Cert.Kernel2Ideal.Expert

open Idealize.ShloMosaic Idealize.ShloMosaic.TcCoe Idealize.SL.Sem
open Cert.Kernel2Ideal Cert.Kernel2Ideal.Gen Cert.Expert

variable (a : (pcfg0 (F := Ideal)).Adm) (m : (ℓ : Loc nD τ sig) → Buf (Elt Ideal) ℓ) (ρ : Dev nD → PrngReg) (c : Dev nD)
  (h : ∀ g : Fin 72, (a.1 0 (ix1 g) : BitVec 32).toNat < 8)

/-- The whole output. -/
def whole : FVec Ideal S36864x1024 .f32 := fun i => out (args a m c h) (i 0) (i 1)

theorem index4 (t : Fin (cfg0 a).N) : ((cfg0 a).win (4 : Fin 5)).index t 0 = t.val / 2 := by
  have h0 : (crd a t 0).val = t.val / 2 := coord0 t
  have hl : (crd a t 0).val < 72 := (crd a t 0).isLt
  show (BitVec.ofNat 32 (crd a t 0).val).toNat = t.val / 2
  rw [BitVec.toNat_ofNat, Nat.mod_eq_of_lt (by omega), h0]

theorem result_eq : (dats a m ρ 0 c).arrAt (4 : Fin 5) (cfg0 a).N = (whole a m c h : FVec Ideal S36864x1024 .f32) := by
  have hN : (cfg0 a).N = 144 := N_0
  refine (dats a m ρ 0 c).arrAt_eq_of_emb (4 : Fin 5) (whole a m c h) ?_ ?_
  · intro t hf y
    rw [flush4] at hf
    have ht : t.val % 2 = 1 := of_decide_eq_true hf
    have htl : t.val < 144 := Nat.lt_of_lt_of_eq t.isLt hN
    blk_simp
    rw [after0_4]
    have y0 : (y (0 : Fin 2)).val < 512 := (y (0 : Fin 2)).isLt
    have y1 : (y (1 : Fin 2)).val < 1024 := (y (1 : Fin 2)).isLt
    have hy : y = ix2 (⟨(y (0 : Fin 2)).val, y0⟩ : Fin 512) (⟨(y (1 : Fin 2)).val, y1⟩ : Fin 1024) := by
      funext b; fin_cases b <;> rfl
    refine (congrArg (tileOut a m ρ c t : FVec Ideal S512x1024 .f32) hy).trans
      ((tileOut_at a m ρ c h t ht ⟨t.val / 2, by omega⟩ rfl ⟨(y (0 : Fin 2)).val, y0⟩ ⟨(y (1 : Fin 2)).val, y1⟩).trans ?_)
    refine congrArg₂ (out (args a m c h)) (Fin.ext ?_) (Fin.ext ?_)
    · show t.val / 2 * 512 + (y (0 : Fin 2)).val = ((cfg0 a).win (4 : Fin 5)).index t 0 * 512 + 1 * (y (0 : Fin 2)).val
      rw [index4]; omega
    · show (y (1 : Fin 2)).val = 0 * 1024 + 1 * (y (1 : Fin 2)).val
      omega
  · intro i
    have h0 : (i 0).val < 36864 := (i 0).isLt
    have h1 : (i 1).val < 1024 := (i 1).isLt
    refine ⟨⟨2 * ((i 0).val / 512) + 1, by omega⟩, by rw [flush4]; exact decide_eq_true (by show (2 * ((i 0).val / 512) + 1) % 2 = 1; omega), ?_⟩
    refine (((cfg0 a).win (4 : Fin 5)).emb_mem_blk_iff _ i).2 fun b => ?_
    fin_cases b
    · show ((cfg0 a).win (4 : Fin 5)).index ⟨2 * ((i 0).val / 512) + 1, _⟩ 0 * 512 ≤ (i 0).val
        ∧ (i 0).val < ((cfg0 a).win (4 : Fin 5)).index ⟨2 * ((i 0).val / 512) + 1, _⟩ 0 * 512 + 512
      rw [index4]
      show (2 * ((i 0).val / 512) + 1) / 2 * 512 ≤ (i 0).val ∧ (i 0).val < (2 * ((i 0).val / 512) + 1) / 2 * 512 + 512
      omega
    · show 0 * 1024 ≤ (i 1).val ∧ (i 1).val < 0 * 1024 + 1024
      omega

end Cert.Kernel2Ideal.Expert

namespace Cert.Expert
open Idealize.ShloMosaic Idealize.ShloMosaic.TcCoe Idealize.SL.Sem

theorem algebraic2 : Cert.algebraic_Kernel2Ideal_Reference2Ideal := by
  intro m g m' g' hpre hag
  have hr := Cert.Kernel2Ideal.Expert.range_of_pre (hpre 0)
  let a := Cert.Kernel2Ideal.Expert.adm m hr
  refine ⟨fun c => Cert.Kernel2Ideal.Expert.whole a m c fun g => hr _, ?_, ?_⟩
  · exact (θ_run Cert.Kernel2Ideal.defs _ _).mono (fun r hh c => ⟨((hh.1 c).1 4).trans (Cert.Kernel2Ideal.Expert.result_eq a m g c _),
      Cert.Kernel2Ideal.Expert.args_kept a m g (Cert.Kernel2Ideal.Expert.adm_eq m hr) r hh.1 c⟩)
      (Cert.Kernel2Ideal.Expert.run_main_quiescent a m g (Cert.Kernel2Ideal.Expert.adm_eq m hr))
  · refine (θ_run Cert.Reference2Ideal.defs _ _).mono (fun r hh c => ⟨(hh c).1.trans ?_, (hh c).2⟩) (Cert.Reference2Ideal.Expert.run_total m' g')
    obtain ⟨e0, e1, e2, e3, e4, e5⟩ := hag c
    have k4 : Cert.Reference2Ideal.Expert.aT (StableHlo.launchContents m' c) = a.1 0 := e4.trans (Cert.Kernel2Ideal.Expert.adm_eq m hr c 0)
    have k5 : Cert.Reference2Ideal.Expert.aN (StableHlo.launchContents m' c) = a.1 1 := e5.trans (Cert.Kernel2Ideal.Expert.adm_eq m hr c 1)
    have hr' : ∀ g : Fin 72, (Cert.Reference2Ideal.Expert.aT (StableHlo.launchContents m' c) (ix1 g)).toNat < 8 := fun g => by
      rw [k4]; exact hr _
    refine (Cert.Reference2Ideal.Expert.total_eq _ hr').trans ?_
    have hA : Cert.Reference2Ideal.Expert.args (StableHlo.launchContents m' c) hr' = Cert.Kernel2Ideal.Expert.args a m c fun g => hr _ := by
      have k0 : Cert.Reference2Ideal.Expert.aX (StableHlo.launchContents m' c) = _ := e0
      have k1 : Cert.Reference2Ideal.Expert.aG (StableHlo.launchContents m' c) = _ := e1
      have k2 : Cert.Reference2Ideal.Expert.aU (StableHlo.launchContents m' c) = _ := e2
      have k3 : Cert.Reference2Ideal.Expert.aD (StableHlo.launchContents m' c) = _ := e3
      unfold Cert.Reference2Ideal.Expert.args Cert.Kernel2Ideal.Expert.args
      simp only [k0, k1, k2, k3, k4, k5]
    rw [hA]
    rfl

end Cert.Expert
end
-- ==== Proof.DenseSpec.lean ====
module
public import proofs.«01_k».proof.Proof.ExpertSpec

/-! The output projection with its residual and layer norm, and the dense feed-forward with its own, a row at a time over the
    extended reals. No program is named here. -/

@[expose] public section
noncomputable section

namespace Cert.Dense

open Idealize.ShloMosaic Cert.Mlstm Cert.Expert

/-- The factor of the residual branch, the number of columns and the norm's offset, as the programs print them. -/
abbrev alpha : EReal := Ideal.ofBits FTy.f32 0x3FB504F3#32
abbrev width : EReal := Ideal.ofBits FTy.f32 0x44800000#32
abbrev offset : EReal := Ideal.ofBits FTy.f32 0x3727C5AC#32

/-- A row's mean. -/
def mean (y : Fin 1024 → EReal) : EReal := Ideal.div (∑ k, y k) width

/-- The layer norm of a row, with gain and bias. -/
def norm (y g b : Fin 1024 → EReal) (l : Fin 1024) : EReal :=
  (y l - mean y) * Ideal.rsqrt (mean (fun k => (y k - mean y) * (y k - mean y)) + offset) * g l + b l

/-- One column of the two head groups' outputs through the output projection. -/
def mix (a s : Fin 512 → EReal) (w : Fin 1024 → EReal) : EReal :=
  (∑ k : Fin 512, a k * w ⟨k.val, by omega⟩) + ∑ k : Fin 512, s k * w ⟨512 + k.val, by omega⟩

/-- The output projection, the residual and the norm on a row. -/
def mixed (a s : Fin 512 → EReal) (w : Fin 1024 → Fin 1024 → EReal) (x g b : Fin 1024 → EReal) : Fin 1024 → EReal :=
  norm (fun l => alpha * x l + mix a s fun k => w k l) g b

/-- The dense feed-forward part of a row. -/
def dense (x : Fin 1024 → EReal) (wg wu : Fin 1024 → Fin 2816 → EReal) (wd : Fin 2816 → EReal) : EReal :=
  ∑ j, hid x (fun k => wg k j) (fun k => wu k j) * wd j

/-- The feed-forward, the residual and the norm on a row. -/
def fed (x : Fin 1024 → EReal) (wg wu : Fin 1024 → Fin 2816 → EReal) (wd : Fin 2816 → Fin 1024 → EReal) (g b : Fin 1024 → EReal) : Fin 1024 → EReal :=
  norm (fun l => alpha * x l + dense x wg wu fun j => wd j l) g b

/-- A sum over two groups of 512 columns, told apart by the column's number. -/
theorem mix_cases (a s : Fin 512 → EReal) (w f : Fin 1024 → EReal)
    (hl : ∀ k : Fin 512, f ⟨k.val, by omega⟩ = a k * w ⟨k.val, by omega⟩) (hr : ∀ k : Fin 512, f ⟨512 + k.val, by omega⟩ = s k * w ⟨512 + k.val, by omega⟩) :
    ∑ k, f k = mix a s w :=
  (Fin.sum_univ_add (a := 512) (b := 512) f).trans (congrArg₂ (· + ·) (Finset.sum_congr rfl fun k _ => hl k) (Finset.sum_congr rfl fun k _ => hr k))

/-- The hidden units in five chunks of 512 and one of 256, added up from the left. -/
theorem chunks (f : Fin 2816 → EReal) :
    ∑ j, f j = (((((∑ j : Fin 512, f ⟨j.val, by omega⟩) + ∑ j : Fin 512, f ⟨512 + j.val, by omega⟩) + ∑ j : Fin 512, f ⟨1024 + j.val, by omega⟩)
      + ∑ j : Fin 512, f ⟨1536 + j.val, by omega⟩) + ∑ j : Fin 512, f ⟨2048 + j.val, by omega⟩) + ∑ j : Fin 256, f ⟨2560 + j.val, by omega⟩ := by
  refine (Fin.sum_univ_add (a := 2560) (b := 256) f).trans (congrArg (· + _) ?_)
  refine (Fin.sum_univ_add (a := 2048) (b := 512) _).trans (congrArg (· + _) ?_)
  refine (Fin.sum_univ_add (a := 1536) (b := 512) _).trans (congrArg (· + _) ?_)
  refine (Fin.sum_univ_add (a := 1024) (b := 512) _).trans (congrArg (· + _) ?_)
  exact Fin.sum_univ_add (a := 512) (b := 512) _

end Cert.Dense
end
-- ==== Proof.OutProj.lean ====
module
public import proofs.«01_k».proof.Proof.Gen.Kernel4Ideal.Value
public import proofs.«01_k».proof.Proof.DenseSpec
public import Idealize.ShloMosaic.Lib.Pipeline.ValueKit.Point

@[expose] public section
set_option maxRecDepth 16384
noncomputable section

namespace Cert.Kernel4Ideal.OutProj

open Idealize.ShloMosaic Idealize.ShloMosaic.TcCoe Idealize.SL.Sem
open Cert.Kernel4Ideal Cert.Kernel4Ideal.Gen Cert.Dense

theorem pay1_at (a : Vec Ideal S512x512 .bf16) (wa : Vec Ideal S512x1024 .bf16) (s : Vec Ideal S512x512 .bf16) (wb : Vec Ideal S512x1024 .bf16)
    (x : Vec Ideal S512x1024 .f32) (g b : Vec Ideal S1x1024 .f32) (r : Fin 512) (l : Fin 1024) :
    ((k0_pay1 a wa s wb x g b : FVec Ideal S512x1024 .f32) (ix2 r l) : EReal)
      = norm (fun l => alpha * x (ix2 r l) + ((∑ k : Fin 512, a (ix2 r k) * wa (ix2 k l)) + ∑ k : Fin 512, s (ix2 r k) * wb (ix2 k l)))
        (fun l => g (ix2 0 l)) (fun l => b (ix2 0 l)) l := by
  pointwise [k0_pay1]
  rfl

theorem zero2 : (![0, 0] : Fin 2 → ℕ) = fun _ => 0 := by funext a; fin_cases a <;> rfl

/-- What a point leaves in the result's block is the payload of its blocks. -/
theorem out_eq (x0 x1 : Vec Ideal S512x512 .bf16) (x2 x3 : Vec Ideal S512x1024 .bf16) (x4 : Vec Ideal S512x1024 .f32) (x5 x6 : Vec Ideal S1x1024 .f32) :
    out0_7 x0 x1 x2 x3 x4 x5 x6 = k0_pay1 x0 x2 x1 x3 x4 x5 x6 := by
  unfold out0_7
  rw [View.canon_unit_zero zero2]
  have h0 (x : Vec Ideal S512x512 .bf16) : View.ld x r0_0 = x := View.ld_unit_zero zero2 _ x
  have h1 (x : Vec Ideal S512x1024 .bf16) : View.ld x r0_1 = x := View.ld_unit_zero zero2 _ x
  have h2 (x : Vec Ideal S512x1024 .f32) : View.ld x r0_1 = x := View.ld_unit_zero zero2 _ x
  have h3 (x : Vec Ideal S1x1024 .f32) : View.ld x r0_2 = x := View.ld_unit_zero zero2 _ x
  rw [h0, h0, h1, h1, h2, h3, h3]

theorem index_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 1 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) := by decide +kernel

variable (m : (ℓ : Loc nD τ sig) → Buf (Elt Ideal) ℓ) (c : Dev nD)

abbrev aA : FVec Ideal S16384x512 .bf16 := m ((c.tc : Thread nD τ).loc main_arg0)
abbrev aS : FVec Ideal S16384x512 .bf16 := m ((c.tc : Thread nD τ).loc main_arg1)
abbrev aW : FVec Ideal S1024x1024 .bf16 := m ((c.tc : Thread nD τ).loc main_arg2)
abbrev aX : FVec Ideal S16384x1024 .f32 := m ((c.tc : Thread nD τ).loc main_arg3)
abbrev aG : FVec Ideal S1x1024 .f32 := m ((c.tc : Thread nD τ).loc main_arg4)
abbrev aB : FVec Ideal S1x1024 .f32 := m ((c.tc : Thread nD τ).loc main_arg5)

theorem row_lt (t : Fin cfg0.N) (r : Fin 512) : t.val * 512 + r.val < 16384 := by have : cfg0.N = 32 := N_0; omega

theorem blk0_at (t : Fin cfg0.N) (r : Fin 512) (k : Fin 512) : (iblk m c 0 t : Vec Ideal S512x512 .bf16) (ix2 r k) = aA m c (ix2 ⟨t.val * 512 + r.val, row_lt t r⟩ k) := by
  blk_ext [iblk, V, (index_facts t).1.1, (index_facts t).1.2]
theorem blk1_at (t : Fin cfg0.N) (r : Fin 512) (k : Fin 512) : (iblk m c 1 t : Vec Ideal S512x512 .bf16) (ix2 r k) = aS m c (ix2 ⟨t.val * 512 + r.val, row_lt t r⟩ k) := by
  blk_ext [iblk, V, (index_facts t).2.1.1, (index_facts t).2.1.2]
theorem blk2_at (t : Fin cfg0.N) (k : Fin 512) (l : Fin 1024) : (iblk m c 2 t : Vec Ideal S512x1024 .bf16) (ix2 k l) = aW m c (ix2 ⟨k.val, by omega⟩ l) := by
  blk_ext [iblk, V, (index_facts t).2.2.1.1, (index_facts t).2.2.1.2]
theorem blk3_at (t : Fin cfg0.N) (k : Fin 512) (l : Fin 1024) : (iblk m c 3 t : Vec Ideal S512x1024 .bf16) (ix2 k l) = aW m c (ix2 ⟨512 + k.val, by omega⟩ l) := by
  blk_ext [iblk, V, (index_facts t).2.2.2.1.1, (index_facts t).2.2.2.1.2]
theorem blk4_at (t : Fin cfg0.N) (r : Fin 512) (l : Fin 1024) : (iblk m c 4 t : Vec Ideal S512x1024 .f32) (ix2 r l) = aX m c (ix2 ⟨t.val * 512 + r.val, row_lt t r⟩ l) := by
  blk_ext [iblk, V, (index_facts t).2.2.2.2.1.1, (index_facts t).2.2.2.2.1.2]
theorem blk5_at (t : Fin cfg0.N) (l : Fin 1024) : (iblk m c 5 t : Vec Ideal S1x1024 .f32) (ix2 0 l) = aG m c (ix2 0 l) := by
  blk_ext [iblk, V, (index_facts t).2.2.2.2.2.1.1, (index_facts t).2.2.2.2.2.1.2]
theorem blk6_at (t : Fin cfg0.N) (l : Fin 1024) : (iblk m c 6 t : Vec Ideal S1x1024 .f32) (ix2 0 l) = aB m c (ix2 0 l) := by
  blk_ext [iblk, V, (index_facts t).2.2.2.2.2.2.1.1, (index_facts t).2.2.2.2.2.2.1.2]

/-- A row of the whole output, from the arguments. -/
def rowOut (A S : FVec Ideal S16384x512 .bf16) (W : FVec Ideal S1024x1024 .bf16) (X : FVec Ideal S16384x1024 .f32) (G B : FVec Ideal S1x1024 .f32) (R : Fin 16384) : Fin 1024 → EReal :=
  mixed (fun k => A (ix2 R k)) (fun k => S (ix2 R k)) (fun k l => W (ix2 k l)) (fun l => X (ix2 R l)) (fun l => G (ix2 0 l)) (fun l => B (ix2 0 l))

/-- The whole output. -/
def whole (A S : FVec Ideal S16384x512 .bf16) (W : FVec Ideal S1024x1024 .bf16) (X : FVec Ideal S16384x1024 .f32) (G B : FVec Ideal S1x1024 .f32) : FVec Ideal S16384x1024 .f32 :=
  fun i => rowOut A S W X G B (i 0) (i 1)

abbrev wholeK : FVec Ideal S16384x1024 .f32 := whole (aA m c) (aS m c) (aW m c) (aX m c) (aG m c) (aB m c)

theorem point_at (t : Fin cfg0.N) (r : Fin 512) (l : Fin 1024) :
    ((k0_pay1 (iblk m c 0 t) (iblk m c 2 t) (iblk m c 1 t) (iblk m c 3 t) (iblk m c 4 t) (iblk m c 5 t) (iblk m c 6 t) : FVec Ideal S512x1024 .f32) (ix2 r l) : EReal)
      = rowOut (aA m c) (aS m c) (aW m c) (aX m c) (aG m c) (aB m c) ⟨t.val * 512 + r.val, row_lt t r⟩ l := by
  rw [pay1_at]
  simp only [blk0_at, blk1_at, blk2_at, blk3_at, blk4_at, blk5_at, blk6_at]
  rfl

theorem result_eq : (dats m 0 c).arrAt 7 cfg0.N = wholeK m c := by
  have hN : cfg0.N = 32 := N_0
  refine (dats m 0 c).arrAt_eq_of_emb 7 (wholeK m c) ?_ ?_
  · intro t _ y
    blk_simp
    rw [after0_7, out_eq]
    have y0 : (y (0 : Fin 2)).val < 512 := (y (0 : Fin 2)).isLt
    have y1 : (y (1 : Fin 2)).val < 1024 := (y (1 : Fin 2)).isLt
    have hy : y = ix2 (⟨(y (0 : Fin 2)).val, y0⟩ : Fin 512) (⟨(y (1 : Fin 2)).val, y1⟩ : Fin 1024) := by
      funext b; fin_cases b <;> rfl
    refine (congrArg (k0_pay1 _ _ _ _ _ _ _ : FVec Ideal S512x1024 .f32) hy).trans
      ((point_at m c t ⟨(y (0 : Fin 2)).val, y0⟩ ⟨(y (1 : Fin 2)).val, y1⟩).trans ?_)
    refine congrArg₂ (rowOut _ _ _ _ _ _) (Fin.ext ?_) (Fin.ext ?_)
    · show t.val * 512 + (y (0 : Fin 2)).val = win0_7.index t (0 : Fin 2) * 512 + 1 * (y (0 : Fin 2)).val
      rw [(index_facts t).2.2.2.2.2.2.2.1]; omega
    · show (y (1 : Fin 2)).val = win0_7.index t (1 : Fin 2) * 1024 + 1 * (y (1 : Fin 2)).val
      rw [(index_facts t).2.2.2.2.2.2.2.2]; omega
  · intro i
    have h0 : (i 0).val < 16384 := (i 0).isLt
    have h1 : (i 1).val < 1024 := (i 1).isLt
    refine ⟨⟨(i 0).val / 512, by omega⟩, flush0_7 _, ?_⟩
    refine ((cfg0.win 7).emb_mem_blk_iff _ i).2 fun b => ?_
    fin_cases b
    · show win0_7.index ⟨(i 0).val / 512, _⟩ (0 : Fin 2) * 512 ≤ (i 0).val ∧ (i 0).val < win0_7.index ⟨(i 0).val / 512, _⟩ (0 : Fin 2) * 512 + 512
      rw [(index_facts _).2.2.2.2.2.2.2.1]
      show (i 0).val / 512 * 512 ≤ (i 0).val ∧ (i 0).val < (i 0).val / 512 * 512 + 512
      omega
    · show win0_7.index ⟨(i 0).val / 512, _⟩ (1 : Fin 2) * 1024 ≤ (i 1).val ∧ (i 1).val < win0_7.index ⟨(i 0).val / 512, _⟩ (1 : Fin 2) * 1024 + 1024
      rw [(index_facts _).2.2.2.2.2.2.2.2]
      omega

end Cert.Kernel4Ideal.OutProj
end
-- ==== Proof.Dense.lean ====
module
public import proofs.«01_k».proof.Proof.Gen.Kernel3Ideal.Value
public import proofs.«01_k».proof.Proof.DenseSpec
public import Idealize.ShloMosaic.Lib.Pipeline.ValueKit.Point

@[expose] public section
set_option maxRecDepth 16384
noncomputable section

namespace Cert.Kernel3Ideal.Feed

open Idealize.ShloMosaic Idealize.ShloMosaic.TcCoe Idealize.SL.Sem
open Cert.Kernel3Ideal Cert.Kernel3Ideal.Gen Cert.Kernel3Ideal.Value Cert.Dense Cert.Expert

/-- The output projection, residual and norm of a tile, at an element. -/
theorem pay2_at (a : Vec Ideal S512x512 .bf16) (wa : Vec Ideal S512x1024 .bf16) (s : Vec Ideal S512x512 .bf16) (wb : Vec Ideal S512x1024 .bf16) (x : Vec Ideal S512x1024 .f32) (g b : Vec Ideal S1x1024 .f32) (r : Fin 512) (l : Fin 1024) :
    ((k0_pay2 a wa s wb x g b : FVec Ideal S512x1024 .f32) (ix2 r l) : EReal)
      = norm (fun l => alpha * x (ix2 r l) + ((∑ k : Fin 512, (a (ix2 r k) : EReal) * wa (ix2 k l)) + ∑ k : Fin 512, (s (ix2 r k) : EReal) * wb (ix2 k l))) (fun l => g (ix2 0 l)) (fun l => b (ix2 0 l)) l := by
  pointwise [k0_pay2]; rfl

theorem pay3_at (a : Vec Ideal S512x512 .bf16) (wa : Vec Ideal S512x1024 .bf16) (s : Vec Ideal S512x512 .bf16) (wb : Vec Ideal S512x1024 .bf16) (x : Vec Ideal S512x1024 .f32) (g b : Vec Ideal S1x1024 .f32) (i : S512x1024.Idx) :
    ((k0_pay3 a wa s wb x g b : FVec Ideal S512x1024 .bf16) i : EReal) = (k0_pay2 a wa s wb x g b : FVec Ideal S512x1024 .f32) i := rfl

/-- The last norm of a tile, at an element. -/
theorem pay1_at (y : FVec Ideal S512x1024 .f32) (g b : Vec Ideal S1x1024 .f32) (r : Fin 512) (l : Fin 1024) :
    ((k0_pay1 y g b : FVec Ideal S512x1024 .f32) (ix2 r l) : EReal) = norm (fun l => y (ix2 r l)) (fun l => g (ix2 0 l)) (fun l => b (ix2 0 l)) l := by
  pointwise [k0_pay1]; rfl

/-- A chunk of hidden units on a row. -/
abbrev part (X : Vec Ideal S512x1024 .bf16) (g u : Vec Ideal S1024x512 .bf16) (d : Vec Ideal S512x1024 .bf16) (r : Fin 512) (l : Fin 1024) : EReal :=
  ∑ j : Fin 512, hid (fun k => X (ix2 r k)) (fun k => g (ix2 k j)) (fun k => u (ix2 k j)) * (d (ix2 j l) : EReal)

theorem pay4_at (X : Vec Ideal S512x1024 .bf16) (g u : Vec Ideal S1024x512 .bf16) (d : Vec Ideal S512x1024 .bf16) (g' u' : Vec Ideal S1024x512 .bf16) (d' : Vec Ideal S512x1024 .bf16) (r : Fin 512) (l : Fin 1024) :
    ((k0_pay4 X g u d g' u' d' : FVec Ideal S512x1024 .f32) (ix2 r l) : EReal) = part X g u d r l + part X g' u' d' r l := by
  pointwise [k0_pay4]; simp only [zero_sub]; rfl

theorem pay5_at (X : Vec Ideal S512x1024 .bf16) (A : FVec Ideal S512x1024 .f32) (g u : Vec Ideal S1024x512 .bf16) (d : Vec Ideal S512x1024 .bf16) (g' u' : Vec Ideal S1024x512 .bf16) (d' : Vec Ideal S512x1024 .bf16) (r : Fin 512) (l : Fin 1024) :
    ((k0_pay5 X A g u d g' u' d' : FVec Ideal S512x1024 .f32) (ix2 r l) : EReal) = (A (ix2 r l) : EReal) + part X g u d r l + part X g' u' d' r l := by
  pointwise [k0_pay5]; simp only [zero_sub]; rfl

theorem pay6_at (x : FVec Ideal S512x1024 .f32) (X : Vec Ideal S512x1024 .bf16) (A : FVec Ideal S512x1024 .f32) (g u : Vec Ideal S1024x512 .bf16) (d : Vec Ideal S512x1024 .bf16) (g' u' : Vec Ideal S1024x256 .bf16) (d' : Vec Ideal S256x1024 .bf16) (r : Fin 512) (l : Fin 1024) :
    ((k0_pay6 x X A g u d g' u' d' : FVec Ideal S512x1024 .f32) (ix2 r l) : EReal)
      = alpha * x (ix2 r l) + ((A (ix2 r l) : EReal) + part X g u d r l
        + ∑ j : Fin 256, hid (fun k => X (ix2 r k)) (fun k => g' (ix2 k j)) (fun k => u' (ix2 k j)) * (d' (ix2 j l) : EReal)) := by
  pointwise [k0_pay6]; simp only [zero_sub]; rfl

theorem col0_at (x : Vec Ideal S1024x2816 .bf16) (k : Fin 1024) (j : Fin 512) : (View.ld x r0_3 : Vec Ideal S1024x512 .bf16) (ix2 k j) = x (ix2 k ⟨j.val, by omega⟩) := by
  pointwise [r0_3]
theorem row0_at (x : Vec Ideal S2816x1024 .bf16) (j : Fin 512) (l : Fin 1024) : (View.ld x r0_4 : Vec Ideal S512x1024 .bf16) (ix2 j l) = x (ix2 ⟨j.val, by omega⟩ l) := by
  pointwise [r0_4]
theorem col1_at (x : Vec Ideal S1024x2816 .bf16) (k : Fin 1024) (j : Fin 512) : (View.ld x r0_5 : Vec Ideal S1024x512 .bf16) (ix2 k j) = x (ix2 k ⟨512 + j.val, by omega⟩) := by
  pointwise [r0_5]
theorem row1_at (x : Vec Ideal S2816x1024 .bf16) (j : Fin 512) (l : Fin 1024) : (View.ld x r0_6 : Vec Ideal S512x1024 .bf16) (ix2 j l) = x (ix2 ⟨512 + j.val, by omega⟩ l) := by
  pointwise [r0_6]
theorem col2_at (x : Vec Ideal S1024x2816 .bf16) (k : Fin 1024) (j : Fin 512) : (View.ld x r0_7 : Vec Ideal S1024x512 .bf16) (ix2 k j) = x (ix2 k ⟨1024 + j.val, by omega⟩) := by
  pointwise [r0_7]
theorem row2_at (x : Vec Ideal S2816x1024 .bf16) (j : Fin 512) (l : Fin 1024) : (View.ld x r0_8 : Vec Ideal S512x1024 .bf16) (ix2 j l) = x (ix2 ⟨1024 + j.val, by omega⟩ l) := by
  pointwise [r0_8]
theorem col3_at (x : Vec Ideal S1024x2816 .bf16) (k : Fin 1024) (j : Fin 512) : (View.ld x r0_9 : Vec Ideal S1024x512 .bf16) (ix2 k j) = x (ix2 k ⟨1536 + j.val, by omega⟩) := by
  pointwise [r0_9]
theorem row3_at (x : Vec Ideal S2816x1024 .bf16) (j : Fin 512) (l : Fin 1024) : (View.ld x r0_10 : Vec Ideal S512x1024 .bf16) (ix2 j l) = x (ix2 ⟨1536 + j.val, by omega⟩ l) := by
  pointwise [r0_10]
theorem col4_at (x : Vec Ideal S1024x2816 .bf16) (k : Fin 1024) (j : Fin 512) : (View.ld x r0_11 : Vec Ideal S1024x512 .bf16) (ix2 k j) = x (ix2 k ⟨2048 + j.val, by omega⟩) := by
  pointwise [r0_11]
theorem row4_at (x : Vec Ideal S2816x1024 .bf16) (j : Fin 512) (l : Fin 1024) : (View.ld x r0_12 : Vec Ideal S512x1024 .bf16) (ix2 j l) = x (ix2 ⟨2048 + j.val, by omega⟩ l) := by
  pointwise [r0_12]
theorem col5_at (x : Vec Ideal S1024x2816 .bf16) (k : Fin 1024) (j : Fin 256) : (View.ld x r0_13 : Vec Ideal S1024x256 .bf16) (ix2 k j) = x (ix2 k ⟨2560 + j.val, by omega⟩) := by
  pointwise [r0_13]
theorem row5_at (x : Vec Ideal S2816x1024 .bf16) (j : Fin 256) (l : Fin 1024) : (View.ld x r0_14 : Vec Ideal S256x1024 .bf16) (ix2 j l) = x (ix2 ⟨2560 + j.val, by omega⟩ l) := by
  pointwise [r0_14]

theorem zero2 : (![0, 0] : Fin 2 → ℕ) = fun _ => 0 := by funext a; fin_cases a <;> rfl

/-- A row of a tile's result, from its blocks. -/
theorem out_at (x0 x1 : Vec Ideal S512x512 .bf16) (x2 x3 : Vec Ideal S512x1024 .bf16) (x4 : Vec Ideal S512x1024 .f32) (x5 x6 : Vec Ideal S1x1024 .f32)
    (x7 x8 : Vec Ideal S1024x2816 .bf16) (x9 : Vec Ideal S2816x1024 .bf16) (x10 x11 : Vec Ideal S1x1024 .f32) (r : Fin 512) (l : Fin 1024) :
    ((out0_12 x0 x1 x2 x3 x4 x5 x6 x7 x8 x9 x10 x11 : FVec Ideal S512x1024 .f32) (ix2 r l) : EReal)
      = fed (norm (fun l => alpha * x4 (ix2 r l) + ((∑ k : Fin 512, (x0 (ix2 r k) : EReal) * x2 (ix2 k l)) + ∑ k : Fin 512, (x1 (ix2 r k) : EReal) * x3 (ix2 k l))) (fun l => x5 (ix2 0 l)) (fun l => x6 (ix2 0 l)))
          (fun k j => x7 (ix2 k j)) (fun k j => x8 (ix2 k j)) (fun j l => x9 (ix2 j l)) (fun l => x10 (ix2 0 l)) (fun l => x11 (ix2 0 l)) l := by
  have h0 (x : Vec Ideal S512x512 .bf16) : View.ld x r0_0 = x := View.ld_unit_zero zero2 _ x
  have h1 (x : Vec Ideal S512x1024 .bf16) : View.ld x r0_1 = x := View.ld_unit_zero zero2 _ x
  have h2 (x : Vec Ideal S512x1024 .f32) : View.ld x r0_1 = x := View.ld_unit_zero zero2 _ x
  have h3 (x : Vec Ideal S1x1024 .f32) : View.ld x r0_2 = x := View.ld_unit_zero zero2 _ x
  unfold out0_12 k0_pay7
  rw [View.canon_unit_zero zero2, h0, h0, h1, h1, h2, h3, h3, h3, h3, pay1_at]
  refine congrFun (congrArg (fun y => norm y _ _) (funext fun q => ?_)) l
  rw [pay6_at, pay5_at, pay4_at]
  unfold dense
  rw [chunks]
  simp only [part, pay3_at, pay2_at]
  exact congrArg₂ (· + ·) rfl (congrArg₂ (· + ·) (congrArg₂ (· + ·) (congrArg₂ (· + ·) (congrArg₂ (· + ·) (congrArg₂ (· + ·) (Finset.sum_congr rfl fun j _ => congrArg₂ (· * ·) (congrArg₂ (hid _) (funext fun k => col0_at x7 k j) (funext fun k => col0_at x8 k j)) (row0_at x9 j q))
    (Finset.sum_congr rfl fun j _ => congrArg₂ (· * ·) (congrArg₂ (hid _) (funext fun k => col1_at x7 k j) (funext fun k => col1_at x8 k j)) (row1_at x9 j q)))
    (Finset.sum_congr rfl fun j _ => congrArg₂ (· * ·) (congrArg₂ (hid _) (funext fun k => col2_at x7 k j) (funext fun k => col2_at x8 k j)) (row2_at x9 j q)))
    (Finset.sum_congr rfl fun j _ => congrArg₂ (· * ·) (congrArg₂ (hid _) (funext fun k => col3_at x7 k j) (funext fun k => col3_at x8 k j)) (row3_at x9 j q)))
    (Finset.sum_congr rfl fun j _ => congrArg₂ (· * ·) (congrArg₂ (hid _) (funext fun k => col4_at x7 k j) (funext fun k => col4_at x8 k j)) (row4_at x9 j q)))
    (Finset.sum_congr rfl fun j _ => congrArg₂ (· * ·) (congrArg₂ (hid _) (funext fun k => col5_at x7 k j) (funext fun k => col5_at x8 k j)) (row5_at x9 j q)))

theorem index_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 1 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = t.val ∧ win0_12.index t (1 : Fin 2) = 0) := by decide +kernel

variable (m : (ℓ : Loc nD τ sig) → Buf (Elt Ideal) ℓ) (c : Dev nD)

abbrev aA : FVec Ideal S16384x512 .bf16 := m ((c.tc : Thread nD τ).loc main_arg0)
abbrev aS : FVec Ideal S16384x512 .bf16 := m ((c.tc : Thread nD τ).loc main_arg1)
abbrev aW : FVec Ideal S1024x1024 .bf16 := m ((c.tc : Thread nD τ).loc main_arg2)
abbrev aX : FVec Ideal S16384x1024 .f32 := m ((c.tc : Thread nD τ).loc main_arg3)
abbrev aG : FVec Ideal S1x1024 .f32 := m ((c.tc : Thread nD τ).loc main_arg4)
abbrev aB : FVec Ideal S1x1024 .f32 := m ((c.tc : Thread nD τ).loc main_arg5)
abbrev aWg : FVec Ideal S1024x2816 .bf16 := m ((c.tc : Thread nD τ).loc main_arg6)
abbrev aWu : FVec Ideal S1024x2816 .bf16 := m ((c.tc : Thread nD τ).loc main_arg7)
abbrev aWd : FVec Ideal S2816x1024 .bf16 := m ((c.tc : Thread nD τ).loc main_arg8)
abbrev aG2 : FVec Ideal S1x1024 .f32 := m ((c.tc : Thread nD τ).loc main_arg9)
abbrev aB2 : FVec Ideal S1x1024 .f32 := m ((c.tc : Thread nD τ).loc main_arg10)

theorem row_lt (t : Fin cfg0.N) (r : Fin 512) : t.val * 512 + r.val < 16384 := by have : cfg0.N = 32 := N_0; omega

theorem blk0_at (t : Fin cfg0.N) (r : Fin 512) (l : Fin 512) : (iblk m c 0 t : Vec Ideal S512x512 .bf16) (ix2 r l) = aA m c (ix2 ⟨t.val * 512 + r.val, row_lt t r⟩ l) := by
  blk_ext [iblk, V, (index_facts t).1.1, (index_facts t).1.2]
theorem blk1_at (t : Fin cfg0.N) (r : Fin 512) (l : Fin 512) : (iblk m c 1 t : Vec Ideal S512x512 .bf16) (ix2 r l) = aS m c (ix2 ⟨t.val * 512 + r.val, row_lt t r⟩ l) := by
  blk_ext [iblk, V, (index_facts t).2.1.1, (index_facts t).2.1.2]
theorem blk2_at (t : Fin cfg0.N) (k : Fin 512) (l : Fin 1024) : (iblk m c 2 t : Vec Ideal S512x1024 .bf16) (ix2 k l) = aW m c (ix2 ⟨k.val, by omega⟩ l) := by
  blk_ext [iblk, V, (index_facts t).2.2.1.1, (index_facts t).2.2.1.2]
theorem blk3_at (t : Fin cfg0.N) (k : Fin 512) (l : Fin 1024) : (iblk m c 3 t : Vec Ideal S512x1024 .bf16) (ix2 k l) = aW m c (ix2 ⟨512 + k.val, by omega⟩ l) := by
  blk_ext [iblk, V, (index_facts t).2.2.2.1.1, (index_facts t).2.2.2.1.2]
theorem blk4_at (t : Fin cfg0.N) (r : Fin 512) (l : Fin 1024) : (iblk m c 4 t : Vec Ideal S512x1024 .f32) (ix2 r l) = aX m c (ix2 ⟨t.val * 512 + r.val, row_lt t r⟩ l) := by
  blk_ext [iblk, V, (index_facts t).2.2.2.2.1.1, (index_facts t).2.2.2.2.1.2]
theorem blk5_at (t : Fin cfg0.N) (l : Fin 1024) : (iblk m c 5 t : Vec Ideal S1x1024 .f32) (ix2 0 l) = aG m c (ix2 0 l) := by
  blk_ext [iblk, V, (index_facts t).2.2.2.2.2.1.1, (index_facts t).2.2.2.2.2.1.2]
theorem blk6_at (t : Fin cfg0.N) (l : Fin 1024) : (iblk m c 6 t : Vec Ideal S1x1024 .f32) (ix2 0 l) = aB m c (ix2 0 l) := by
  blk_ext [iblk, V, (index_facts t).2.2.2.2.2.2.1.1, (index_facts t).2.2.2.2.2.2.1.2]
theorem blk7_at (t : Fin cfg0.N) (k : Fin 1024) (l : Fin 2816) : (iblk m c 7 t : Vec Ideal S1024x2816 .bf16) (ix2 k l) = aWg m c (ix2 k l) := by
  blk_ext [iblk, V, (index_facts t).2.2.2.2.2.2.2.1.1, (index_facts t).2.2.2.2.2.2.2.1.2]
theorem blk8_at (t : Fin cfg0.N) (k : Fin 1024) (l : Fin 2816) : (iblk m c 8 t : Vec Ideal S1024x2816 .bf16) (ix2 k l) = aWu m c (ix2 k l) := by
  blk_ext [iblk, V, (index_facts t).2.2.2.2.2.2.2.2.1.1, (index_facts t).2.2.2.2.2.2.2.2.1.2]
theorem blk9_at (t : Fin cfg0.N) (k : Fin 2816) (l : Fin 1024) : (iblk m c 9 t : Vec Ideal S2816x1024 .bf16) (ix2 k l) = aWd m c (ix2 k l) := by
  blk_ext [iblk, V, (index_facts t).2.2.2.2.2.2.2.2.2.1.1, (index_facts t).2.2.2.2.2.2.2.2.2.1.2]
theorem blk10_at (t : Fin cfg0.N) (l : Fin 1024) : (iblk m c 10 t : Vec Ideal S1x1024 .f32) (ix2 0 l) = aG2 m c (ix2 0 l) := by
  blk_ext [iblk, V, (index_facts t).2.2.2.2.2.2.2.2.2.2.1.1, (index_facts t).2.2.2.2.2.2.2.2.2.2.1.2]
theorem blk11_at (t : Fin cfg0.N) (l : Fin 1024) : (iblk m c 11 t : Vec Ideal S1x1024 .f32) (ix2 0 l) = aB2 m c (ix2 0 l) := by
  blk_ext [iblk, V, (index_facts t).2.2.2.2.2.2.2.2.2.2.2.1.1, (index_facts t).2.2.2.2.2.2.2.2.2.2.2.1.2]

/-- A row of the whole output, from the arguments. -/
def rowOut (A S : FVec Ideal S16384x512 .bf16) (W : FVec Ideal S1024x1024 .bf16) (X : FVec Ideal S16384x1024 .f32) (G B : FVec Ideal S1x1024 .f32)
    (Wg Wu : FVec Ideal S1024x2816 .bf16) (Wd : FVec Ideal S2816x1024 .bf16) (G2 B2 : FVec Ideal S1x1024 .f32) (R : Fin 16384) : Fin 1024 → EReal :=
  fed (mixed (fun k => A (ix2 R k)) (fun k => S (ix2 R k)) (fun k l => W (ix2 k l)) (fun l => X (ix2 R l)) (fun l => G (ix2 0 l)) (fun l => B (ix2 0 l)))
    (fun k j => Wg (ix2 k j)) (fun k j => Wu (ix2 k j)) (fun j l => Wd (ix2 j l)) (fun l => G2 (ix2 0 l)) (fun l => B2 (ix2 0 l))

/-- The whole output. -/
def whole (A S : FVec Ideal S16384x512 .bf16) (W : FVec Ideal S1024x1024 .bf16) (X : FVec Ideal S16384x1024 .f32) (G B : FVec Ideal S1x1024 .f32)
    (Wg Wu : FVec Ideal S1024x2816 .bf16) (Wd : FVec Ideal S2816x1024 .bf16) (G2 B2 : FVec Ideal S1x1024 .f32) : FVec Ideal S16384x1024 .f32 :=
  fun i => rowOut A S W X G B Wg Wu Wd G2 B2 (i 0) (i 1)

abbrev wholeK : FVec Ideal S16384x1024 .f32 := whole (aA m c) (aS m c) (aW m c) (aX m c) (aG m c) (aB m c) (aWg m c) (aWu m c) (aWd m c) (aG2 m c) (aB2 m c)

theorem point_at (t : Fin cfg0.N) (r : Fin 512) (l : Fin 1024) :
    ((out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : FVec Ideal S512x1024 .f32) (ix2 r l) : EReal)
      = rowOut (aA m c) (aS m c) (aW m c) (aX m c) (aG m c) (aB m c) (aWg m c) (aWu m c) (aWd m c) (aG2 m c) (aB2 m c) ⟨t.val * 512 + r.val, row_lt t r⟩ l := by
  rw [out_at]
  simp only [blk0_at, blk1_at, blk2_at, blk3_at, blk4_at, blk5_at, blk6_at, blk7_at, blk8_at, blk9_at, blk10_at, blk11_at]
  rfl

theorem result_eq : (dats m 0 c).arrAt 12 cfg0.N = wholeK m c := by
  have hN : cfg0.N = 32 := N_0
  refine (dats m 0 c).arrAt_eq_of_emb 12 (wholeK m c) ?_ ?_
  · intro t _ y
    blk_simp
    rw [after0_12]
    have y0 : (y (0 : Fin 2)).val < 512 := (y (0 : Fin 2)).isLt
    have y1 : (y (1 : Fin 2)).val < 1024 := (y (1 : Fin 2)).isLt
    have hy : y = ix2 (⟨(y (0 : Fin 2)).val, y0⟩ : Fin 512) (⟨(y (1 : Fin 2)).val, y1⟩ : Fin 1024) := by
      funext b; fin_cases b <;> rfl
    refine (congrArg (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : FVec Ideal S512x1024 .f32) hy).trans
      ((point_at m c t ⟨(y (0 : Fin 2)).val, y0⟩ ⟨(y (1 : Fin 2)).val, y1⟩).trans ?_)
    refine congrArg₂ (rowOut _ _ _ _ _ _ _ _ _ _ _) (Fin.ext ?_) (Fin.ext ?_)
    · show t.val * 512 + (y (0 : Fin 2)).val = win0_12.index t (0 : Fin 2) * 512 + 1 * (y (0 : Fin 2)).val
      rw [(index_facts t).2.2.2.2.2.2.2.2.2.2.2.2.1]; omega
    · show (y (1 : Fin 2)).val = win0_12.index t (1 : Fin 2) * 1024 + 1 * (y (1 : Fin 2)).val
      rw [(index_facts t).2.2.2.2.2.2.2.2.2.2.2.2.2]; omega
  · intro i
    have h0 : (i 0).val < 16384 := (i 0).isLt
    have h1 : (i 1).val < 1024 := (i 1).isLt
    refine ⟨⟨(i 0).val / 512, by omega⟩, flush0_12 _, ?_⟩
    refine ((cfg0.win 12).emb_mem_blk_iff _ i).2 fun b => ?_
    fin_cases b
    · show win0_12.index ⟨(i 0).val / 512, _⟩ (0 : Fin 2) * 512 ≤ (i 0).val ∧ (i 0).val < win0_12.index ⟨(i 0).val / 512, _⟩ (0 : Fin 2) * 512 + 512
      rw [(index_facts _).2.2.2.2.2.2.2.2.2.2.2.2.1]
      show (i 0).val / 512 * 512 ≤ (i 0).val ∧ (i 0).val < (i 0).val / 512 * 512 + 512
      omega
    · show win0_12.index ⟨(i 0).val / 512, _⟩ (1 : Fin 2) * 1024 ≤ (i 1).val ∧ (i 1).val < win0_12.index ⟨(i 0).val / 512, _⟩ (1 : Fin 2) * 1024 + 1024
      rw [(index_facts _).2.2.2.2.2.2.2.2.2.2.2.2.2]
      omega

end Cert.Kernel3Ideal.Feed
end
-- ==== Proof.OutProjRef.lean ====
module
public import proofs.«01_k».proof.Proof.Gen.Reference4Ideal.Run
public import proofs.«01_k».proof.Proof.DenseSpec
public import Idealize.ShloMosaic.Lib.Pipeline.ValueKit.Point

@[expose] public section
set_option maxRecDepth 16384
noncomputable section

namespace Cert.Reference4Ideal.OutProj

open Idealize.ShloMosaic Idealize.ShloMosaic.TcCoe Idealize.SL.Sem Idealize.ShloMosaic.StableHlo
open Cert.Reference4Ideal Cert.Reference4Ideal.Gen Cert.Reference4Ideal.Value Cert.Dense

variable {F : FTy → Type} [FloatOps F]

/-- The two head groups side by side, times the output projection. -/
def proj (a s : FVec F S16384x512 .bf16) (w : FVec F S1024x1024 .bf16) : FVec F S16384x1024 .f32 :=
  Host.dotGeneral dot_S16384x1024_S1024x1024_S16384x1024_1_0_0_1_n_n none
    (extf .f32 (concatenate S16384x1024 1 [⟨S16384x512, a⟩, ⟨S16384x512, s⟩] concatenates_S16384x512_S16384x512_S16384x1024_d1) bitsLt_bf16_f32)
    (extf .f32 w bitsLt_bf16_f32)

/-- The residual plus the projection. -/
def resid (a s : FVec F S16384x512 .bf16) (w : FVec F S1024x1024 .bf16) (x : FVec F S16384x1024 .f32) : FVec F S16384x1024 .f32 :=
  addf (mulf (broadcastInDim S16384x1024 ![] bcast_S_S16384x1024 (constant S_ .f32 0x3FB504F3#32)) x) (proj a s w)

/-- The rows' means, as a column. -/
def means (y : FVec F S16384x1024 .f32) : FVec F S16384x1 .f32 :=
  Host.divf (broadcastInDim S16384x1 ![0] bcast_S16384_S16384x1_0 (Host.reduceAdd y (constant S_ .f32 0x00000000#32) reducesTo_S16384x1024_S16384_d1 h_S_)) (broadcastInDim S16384x1 ![] bcast_S_S16384x1 (constant S_ .f32 0x44800000#32))

/-- The rows less their means. -/
def less (y : FVec F S16384x1024 .f32) : FVec F S16384x1024 .f32 := subf y (broadcastInDim S16384x1024 ![0, 1] bcast_S16384x1_S16384x1024_0_1 (means y))

/-- The layer norm of every row. -/
def normed (y : FVec F S16384x1024 .f32) (g b : FVec F S1x1024 .f32) : FVec F S16384x1024 .f32 :=
  addf (mulf (mulf (less y) (broadcastInDim S16384x1024 ![0, 1] bcast_S16384x1_S16384x1024_0_1 (Host.rsqrt (addf (means (mulf (less y) (less y))) (broadcastInDim S16384x1 ![] bcast_S_S16384x1 (constant S_ .f32 0x3727C5AC#32))))))
    (broadcastInDim S16384x1024 ![0, 1] bcast_S1x1024_S16384x1024_0_1 g)) (broadcastInDim S16384x1024 ![0, 1] bcast_S1x1024_S16384x1024_0_1 b)

theorem total_eq (m : (ℓ : Loc nD τ sig) → Buf (Elt F) ℓ) (c : Dev nD) :
    res_main_v28 m c = normed (resid (m ((c.tc : Thread nD τ).loc main_arg0)) (m ((c.tc : Thread nD τ).loc main_arg1)) (m ((c.tc : Thread nD τ).loc main_arg2)) (m ((c.tc : Thread nD τ).loc main_arg3)))
      (m ((c.tc : Thread nD τ).loc main_arg4)) (m ((c.tc : Thread nD τ).loc main_arg5)) := rfl

theorem means_at (y : FVec Ideal S16384x1024 .f32) (R : Fin 16384) : (means y (ix2 R 0) : EReal) = mean fun l => y (ix2 R l) := by
  pointwise [means]; rfl

theorem normed_at (y : FVec Ideal S16384x1024 .f32) (g b : FVec Ideal S1x1024 .f32) (R : Fin 16384) (l : Fin 1024) :
    (normed y g b (ix2 R l) : EReal) = norm (fun l => y (ix2 R l)) (fun l => g (ix2 0 l)) (fun l => b (ix2 0 l)) l := by
  pointwise [normed, less, means]; rfl

theorem proj_at (a s : FVec Ideal S16384x512 .bf16) (w : FVec Ideal S1024x1024 .bf16) (R : Fin 16384) (l : Fin 1024) :
    (proj a s w (ix2 R l) : EReal) = mix (fun k => a (ix2 R k)) (fun k => s (ix2 R k)) fun k => w (ix2 k l) := by
  refine Eq.trans (b := ∑ k : Fin 1024, (concatenate S16384x1024 1 [⟨S16384x512, a⟩, ⟨S16384x512, s⟩] concatenates_S16384x512_S16384x512_S16384x1024_d1 (ix2 R k) : EReal) * w (ix2 k l)) ?_ (mix_cases _ _ _ _ ?_ ?_)
  · pointwise [proj]
  · intro k
    pointwise []
  · intro k
    pointwise []

theorem resid_at (a s : FVec Ideal S16384x512 .bf16) (w : FVec Ideal S1024x1024 .bf16) (x : FVec Ideal S16384x1024 .f32) (R : Fin 16384) (l : Fin 1024) :
    (resid a s w x (ix2 R l) : EReal) = alpha * x (ix2 R l) + mix (fun k => a (ix2 R k)) (fun k => s (ix2 R k)) fun k => w (ix2 k l) := by
  rw [← proj_at]; pointwise [resid]

end Cert.Reference4Ideal.OutProj
end
-- ==== Proof.DenseRef.lean ====
module
public import proofs.«01_k».proof.Proof.Gen.Reference3Ideal.Run
public import proofs.«01_k».proof.Proof.OutProjRef

@[expose] public section
set_option maxRecDepth 16384
noncomputable section

namespace Cert.Reference3Ideal.Feed

open Idealize.ShloMosaic Idealize.ShloMosaic.TcCoe Idealize.SL.Sem Idealize.ShloMosaic.StableHlo
open Cert.Reference3Ideal Cert.Reference3Ideal.Gen Cert.Reference3Ideal.Value Cert.Dense
open Cert.Reference4Ideal.OutProj (normed resid normed_at resid_at)

section
variable {F : FTy → Type} [FloatOps F]

/-- The gate's values of every row. -/
def gated (x : FVec F S16384x1024 .f32) (wg : FVec F S1024x2816 .bf16) : FVec F S16384x2816 .f32 :=
  Host.dotGeneral dot_S16384x1024_S1024x2816_S16384x2816_1_0_0_1_n_n none x (extf .f32 wg bitsLt_bf16_f32)

/-- The residual plus the feed-forward part of every row. -/
def inner (x : FVec F S16384x1024 .f32) (wg wu : FVec F S1024x2816 .bf16) (wd : FVec F S2816x1024 .bf16) : FVec F S16384x1024 .f32 :=
  addf (mulf (broadcastInDim S16384x1024 ![] bcast_S_S16384x1024 (constant S_ .f32 0x3FB504F3#32)) x)
    (Host.dotGeneral dot_S16384x2816_S2816x1024_S16384x1024_1_0_0_1_n_n none
      (mulf (mulf (gated x wg) (Host.divf (broadcastInDim S16384x2816 ![] bcast_S_S16384x2816 (constant S_ .f32 0x3F800000#32))
        (addf (broadcastInDim S16384x2816 ![] bcast_S_S16384x2816 (constant S_ .f32 0x3F800000#32)) (Host.exp (Host.negf (gated x wg)))))) (gated x wu))
      (extf .f32 wd bitsLt_bf16_f32))

/-- The first norm's output. -/
def first (V : Valuation τ sig (Elt F)) : FVec F S16384x1024 .f32 :=
  normed (resid (V (Proc.devRef .tc main_arg0)) (V (Proc.devRef .tc main_arg1)) (V (Proc.devRef .tc main_arg2)) (V (Proc.devRef .tc main_arg3))) (V (Proc.devRef .tc main_arg4)) (V (Proc.devRef .tc main_arg5))

/-- The reference's result. -/
def total (V : Valuation τ sig (Elt F)) : (Proc.devRef .tc main_v61 : DevRef τ sig).ty.Contents (Elt F) :=
  normed (inner (first V) (V (Proc.devRef .tc main_arg6)) (V (Proc.devRef .tc main_arg7)) (V (Proc.devRef .tc main_arg8))) (V (Proc.devRef .tc main_arg9)) (V (Proc.devRef .tc main_arg10))

theorem first_eq (V : Valuation τ sig (Elt F)) : res_main_v28 V = first V := rfl

theorem second_eq (V : Valuation τ sig (Elt F)) : res_main_v39 V = inner (res_main_v28 V) (V (Proc.devRef .tc main_arg6)) (V (Proc.devRef .tc main_arg7)) (V (Proc.devRef .tc main_arg8)) := rfl

theorem third_eq (V : Valuation τ sig (Elt F)) :
    addf (mulf (mulf (subf (res_main_v39 V) (broadcastInDim S16384x1024 ![0, 1] bcast_S16384x1_S16384x1024_0_1 (res_main_v43 V))) (broadcastInDim S16384x1024 ![0, 1] bcast_S16384x1_S16384x1024_0_1 (Host.rsqrt (addf (Host.divf (broadcastInDim S16384x1 ![0] bcast_S16384_S16384x1_0 (Host.reduceAdd (mulf (res_main_v45 V) (res_main_v45 V)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (V (Proc.devRef .tc main_arg9)))) (broadcastInDim S16384x1024 ![0, 1] bcast_S1x1024_S16384x1024_0_1 (V (Proc.devRef .tc main_arg10)))
      = normed (res_main_v39 V) (V (Proc.devRef .tc main_arg9)) (V (Proc.devRef .tc main_arg10)) := rfl

/-- The run's term is `total`. -/
theorem result_total (V : Valuation τ sig (Elt F)) :
    normed (res_main_v39 V) (V (Proc.devRef .tc main_arg9)) (V (Proc.devRef .tc main_arg10)) = total V := by
  rw [second_eq, first_eq]; rfl
end

theorem gated_at (x : FVec Ideal S16384x1024 .f32) (wg : FVec Ideal S1024x2816 .bf16) (R : Fin 16384) (j : Fin 2816) :
    (gated x wg (ix2 R j) : EReal) = ∑ k : Fin 1024, (x (ix2 R k) : EReal) * wg (ix2 k j) := by
  pointwise [gated]

theorem inner_at (x : FVec Ideal S16384x1024 .f32) (wg wu : FVec Ideal S1024x2816 .bf16) (wd : FVec Ideal S2816x1024 .bf16) (R : Fin 16384) (l : Fin 1024) :
    (inner x wg wu wd (ix2 R l) : EReal)
      = alpha * x (ix2 R l) + dense (fun k => x (ix2 R k)) (fun k j => wg (ix2 k j)) (fun k j => wu (ix2 k j)) fun j => wd (ix2 j l) := by
  pointwise [inner, gated]
  rfl

/-- The reference's result at an element. -/
theorem total_at (V : Valuation τ sig (Elt Ideal)) (R : Fin 16384) (l : Fin 1024) :
    ((total V : FVec Ideal S16384x1024 .f32) (ix2 R l) : EReal)
      = fed (mixed (fun k => (V (Proc.devRef .tc main_arg0) : FVec Ideal S16384x512 .bf16) (ix2 R k)) (fun k => (V (Proc.devRef .tc main_arg1) : FVec Ideal S16384x512 .bf16) (ix2 R k))
          (fun k l => (V (Proc.devRef .tc main_arg2) : FVec Ideal S1024x1024 .bf16) (ix2 k l)) (fun l => (V (Proc.devRef .tc main_arg3) : FVec Ideal S16384x1024 .f32) (ix2 R l))
          (fun l => (V (Proc.devRef .tc main_arg4) : FVec Ideal S1x1024 .f32) (ix2 0 l)) (fun l => (V (Proc.devRef .tc main_arg5) : FVec Ideal S1x1024 .f32) (ix2 0 l)))
        (fun k j => (V (Proc.devRef .tc main_arg6) : FVec Ideal S1024x2816 .bf16) (ix2 k j)) (fun k j => (V (Proc.devRef .tc main_arg7) : FVec Ideal S1024x2816 .bf16) (ix2 k j))
        (fun j l => (V (Proc.devRef .tc main_arg8) : FVec Ideal S2816x1024 .bf16) (ix2 j l))
        (fun l => (V (Proc.devRef .tc main_arg9) : FVec Ideal S1x1024 .f32) (ix2 0 l)) (fun l => (V (Proc.devRef .tc main_arg10) : FVec Ideal S1x1024 .f32) (ix2 0 l)) l := by
  unfold total first
  rw [normed_at]
  simp only [inner_at, normed_at, resid_at]
  rfl

end Cert.Reference3Ideal.Feed
end
-- ==== Proof.DenseClaims.lean ====
module
public import proofs.«01_k».proof.Defs
public import proofs.«01_k».proof.Proof.Gen.Kernel3.Frame
public import proofs.«01_k».proof.Proof.Gen.Kernel4.Frame
public import proofs.«01_k».proof.Proof.OutProj
public import proofs.«01_k».proof.Proof.Dense
public import proofs.«01_k».proof.Proof.DenseRef

@[expose] public section
set_option maxRecDepth 16384
noncomputable section

namespace Cert.Dense

open Idealize.ShloMosaic Idealize.ShloMosaic.TcCoe Idealize.SL.Sem

theorem frameP3 : Cert.quiescent_Kernel3 := fun m ρ _ => Cert.Kernel3.Gen.frame m ρ
theorem framePI3 : Cert.quiescent_Kernel3Ideal := fun m ρ _ => Cert.Kernel3Ideal.Gen.frame m ρ
theorem frameRI3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
theorem preserves3 : Cert.preserves_Kernel3_Kernel3Ideal := trivial

theorem frameP4 : Cert.quiescent_Kernel4 := fun m ρ _ => Cert.Kernel4.Gen.frame m ρ
theorem framePI4 : Cert.quiescent_Kernel4Ideal := fun m ρ _ => Cert.Kernel4Ideal.Gen.frame m ρ
theorem frameRI4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)
theorem preserves4 : Cert.preserves_Kernel4_Kernel4Ideal := trivial

/-- The output projection's reference, from its arguments. -/
theorem ref4_eq (A S : FVec Ideal Cert.Reference4Ideal.S16384x512 .bf16) (W : FVec Ideal Cert.Reference4Ideal.S1024x1024 .bf16)
    (X : FVec Ideal Cert.Reference4Ideal.S16384x1024 .f32) (G B : FVec Ideal Cert.Reference4Ideal.S1x1024 .f32) :
    Cert.Reference4Ideal.OutProj.normed (Cert.Reference4Ideal.OutProj.resid A S W X) G B = Cert.Kernel4Ideal.OutProj.whole A S W X G B := by
  funext i
  have hi : i = ix2 (i 0) (i 1) := by funext b; fin_cases b <;> rfl
  refine (congrArg (Cert.Reference4Ideal.OutProj.normed (Cert.Reference4Ideal.OutProj.resid A S W X) G B) hi).trans ((Cert.Reference4Ideal.OutProj.normed_at _ G B (i 0) (i 1)).trans ?_)
  exact congrFun (congrArg (fun y => norm y (fun l => G (ix2 0 l)) fun l => B (ix2 0 l)) (funext fun q => Cert.Reference4Ideal.OutProj.resid_at A S W X (i 0) q)) (i 1)

theorem algebraic4 : Cert.algebraic_Kernel4Ideal_Reference4Ideal := by
  intro m g m' g' _ hag
  refine ⟨fun c => Cert.Kernel4Ideal.OutProj.wholeK m c, ?_, ?_⟩
  · exact (θ_run Cert.Kernel4Ideal.defs _ _).mono (fun r h c => ⟨(h c).1.trans (Cert.Kernel4Ideal.OutProj.result_eq m c), (h c).2⟩)
      (Cert.Kernel4Ideal.Value.run_blocks (F := Ideal) m g)
  · refine (θ_run Cert.Reference4Ideal.defs _ _).mono (fun r h c => ⟨(h c).1.trans ?_, (h c).2⟩) (Cert.Reference4Ideal.Value.run (F := Ideal) m' g')
    obtain ⟨e0, e1, e2, e3, e4, e5⟩ := hag c
    rw [Cert.Reference4Ideal.OutProj.total_eq, e0, e1, e2, e3, e4, e5]
    exact ref4_eq _ _ _ _ _ _

/-- The dense feed-forward's reference, from its arguments. -/
theorem ref3_eq (V : Valuation Cert.Reference3Ideal.τ Cert.Reference3Ideal.sig (Elt Ideal)) :
    Cert.Reference3Ideal.Feed.total V = Cert.Kernel3Ideal.Feed.whole
      (V (Proc.devRef .tc Cert.Reference3Ideal.main_arg0)) (V (Proc.devRef .tc Cert.Reference3Ideal.main_arg1)) (V (Proc.devRef .tc Cert.Reference3Ideal.main_arg2))
      (V (Proc.devRef .tc Cert.Reference3Ideal.main_arg3)) (V (Proc.devRef .tc Cert.Reference3Ideal.main_arg4)) (V (Proc.devRef .tc Cert.Reference3Ideal.main_arg5))
      (V (Proc.devRef .tc Cert.Reference3Ideal.main_arg6)) (V (Proc.devRef .tc Cert.Reference3Ideal.main_arg7)) (V (Proc.devRef .tc Cert.Reference3Ideal.main_arg8))
      (V (Proc.devRef .tc Cert.Reference3Ideal.main_arg9)) (V (Proc.devRef .tc Cert.Reference3Ideal.main_arg10)) := by
  funext i
  have hi : i = ix2 (i 0) (i 1) := by funext b; fin_cases b <;> rfl
  exact (congrArg (Cert.Reference3Ideal.Feed.total V) hi).trans (Cert.Reference3Ideal.Feed.total_at V (i 0) (i 1))

theorem algebraic3 : Cert.algebraic_Kernel3Ideal_Reference3Ideal := by
  intro m g m' g' _ hag
  refine ⟨fun c => Cert.Kernel3Ideal.Feed.wholeK m c, ?_, ?_⟩
  · exact (θ_run Cert.Kernel3Ideal.defs _ _).mono (fun r h c => ⟨(h c).1.trans (Cert.Kernel3Ideal.Feed.result_eq m c), (h c).2⟩)
      (Cert.Kernel3Ideal.Value.run_blocks (F := Ideal) m g)
  · refine (θ_run Cert.Reference3Ideal.defs _ _).mono (fun r h c => ⟨(h c).1.trans ?_, (h c).2⟩) (Cert.Reference3Ideal.Value.run (F := Ideal) m' g')
    refine (Cert.Reference3Ideal.Feed.third_eq _).trans ((Cert.Reference3Ideal.Feed.result_total _).trans ((ref3_eq _).trans ?_))
    obtain ⟨e0, e1, e2, e3, e4, e5, e6, e7, e8, e9, e10⟩ := hag c
    show Cert.Kernel3Ideal.Feed.whole (m' ((c.tc : Thread Cert.Reference3Ideal.nD Cert.Reference3Ideal.τ).loc Cert.Reference3Ideal.main_arg0)) _ _ _ _ _ _ _ _ _ _ = _
    exact congr (congr (congr (congr (congr (congr (congr (congr (congr (congr (congrArg Cert.Kernel3Ideal.Feed.whole e0) e1) e2) e3) e4) e5) e6) e7) e8) e9) e10

end Cert.Dense
end
-- ==== Proof.InProj.lean ====
module
public import proofs.«01_k».proof.Proof.Gen.Kernel5Ideal.Value
public import Idealize.ShloMosaic.Lib.Pipeline.ValueKit.Point

@[expose] public section
set_option maxRecDepth 16384
noncomputable section

namespace Cert.Kernel5Ideal.InProj

open Idealize.ShloMosaic Idealize.ShloMosaic.TcCoe Idealize.SL.Sem
open Cert.Kernel5Ideal Cert.Kernel5Ideal.Gen Cert.Kernel5Ideal.Value

/-- A tile's rows times 512 columns of the weights, at an element. -/
theorem pay1_at (x : FVec Ideal S512x1024 .bf16) (w : Vec Ideal S1024x512 .bf16) (r l : Fin 512) :
    ((k0_pay1 x w (constant S512x512 .f32 0x00000000#32) : FVec Ideal S512x512 .bf16) (ix2 r l) : EReal) = ∑ k : Fin 1024, (x (ix2 r k) : EReal) * w (ix2 k l) := by
  pointwise [k0_pay1]

/-- The gates of a tile, at an element. -/
theorem pay2_at (x : FVec Ideal S512x1024 .bf16) (w : Vec Ideal S1024x128 .bf16) (b : Vec Ideal S1x128 .f32) (r : Fin 512) (l : Fin 128) :
    ((k0_pay2 x w b : FVec Ideal S512x128 .f32) (ix2 r l) : EReal) = (∑ k : Fin 1024, (x (ix2 r k) : EReal) * w (ix2 k l)) + b (ix2 0 l) := by
  pointwise [k0_pay2]

theorem zero2 : (![0, 0] : Fin 2 → ℕ) = fun _ => 0 := by funext a; fin_cases a <;> rfl

theorem col0_at (x : Vec Ideal S1024x3072 .bf16) (k : Fin 1024) (j : Fin 512) : (View.ld x r0_7 : Vec Ideal S1024x512 .bf16) (ix2 k j) = x (ix2 k ⟨1024 + j.val, by omega⟩) := by
  pointwise [r0_7]
theorem col1_at (x : Vec Ideal S1024x3072 .bf16) (k : Fin 1024) (j : Fin 512) : (View.ld x r0_8 : Vec Ideal S1024x512 .bf16) (ix2 k j) = x (ix2 k ⟨1536 + j.val, by omega⟩) := by
  pointwise [r0_8]
theorem col2_at (x : Vec Ideal S1024x3072 .bf16) (k : Fin 1024) (j : Fin 512) : (View.ld x r0_9 : Vec Ideal S1024x512 .bf16) (ix2 k j) = x (ix2 k ⟨2048 + j.val, by omega⟩) := by
  pointwise [r0_9]
theorem col3_at (x : Vec Ideal S1024x3072 .bf16) (k : Fin 1024) (j : Fin 512) : (View.ld x r0_10 : Vec Ideal S1024x512 .bf16) (ix2 k j) = x (ix2 k ⟨2560 + j.val, by omega⟩) := by
  pointwise [r0_10]

/-- The tile of rows, cast. -/
theorem rows_at (x0 : Vec Ideal S512x1024 .f32) (x1 : Vec Ideal S1024x3072 .bf16) (x2 : Vec Ideal S1024x128 .bf16) (x3 : Vec Ideal S1x128 .f32) (x4 x5 x6 : Vec Ideal S512x128 .f32) (i : S512x1024.Idx) :
    ((k0_pay16 x0 x1 x2 x3 x4 x5 x6 : FVec Ideal S512x1024 .bf16) i : EReal) = x0 i := by
  have h0 : View.ld x0 r0_0 = x0 := View.ld_unit_zero zero2 _ x0
  unfold k0_pay16
  rw [h0]; rfl

/-- A tile's rows times columns `o` to `o + 511` of the weights, once those columns are known to be what was loaded. -/
theorem tile_at (x0 : Vec Ideal S512x1024 .f32) (x1 : Vec Ideal S1024x3072 .bf16) (x2 : Vec Ideal S1024x128 .bf16) (x3 : Vec Ideal S1x128 .f32) (x4 x5 x6 : Vec Ideal S512x128 .f32) (w : Vec Ideal S1024x512 .bf16) (o : ℕ) (ho : o ≤ 2560)
    (hw : ∀ (k : Fin 1024) (j : Fin 512), w (ix2 k j) = x1 (ix2 k ⟨o + j.val, by omega⟩)) (r l : Fin 512) :
    ((k0_pay1 (k0_pay16 x0 x1 x2 x3 x4 x5 x6) w (constant S512x512 .f32 0x00000000#32) : FVec Ideal S512x512 .bf16) (ix2 r l) : EReal)
      = ∑ k : Fin 1024, (x0 (ix2 r k) : EReal) * x1 (ix2 k ⟨o + l.val, by omega⟩) :=
  (pay1_at _ _ r l).trans (Finset.sum_congr rfl fun k _ => congrArg₂ (· * ·) (rows_at x0 x1 x2 x3 x4 x5 x6 _) (hw k l))

theorem out13_at (x0 : Vec Ideal S512x1024 .f32) (x1 : Vec Ideal S1024x3072 .bf16) (x2 : Vec Ideal S1024x128 .bf16) (x3 : Vec Ideal S1x128 .f32) (x4 x5 x6 : Vec Ideal S512x128 .f32) (r : Fin 512) (l : Fin 128) :
    ((out0_13 x0 x1 x2 x3 x4 x5 x6 : FVec Ideal S512x128 .f32) (ix2 r l) : EReal) = (∑ k : Fin 1024, (x0 (ix2 r k) : EReal) * x2 (ix2 k l)) + x3 (ix2 0 l) := by
  have h1 : View.ld x2 r0_11 = x2 := View.ld_unit_zero zero2 _ x2
  have h2 : View.ld x3 r0_12 = x3 := View.ld_unit_zero zero2 _ x3
  unfold out0_13
  rw [View.canon_unit_zero zero2, h1, h2, pay2_at]
  exact congrArg (· + _) (Finset.sum_congr rfl fun k _ => congrArg (· * _) (rows_at x0 x1 x2 x3 x4 x5 x6 _))

theorem index_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) := by decide +kernel

/-- Where a tile's element lies, the tile being the block of that number. -/
theorem place (a j : ℕ) (t : ℕ) (y0 y1 n : ℕ) (ha : a = t) (hj : j = 0) : (t * 512 + y0 = a * 512 + 1 * y0) ∧ (y1 = j * n + 1 * y1) := by
  subst ha hj; omega

/-- A row lies in its tile and a column in the only block of columns. -/
theorem within (a j : ℕ) (R C n : ℕ) (ha : a = R / 512) (hj : j = 0) (hC : C < n) : (a * 512 ≤ R ∧ R < a * 512 + 512) ∧ (j * n ≤ C ∧ C < j * n + n) := by
  subst ha hj; omega

variable (m : (ℓ : Loc nD τ sig) → Buf (Elt Ideal) ℓ) (c : Dev nD)

abbrev aX : FVec Ideal S16384x1024 .f32 := m ((c.tc : Thread nD τ).loc main_arg0)
abbrev aW : FVec Ideal S1024x3072 .bf16 := m ((c.tc : Thread nD τ).loc main_arg1)
abbrev aV : FVec Ideal S1024x128 .bf16 := m ((c.tc : Thread nD τ).loc main_arg2)
abbrev aB : FVec Ideal S1x128 .f32 := m ((c.tc : Thread nD τ).loc main_arg3)

theorem row_lt (t : Fin cfg0.N) (r : Fin 512) : t.val * 512 + r.val < 16384 := by have : cfg0.N = 32 := N_0; omega

theorem blk0_at (t : Fin cfg0.N) (r : Fin 512) (k : Fin 1024) : (iblk m c 0 t : Vec Ideal S512x1024 .f32) (ix2 r k) = aX m c (ix2 ⟨t.val * 512 + r.val, row_lt t r⟩ k) := by
  blk_ext [iblk, V, (index_facts t).1.1, (index_facts t).1.2]
theorem blk1_at (t : Fin cfg0.N) (k : Fin 1024) (l : Fin 3072) : (iblk m c 1 t : Vec Ideal S1024x3072 .bf16) (ix2 k l) = aW m c (ix2 k l) := by
  blk_ext [iblk, V, (index_facts t).2.1.1, (index_facts t).2.1.2]
theorem blk2_at (t : Fin cfg0.N) (k : Fin 1024) (l : Fin 128) : (iblk m c 2 t : Vec Ideal S1024x128 .bf16) (ix2 k l) = aV m c (ix2 k l) := by
  blk_ext [iblk, V, (index_facts t).2.2.1.1, (index_facts t).2.2.1.2]
theorem blk3_at (t : Fin cfg0.N) (l : Fin 128) : (iblk m c 3 t : Vec Ideal S1x128 .f32) (ix2 0 l) = aB m c (ix2 0 l) := by
  blk_ext [iblk, V, (index_facts t).2.2.2.1.1, (index_facts t).2.2.2.1.2]

/-- 512 columns of the projection, from column `o` on. -/
def columns (o : ℕ) (ho : o ≤ 2560) (X : FVec Ideal S16384x1024 .f32) (W : FVec Ideal S1024x3072 .bf16) : FVec Ideal S16384x512 .bf16 :=
  fun i => ∑ k : Fin 1024, (X (ix2 (i 0) k) : EReal) * W (ix2 k ⟨o + (i 1).val, by have : (i 1).val < 512 := (i 1).isLt; omega⟩)

/-- The gates, with their bias. -/
def gates (X : FVec Ideal S16384x1024 .f32) (W : FVec Ideal S1024x128 .bf16) (B : FVec Ideal S1x128 .f32) : FVec Ideal S16384x128 .f32 :=
  fun i => (∑ k : Fin 1024, (X (ix2 (i 0) k) : EReal) * W (ix2 k (i 1))) + B (ix2 0 (i 1))

theorem split2 {a b : ℕ} (y : (⟨2, ![a, b]⟩ : Shape).Idx) : y = ix2 (y 0) (y 1) := by funext d; fin_cases d <;> rfl

/-- One tile of a column group is that part of the whole. -/
theorem tile_columns (t : Fin cfg0.N) (o : ℕ) (ho : o ≤ 2560) (g : FVec Ideal S512x512 .bf16)
    (hg : ∀ r l : Fin 512, (g (ix2 r l) : EReal) = ∑ k : Fin 1024, @HMul.hMul EReal EReal EReal _ ((iblk m c 0 t : Vec Ideal S512x1024 .f32) (ix2 r k)) ((iblk m c 1 t : Vec Ideal S1024x3072 .bf16) (ix2 k ⟨o + l.val, by omega⟩)))
    (y : S512x512.Idx) (i : S16384x512.Idx) (e0 : t.val * 512 + (y 0).val = (i 0).val) (e1 : (y 1).val = (i 1).val) :
    g y = columns o ho (aX m c) (aW m c) i := by
  refine (congrArg g (split2 y)).trans ((hg (y 0) (y 1)).trans (Finset.sum_congr rfl fun k _ =>
    congrArg₂ (· * ·) ((blk0_at m c t _ k).trans (congrArg (aX m c) ?_)) ((blk1_at m c t k _).trans (congrArg (aW m c) ?_))))
  · exact congrArg (fun R => ix2 R k) (Fin.ext e0)
  · exact congrArg (fun l => ix2 k l) (Fin.ext (congrArg (o + ·) e1))

/-- The tile that holds a row. -/
def tileOf (R : Fin 16384) : Fin cfg0.N := ⟨R.val / 512, by have : cfg0.N = 32 := N_0; omega⟩

theorem result9 : (dats m 0 c).arrAt 9 cfg0.N = (columns 1024 (by omega) (aX m c) (aW m c) : FVec Ideal S16384x512 .bf16) := by
  refine (dats m 0 c).arrAt_eq_of_emb 9 (columns 1024 (by omega) (aX m c) (aW m c) : FVec Ideal S16384x512 .bf16) (fun t _ y => ?_) fun i =>
    ⟨tileOf (i 0), flush0_9 _, ((cfg0.win 9).emb_mem_blk_iff _ i).2 fun b => ?_⟩
  · blk_simp
    rw [after0_9]
    refine tile_columns m c t 1024 (by omega) _ (fun r l => ?_) y _ (place _ _ t.val (y (0 : Fin 2)).val (y (1 : Fin 2)).val 512 (index_facts t).2.2.2.2.1.1 (index_facts t).2.2.2.2.1.2).1 (place _ _ t.val (y (0 : Fin 2)).val (y (1 : Fin 2)).val 512 (index_facts t).2.2.2.2.1.1 (index_facts t).2.2.2.2.1.2).2
    unfold out0_9
    rw [View.canon_unit_zero zero2]
    exact tile_at (iblk m c 0 t) (iblk m c 1 t) (iblk m c 2 t) (iblk m c 3 t) (iblk m c 4 t) (iblk m c 5 t) (iblk m c 6 t) _ 1024 (by omega) (col0_at _) r l
  · have h := within _ _ (i 0).val (i 1).val 512 (index_facts (tileOf (i 0))).2.2.2.2.1.1 (index_facts (tileOf (i 0))).2.2.2.2.1.2 (i 1).isLt
    fin_cases b
    · exact h.1
    · exact h.2

theorem result10 : (dats m 0 c).arrAt 10 cfg0.N = (columns 1536 (by omega) (aX m c) (aW m c) : FVec Ideal S16384x512 .bf16) := by
  refine (dats m 0 c).arrAt_eq_of_emb 10 (columns 1536 (by omega) (aX m c) (aW m c) : FVec Ideal S16384x512 .bf16) (fun t _ y => ?_) fun i =>
    ⟨tileOf (i 0), flush0_10 _, ((cfg0.win 10).emb_mem_blk_iff _ i).2 fun b => ?_⟩
  · blk_simp
    rw [after0_10]
    refine tile_columns m c t 1536 (by omega) _ (fun r l => ?_) y _ (place _ _ t.val (y (0 : Fin 2)).val (y (1 : Fin 2)).val 512 (index_facts t).2.2.2.2.2.1.1 (index_facts t).2.2.2.2.2.1.2).1 (place _ _ t.val (y (0 : Fin 2)).val (y (1 : Fin 2)).val 512 (index_facts t).2.2.2.2.2.1.1 (index_facts t).2.2.2.2.2.1.2).2
    unfold out0_10
    rw [View.canon_unit_zero zero2]
    exact tile_at (iblk m c 0 t) (iblk m c 1 t) (iblk m c 2 t) (iblk m c 3 t) (iblk m c 4 t) (iblk m c 5 t) (iblk m c 6 t) _ 1536 (by omega) (col1_at _) r l
  · have h := within _ _ (i 0).val (i 1).val 512 (index_facts (tileOf (i 0))).2.2.2.2.2.1.1 (index_facts (tileOf (i 0))).2.2.2.2.2.1.2 (i 1).isLt
    fin_cases b
    · exact h.1
    · exact h.2

theorem result11 : (dats m 0 c).arrAt 11 cfg0.N = (columns 2048 (by omega) (aX m c) (aW m c) : FVec Ideal S16384x512 .bf16) := by
  refine (dats m 0 c).arrAt_eq_of_emb 11 (columns 2048 (by omega) (aX m c) (aW m c) : FVec Ideal S16384x512 .bf16) (fun t _ y => ?_) fun i =>
    ⟨tileOf (i 0), flush0_11 _, ((cfg0.win 11).emb_mem_blk_iff _ i).2 fun b => ?_⟩
  · blk_simp
    rw [after0_11]
    refine tile_columns m c t 2048 (by omega) _ (fun r l => ?_) y _ (place _ _ t.val (y (0 : Fin 2)).val (y (1 : Fin 2)).val 512 (index_facts t).2.2.2.2.2.2.1.1 (index_facts t).2.2.2.2.2.2.1.2).1 (place _ _ t.val (y (0 : Fin 2)).val (y (1 : Fin 2)).val 512 (index_facts t).2.2.2.2.2.2.1.1 (index_facts t).2.2.2.2.2.2.1.2).2
    unfold out0_11
    rw [View.canon_unit_zero zero2]
    exact tile_at (iblk m c 0 t) (iblk m c 1 t) (iblk m c 2 t) (iblk m c 3 t) (iblk m c 4 t) (iblk m c 5 t) (iblk m c 6 t) _ 2048 (by omega) (col2_at _) r l
  · have h := within _ _ (i 0).val (i 1).val 512 (index_facts (tileOf (i 0))).2.2.2.2.2.2.1.1 (index_facts (tileOf (i 0))).2.2.2.2.2.2.1.2 (i 1).isLt
    fin_cases b
    · exact h.1
    · exact h.2

theorem result12 : (dats m 0 c).arrAt 12 cfg0.N = (columns 2560 (by omega) (aX m c) (aW m c) : FVec Ideal S16384x512 .bf16) := by
  refine (dats m 0 c).arrAt_eq_of_emb 12 (columns 2560 (by omega) (aX m c) (aW m c) : FVec Ideal S16384x512 .bf16) (fun t _ y => ?_) fun i =>
    ⟨tileOf (i 0), flush0_12 _, ((cfg0.win 12).emb_mem_blk_iff _ i).2 fun b => ?_⟩
  · blk_simp
    rw [after0_12]
    refine tile_columns m c t 2560 (by omega) _ (fun r l => ?_) y _ (place _ _ t.val (y (0 : Fin 2)).val (y (1 : Fin 2)).val 512 (index_facts t).2.2.2.2.2.2.2.1.1 (index_facts t).2.2.2.2.2.2.2.1.2).1 (place _ _ t.val (y (0 : Fin 2)).val (y (1 : Fin 2)).val 512 (index_facts t).2.2.2.2.2.2.2.1.1 (index_facts t).2.2.2.2.2.2.2.1.2).2
    unfold out0_12
    rw [View.canon_unit_zero zero2]
    exact tile_at (iblk m c 0 t) (iblk m c 1 t) (iblk m c 2 t) (iblk m c 3 t) (iblk m c 4 t) (iblk m c 5 t) (iblk m c 6 t) _ 2560 (by omega) (col3_at _) r l
  · have h := within _ _ (i 0).val (i 1).val 512 (index_facts (tileOf (i 0))).2.2.2.2.2.2.2.1.1 (index_facts (tileOf (i 0))).2.2.2.2.2.2.2.1.2 (i 1).isLt
    fin_cases b
    · exact h.1
    · exact h.2

theorem tile_gates (t : Fin cfg0.N) (y : S512x128.Idx) (i : S16384x128.Idx) (e0 : t.val * 512 + (y 0).val = (i 0).val) (e1 : (y 1).val = (i 1).val) :
    (out0_13 (iblk m c 0 t) (iblk m c 1 t) (iblk m c 2 t) (iblk m c 3 t) (iblk m c 4 t) (iblk m c 5 t) (iblk m c 6 t) : FVec Ideal S512x128 .f32) y = gates (aX m c) (aV m c) (aB m c) i := by
  refine (congrArg (out0_13 (iblk m c 0 t) (iblk m c 1 t) (iblk m c 2 t) (iblk m c 3 t) (iblk m c 4 t) (iblk m c 5 t) (iblk m c 6 t) : FVec Ideal S512x128 .f32) (split2 y)).trans ((out13_at (iblk m c 0 t) (iblk m c 1 t) (iblk m c 2 t) (iblk m c 3 t) (iblk m c 4 t) (iblk m c 5 t) (iblk m c 6 t) (y 0) (y 1)).trans (congrArg₂ (· + ·) (Finset.sum_congr rfl fun k _ =>
    congrArg₂ (· * ·) ((blk0_at m c t _ k).trans (congrArg (aX m c) ?_)) ((blk2_at m c t k _).trans (congrArg (aV m c) ?_))) ((blk3_at m c t _).trans (congrArg (aB m c) ?_))))
  · exact congrArg (fun R => ix2 R k) (Fin.ext e0)
  · exact congrArg (fun l => ix2 k l) (Fin.ext e1)
  · exact congrArg (fun l => ix2 0 l) (Fin.ext e1)

theorem result13 : (dats m 0 c).arrAt 13 cfg0.N = (gates (aX m c) (aV m c) (aB m c) : FVec Ideal S16384x128 .f32) := by
  refine (dats m 0 c).arrAt_eq_of_emb 13 (gates (aX m c) (aV m c) (aB m c) : FVec Ideal S16384x128 .f32) (fun t _ y => ?_) fun i =>
    ⟨tileOf (i 0), flush0_13 _, ((cfg0.win 13).emb_mem_blk_iff _ i).2 fun b => ?_⟩
  · blk_simp
    rw [after0_13]
    refine tile_gates m c t y _ (place _ _ t.val (y (0 : Fin 2)).val (y (1 : Fin 2)).val 128 (index_facts t).2.2.2.2.2.2.2.2.1 (index_facts t).2.2.2.2.2.2.2.2.2).1 (place _ _ t.val (y (0 : Fin 2)).val (y (1 : Fin 2)).val 128 (index_facts t).2.2.2.2.2.2.2.2.1 (index_facts t).2.2.2.2.2.2.2.2.2).2
  · have h := within _ _ (i 0).val (i 1).val 128 (index_facts (tileOf (i 0))).2.2.2.2.2.2.2.2.1 (index_facts (tileOf (i 0))).2.2.2.2.2.2.2.2.2 (i 1).isLt
    fin_cases b
    · exact h.1
    · exact h.2

end Cert.Kernel5Ideal.InProj
end
-- ==== Proof.InProjClaims.lean ====
module
public import proofs.«01_k».proof.Defs
public import proofs.«01_k».proof.Proof.Gen.Kernel5.Frame
public import proofs.«01_k».proof.Proof.Gen.Reference5Ideal.Run
public import proofs.«01_k».proof.Proof.InProj

@[expose] public section
set_option maxRecDepth 16384
noncomputable section

namespace Cert.Reference5Ideal.InProj

open Idealize.ShloMosaic Idealize.ShloMosaic.TcCoe Idealize.SL.Sem Idealize.ShloMosaic.StableHlo
open Cert.Reference5Ideal Cert.Reference5Ideal.Gen Cert.Reference5Ideal.Value Cert.Kernel5Ideal.InProj

/-- The reference's projection of every row, at an element. -/
theorem proj_at (X : FVec Ideal S16384x1024 .f32) (W : FVec Ideal S1024x3072 .bf16) (R : Fin 16384) (q : Fin 3072) :
    ((Host.dotGeneral dot_S16384x1024_S1024x3072_S16384x3072_1_0_0_1_n_n none X (extf .f32 W bitsLt_bf16_f32) : FVec Ideal S16384x3072 .f32) (ix2 R q) : EReal)
      = ∑ k : Fin 1024, (X (ix2 R k) : EReal) * W (ix2 k q) := by
  pointwise []

/-- A group of 512 of its columns is that group of the kernel's. -/
theorem group_eq (o : ℕ) (ho : o ≤ 2560) (hs : S16384x3072.Slices ![0, o] S16384x512) (X : FVec Ideal S16384x1024 .f32) (W : FVec Ideal S1024x3072 .bf16) :
    (truncf .bf16 (extractStridedSlice S16384x512 ![0, o] (Host.dotGeneral dot_S16384x1024_S1024x3072_S16384x3072_1_0_0_1_n_n none X (extf .f32 W bitsLt_bf16_f32)) hs) bitsLt_bf16_f32 : FVec Ideal S16384x512 .bf16)
      = columns o ho X W := by
  funext i
  have h1 : (i 1).val < 512 := (i 1).isLt
  refine Eq.trans (congrArg (Host.dotGeneral dot_S16384x1024_S1024x3072_S16384x3072_1_0_0_1_n_n none X (extf .f32 W bitsLt_bf16_f32) : FVec Ideal S16384x3072 .f32) ?_) (proj_at X W (i 0) ⟨o + (i 1).val, by omega⟩)
  funext d
  fin_cases d
  · exact Fin.ext (Nat.zero_add _)
  · rfl

theorem gates_eq (X : FVec Ideal S16384x1024 .f32) (W : FVec Ideal S1024x128 .bf16) (B : FVec Ideal S1x128 .f32) :
    (addf (Host.dotGeneral dot_S16384x1024_S1024x128_S16384x128_1_0_0_1_n_n none X (extf .f32 W bitsLt_bf16_f32)) (broadcastInDim S16384x128 ![0, 1] bcast_S1x128_S16384x128_0_1 B) : FVec Ideal S16384x128 .f32)
      = gates X W B := by
  have h : ∀ (R : Fin 16384) (l : Fin 128), ((addf (Host.dotGeneral dot_S16384x1024_S1024x128_S16384x128_1_0_0_1_n_n none X (extf .f32 W bitsLt_bf16_f32)) (broadcastInDim S16384x128 ![0, 1] bcast_S1x128_S16384x128_0_1 B) : FVec Ideal S16384x128 .f32) (ix2 R l) : EReal)
      = (∑ k : Fin 1024, (X (ix2 R k) : EReal) * W (ix2 k l)) + B (ix2 0 l) := by
    intro R l
    pointwise []
  funext i
  exact (congrArg (addf (Host.dotGeneral dot_S16384x1024_S1024x128_S16384x128_1_0_0_1_n_n none X (extf .f32 W bitsLt_bf16_f32)) (broadcastInDim S16384x128 ![0, 1] bcast_S1x128_S16384x128_0_1 B) : FVec Ideal S16384x128 .f32) (split2 i)).trans (h (i 0) (i 1))

end Cert.Reference5Ideal.InProj

namespace Cert.InProj

open Idealize.ShloMosaic Idealize.ShloMosaic.TcCoe Idealize.SL.Sem Cert.Kernel5Ideal.InProj Cert.Reference5Ideal.InProj

theorem frameP5 : Cert.quiescent_Kernel5 := fun m ρ _ => Cert.Kernel5.Gen.frame m ρ
theorem framePI5 : Cert.quiescent_Kernel5Ideal := fun m ρ _ => Cert.Kernel5Ideal.Gen.frame m ρ
theorem frameRI5 : Cert.quiescent_Reference5Ideal := fun m ρ _ =>
  (θ_run Cert.Reference5Ideal.defs _ _).mono (fun r h => ⟨fun c => (h c).2.2.2.2.2, sem_eq_zero_of_no_sems (by decide) r.2⟩)
    (Cert.Reference5Ideal.Value.run (F := Ideal) m ρ)
theorem preserves5 : Cert.preserves_Kernel5_Kernel5Ideal := trivial

theorem algebraic5 : Cert.algebraic_Kernel5Ideal_Reference5Ideal := by
  intro m g m' g' _ hag
  refine ⟨fun c => columns 1024 (by omega) (aX m c) (aW m c), fun c => columns 1536 (by omega) (aX m c) (aW m c), fun c => columns 2048 (by omega) (aX m c) (aW m c),
    fun c => columns 2560 (by omega) (aX m c) (aW m c), fun c => gates (aX m c) (aV m c) (aB m c), ?_, ?_⟩
  · refine (θ_run Cert.Kernel5Ideal.defs _ _).mono (fun r h c => ?_) (Cert.Kernel5Ideal.Value.run_blocks (F := Ideal) m g)
    obtain ⟨_, _, h9, h10, h11, h12, h13, _, hargs⟩ := h c
    exact ⟨h9.trans (result9 m c), h10.trans (result10 m c), h11.trans (result11 m c), h12.trans (result12 m c), h13.trans (result13 m c), hargs⟩
  · refine (θ_run Cert.Reference5Ideal.defs _ _).mono (fun r h c => ?_) (Cert.Reference5Ideal.Value.run (F := Ideal) m' g')
    obtain ⟨e0, e1, e2, e3, _, _, _⟩ := hag c
    obtain ⟨h12, h13, h14, h15, h11, hargs⟩ := h c
    clear h
    have same : ∀ (o : ℕ) (ho : o ≤ 2560), columns o ho (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) = columns o ho (aX m c) (aW m c) :=
      fun o ho => congr (congrArg (columns o ho) e0) e1
    exact ⟨h12.trans ((group_eq 1024 (by omega) Cert.Reference5Ideal.Gen.slices_S16384x3072_S16384x512_0_1024 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1))).trans (same 1024 (by omega))), h13.trans ((group_eq 1536 (by omega) Cert.Reference5Ideal.Gen.slices_S16384x3072_S16384x512_0_1536 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1))).trans (same 1536 (by omega))),
      h14.trans ((group_eq 2048 (by omega) Cert.Reference5Ideal.Gen.slices_S16384x3072_S16384x512_0_2048 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1))).trans (same 2048 (by omega))), h15.trans ((group_eq 2560 (by omega) Cert.Reference5Ideal.Gen.slices_S16384x3072_S16384x512_0_2560 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1))).trans (same 2560 (by omega))),
      h11.trans ((gates_eq _ _ _).trans (congr (congr (congrArg gates e0) e2) e3)), hargs⟩

end Cert.InProj
end
-- ==== Proof.TurnSpec.lean ====
module
public import Mathlib.Data.EReal.Operations
public import Mathlib.Algebra.BigOperators.Fin

@[expose] public section
noncomputable section

namespace Cert.Turn

/-- The partial rotation of a row of eight heads of 64: in each head the first 16 columns are turned by eight angles, the others stay. -/
def turn (y : Fin 512 → EReal) (c s : Fin 8 → EReal) (l : Fin 512) : EReal :=
  if h : l.val % 64 < 8 then y l * c ⟨l.val % 64, h⟩ - y ⟨l.val + 8, by omega⟩ * s ⟨l.val % 64, h⟩
  else if h' : l.val % 64 < 16 then y l * c ⟨l.val % 64 - 8, by omega⟩ + y ⟨l.val - 8, by omega⟩ * s ⟨l.val % 64 - 8, by omega⟩
  else y l

/-- The same rotation from the three tables of a row: every column times a cosine, plus the column 8 to the right and the column 8 to the left times their factors. -/
def mixed (y : Fin 512 → EReal) (cos s1 s2 : Fin 128 → EReal) (l : Fin 512) : EReal :=
  y l * cos ⟨l.val % 128, by omega⟩ + y ⟨(l.val + 8) % 512, by omega⟩ * s1 ⟨l.val % 128, by omega⟩ + y ⟨(l.val + 504) % 512, by omega⟩ * s2 ⟨l.val % 128, by omega⟩

/-- The tables' rows hold the eight cosines and sines of the row in every head, with the signs and zeros of the rotation. -/
structure Laid (cos s1 s2 : Fin 128 → EReal) (c s : Fin 8 → EReal) : Prop where
  low : ∀ (j : Fin 128) (h : j.val % 64 < 8), cos j = c ⟨j.val % 64, h⟩ ∧ s1 j = -s ⟨j.val % 64, h⟩ ∧ s2 j = 0
  high : ∀ (j : Fin 128) (h : 8 ≤ j.val % 64) (h' : j.val % 64 < 16), cos j = c ⟨j.val % 64 - 8, by omega⟩ ∧ s1 j = 0 ∧ s2 j = s ⟨j.val % 64 - 8, by omega⟩
  rest : ∀ j : Fin 128, 16 ≤ j.val % 64 → cos j = 1 ∧ s1 j = 0 ∧ s2 j = 0

theorem mixed_eq (y : Fin 512 → EReal) {cos s1 s2 : Fin 128 → EReal} {c s : Fin 8 → EReal} (hL : Laid cos s1 s2 c s) (l : Fin 512) :
    mixed y cos s1 s2 l = turn y c s l := by
  have e : l.val % 128 % 64 = l.val % 64 := by omega
  unfold mixed turn
  split
  · rename_i h
    obtain ⟨h1, h2, h3⟩ := hL.low ⟨l.val % 128, by omega⟩ (by simpa only [e] using h)
    rw [h1, h2, h3, mul_zero, add_zero, mul_neg, ← sub_eq_add_neg]
    congr 2 <;> congr 1 <;> apply Fin.ext <;> simp only [e] <;> omega
  · split
    · rename_i h h'
      obtain ⟨h1, h2, h3⟩ := hL.high ⟨l.val % 128, by omega⟩ (by simp only [e]; omega) (by simpa only [e] using h')
      rw [h1, h2, h3, mul_zero, add_zero]
      congr 2 <;> congr 1 <;> apply Fin.ext <;> simp only [e] <;> omega
    · rename_i h h'
      obtain ⟨h1, h2, h3⟩ := hL.rest ⟨l.val % 128, by omega⟩ (by simp only [e]; omega)
      rw [h1, h2, h3, mul_zero, mul_zero, add_zero, add_zero, mul_one]

end Cert.Turn
end
-- ==== Proof.Turn.lean ====
module
public import proofs.«01_k».proof.Proof.Gen.Kernel6Ideal.Value
public import proofs.«01_k».proof.Proof.TurnSpec
public import Idealize.ShloMosaic.Lib.Pipeline.ValueKit.Point
public import Idealize.ShloMosaic.Lib.KernelVsHost

@[expose] public section
set_option maxRecDepth 16384
noncomputable section

namespace Cert.Kernel6Ideal.Turn

open Idealize.ShloMosaic Idealize.ShloMosaic.TcCoe Idealize.SL.Sem
open Cert.Kernel6Ideal Cert.Kernel6Ideal.Gen Cert.Kernel6Ideal.Value Cert.Turn

/-- A table set side by side four times, at an element. -/
theorem four_at (v : Vec Ideal S512x128 .f32) (r l : Fin 512) :
    ((k0_pay4 v : FVec Ideal S512x512 .f32) (ix2 r l) : EReal) = v (ix2 r ⟨l.val % 128, by omega⟩) := by
  have key : ∀ (a : ℕ) (ha : a < 128), a = l.val % 128 → v (ix2 r ⟨a, ha⟩) = v (ix2 r ⟨l.val % 128, by omega⟩) := by
    intro a ha e; subst e; rfl
  pointwise [k0_pay4]
  split_ifs <;> exact key _ _ (by omega)

/-- A tile's projection, before the rotation. -/
def flat {F : FTy → Type} [FloatOps F] (x : Vec F S512x1024 .f32) (w : Vec F S1024x512 .bf16) : FVec F S512x512 .f32 :=
  matmul dot_S512x1024_S1024x512_S512x512_1_0_0_1_n_n none (k0_pay3 x) w (constant S512x512 .f32 0x00000000#32)

theorem flat_at (x : Vec Ideal S512x1024 .f32) (w : Vec Ideal S1024x512 .bf16) (r l : Fin 512) :
    (flat x w (ix2 r l) : EReal) = ∑ k : Fin 1024, (x (ix2 r k) : EReal) * w (ix2 k l) := by
  pointwise [flat, k0_pay3]

theorem left_at (y : FVec Ideal S512x512 .f32) (r l : Fin 512) :
    dynamicRotate 1 504#32 none y rotates_S512x512_d1 (ix2 r l) = y (ix2 r ⟨(l.val + 8) % 512, by omega⟩) :=
  dynamicRotate_apply (1 : Fin 2) 504#32 y _ _ _ (by
    intro b; fin_cases b
    · rfl
    · show (l.val + 8) % 512 = (l.val + 512 - 504 % 512) % 512; omega)

theorem right_at (y : FVec Ideal S512x512 .f32) (r l : Fin 512) :
    dynamicRotate 1 8#32 none y rotates_S512x512_d1 (ix2 r l) = y (ix2 r ⟨(l.val + 504) % 512, by omega⟩) :=
  dynamicRotate_apply (1 : Fin 2) 8#32 y _ _ _ (by
    intro b; fin_cases b
    · rfl
    · show (l.val + 504) % 512 = (l.val + 512 - 8 % 512) % 512; omega)

/-- A tile's rotated projection, at an element. -/
theorem pay8_at (x : Vec Ideal S512x1024 .f32) (cos s1 s2 : Vec Ideal S512x128 .f32) (w : Vec Ideal S1024x512 .bf16) (r l : Fin 512) :
    ((k0_pay8 x cos s1 s2 w : FVec Ideal S512x512 .f32) (ix2 r l) : EReal)
      = mixed (fun q => ∑ k : Fin 1024, (x (ix2 r k) : EReal) * w (ix2 k q)) (fun j => cos (ix2 r j)) (fun j => s1 (ix2 r j)) (fun j => s2 (ix2 r j)) l :=
  congrArg₂ (· + ·) (congrArg₂ (· + ·) (congrArg₂ (· * ·) (flat_at x w r l) (four_at cos r l))
    (congrArg₂ (· * ·) ((left_at (flat x w) r l).trans (flat_at x w r _)) (four_at s1 r l)))
    (congrArg₂ (· * ·) ((right_at (flat x w) r l).trans (flat_at x w r _)) (four_at s2 r l))

/-- The factor of the queries. -/
abbrev scale : EReal := Ideal.ofBits .f32 0x3E38AA3B#32

theorem pay7_at (x : Vec Ideal S512x1024 .f32) (cos s1 s2 : Vec Ideal S512x128 .f32) (w : Vec Ideal S1024x512 .bf16) (r l : Fin 512) :
    ((k0_pay7 x cos s1 s2 w : FVec Ideal S512x512 .bf16) (ix2 r l) : EReal)
      = mixed (fun q => ∑ k : Fin 1024, (x (ix2 r k) : EReal) * w (ix2 k q)) (fun j => cos (ix2 r j)) (fun j => s1 (ix2 r j)) (fun j => s2 (ix2 r j)) l * scale :=
  congrArg (· * scale) (pay8_at x cos s1 s2 w r l)

/-- The means of a tile's two blocks of 256 keys, at an element. -/
theorem pay11_at (x : Vec Ideal S512x1024 .f32) (cos s1 s2 : Vec Ideal S512x128 .f32) (w : Vec Ideal S1024x512 .bf16) (l : Fin 512) :
    ((k0_pay11 (k0_pay10 x cos s1 s2 w) : FVec Ideal S1x1x512 .f32) (ix3 0 0 l) : EReal)
      = (∑ a : Fin 256, ((k0_pay8 x cos s1 s2 w : FVec Ideal S512x512 .f32) (ix2 ⟨a.val, by omega⟩ l) : EReal)) * Ideal.ofBits .f32 0x3B800000#32 := by
  pointwise [k0_pay11, k0_pay10]

theorem pay12_at (y : FVec Ideal S512x512 .f32) (l : Fin 512) :
    ((k0_pay12 y : FVec Ideal S1x1x512 .f32) (ix3 0 0 l) : EReal) = (∑ a : Fin 256, (y (ix2 ⟨256 + a.val, by omega⟩ l) : EReal)) * Ideal.ofBits .f32 0x3B800000#32 := by
  pointwise [k0_pay12]

end Cert.Kernel6Ideal.Turn
end
-- ==== Proof.TurnBlocks.lean ====
module
public import proofs.«01_k».proof.Proof.Turn

@[expose] public section
set_option maxRecDepth 16384
noncomputable section

namespace Cert.Kernel6Ideal.Turn

open Idealize.ShloMosaic Idealize.ShloMosaic.TcCoe Idealize.SL.Sem
open Cert.Kernel6Ideal Cert.Kernel6Ideal.Gen Cert.Kernel6Ideal.Value Cert.Turn

theorem zero2 : (![0, 0] : Fin 2 → ℕ) = fun _ => 0 := by funext a; fin_cases a <;> rfl

theorem split2 {a b : ℕ} (y : (⟨2, ![a, b]⟩ : Shape).Idx) : y = ix2 (y 0) (y 1) := by funext d; fin_cases d <;> rfl

theorem split3 {a b c : ℕ} (y : (⟨3, ![a, b, c]⟩ : Shape).Idx) : y = ix3 (y 0) (y 1) (y 2) := by funext d; fin_cases d <;> rfl

theorem colQ_at (x : Vec Ideal S1024x3072 .bf16) (k : Fin 1024) (j : Fin 512) : (View.ld x r0_2 : Vec Ideal S1024x512 .bf16) (ix2 k j) = x (ix2 k ⟨0 + j.val, by omega⟩) := by
  pointwise [r0_2]
theorem colK_at (x : Vec Ideal S1024x3072 .bf16) (k : Fin 1024) (j : Fin 512) : (View.ld x r0_4 : Vec Ideal S1024x512 .bf16) (ix2 k j) = x (ix2 k ⟨512 + j.val, by omega⟩) := by
  pointwise [r0_4]

/-- Column `o + l` of the projection of every row, rotated. -/
def turned (o : ℕ) (ho : o ≤ 512) (X : FVec Ideal S16384x1024 .f32) (W : FVec Ideal S1024x3072 .bf16) (C S : FVec Ideal S16384x128 .f32) (R : Fin 16384) (l : Fin 512) : EReal :=
  turn (fun q => ∑ k : Fin 1024, (X (ix2 R k) : EReal) * W (ix2 k ⟨o + q.val, by omega⟩)) (fun j => C (ix2 R ⟨j.val, by omega⟩)) (fun j => S (ix2 R ⟨j.val + 8, by omega⟩)) l

/-- The scaled queries. -/
def queries (X : FVec Ideal S16384x1024 .f32) (W : FVec Ideal S1024x3072 .bf16) (C S : FVec Ideal S16384x128 .f32) : FVec Ideal S16384x512 .bf16 :=
  fun i => turned 0 (by omega) X W C S (i 0) (i 1) * scale

/-- The keys. -/
def keys (X : FVec Ideal S16384x1024 .f32) (W : FVec Ideal S1024x3072 .bf16) (C S : FVec Ideal S16384x128 .f32) : FVec Ideal S16384x512 .bf16 :=
  fun i => turned 512 (by omega) X W C S (i 0) (i 1)

/-- The means of the blocks of 256 keys, two blocks a tile. -/
def means (X : FVec Ideal S16384x1024 .f32) (W : FVec Ideal S1024x3072 .bf16) (C S : FVec Ideal S16384x128 .f32) : FVec Ideal S32x2x512 .f32 :=
  fun i => (∑ a : Fin 256, turned 512 (by omega) X W C S ⟨(i 0).val * 512 + ((i 1).val * 256 + a.val), by have h0 : (i 0).val < 32 := (i 0).isLt; have h1 : (i 1).val < 2 := (i 1).isLt; omega⟩ (i 2)) * Ideal.ofBits .f32 0x3B800000#32

/-- Every row of the three tables is laid out. -/
def Tables (C S1 S2 : FVec Ideal S16384x128 .f32) : Prop :=
  ∀ R : Fin 16384, Laid (fun j => C (ix2 R j)) (fun j => S1 (ix2 R j)) (fun j => S2 (ix2 R j)) (fun j => C (ix2 R ⟨j.val, by omega⟩)) (fun j => S2 (ix2 R ⟨j.val + 8, by omega⟩))

theorem index_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_14.index t (0 : Fin 3) = t.val ∧ win0_14.index t (1 : Fin 3) = 0 ∧ win0_14.index t (2 : Fin 3) = 0) := by decide +kernel

variable (m : (ℓ : Loc nD τ sig) → Buf (Elt Ideal) ℓ) (c : Dev nD)

abbrev aX : FVec Ideal S16384x1024 .f32 := m ((c.tc : Thread nD τ).loc main_arg0)
abbrev aW : FVec Ideal S1024x3072 .bf16 := m ((c.tc : Thread nD τ).loc main_arg1)
abbrev aC : FVec Ideal S16384x128 .f32 := m ((c.tc : Thread nD τ).loc main_arg4)
abbrev aS1 : FVec Ideal S16384x128 .f32 := m ((c.tc : Thread nD τ).loc main_arg5)
abbrev aS2 : FVec Ideal S16384x128 .f32 := m ((c.tc : Thread nD τ).loc main_arg6)

theorem row_lt (t : Fin cfg0.N) (r : Fin 512) : t.val * 512 + r.val < 16384 := by have : cfg0.N = 32 := N_0; omega

theorem blk0_at (t : Fin cfg0.N) (r : Fin 512) (k : Fin 1024) : (iblk m c 0 t : Vec Ideal S512x1024 .f32) (ix2 r k) = aX m c (ix2 ⟨t.val * 512 + r.val, row_lt t r⟩ k) := by
  blk_ext [iblk, V, (index_facts t).1.1, (index_facts t).1.2]
theorem blk1_at (t : Fin cfg0.N) (k : Fin 1024) (l : Fin 3072) : (iblk m c 1 t : Vec Ideal S1024x3072 .bf16) (ix2 k l) = aW m c (ix2 k l) := by
  blk_ext [iblk, V, (index_facts t).2.1.1, (index_facts t).2.1.2]
theorem blk4_at (t : Fin cfg0.N) (r : Fin 512) (k : Fin 128) : (iblk m c 4 t : Vec Ideal S512x128 .f32) (ix2 r k) = aC m c (ix2 ⟨t.val * 512 + r.val, row_lt t r⟩ k) := by
  blk_ext [iblk, V, (index_facts t).2.2.1.1, (index_facts t).2.2.1.2]
theorem blk5_at (t : Fin cfg0.N) (r : Fin 512) (k : Fin 128) : (iblk m c 5 t : Vec Ideal S512x128 .f32) (ix2 r k) = aS1 m c (ix2 ⟨t.val * 512 + r.val, row_lt t r⟩ k) := by
  blk_ext [iblk, V, (index_facts t).2.2.2.1.1, (index_facts t).2.2.2.1.2]
theorem blk6_at (t : Fin cfg0.N) (r : Fin 512) (k : Fin 128) : (iblk m c 6 t : Vec Ideal S512x128 .f32) (ix2 r k) = aS2 m c (ix2 ⟨t.val * 512 + r.val, row_lt t r⟩ k) := by
  blk_ext [iblk, V, (index_facts t).2.2.2.2.1.1, (index_facts t).2.2.2.2.1.2]

/-- A tile's rotated projection is that part of the whole. -/
theorem tile_at (hT : Tables (aC m c) (aS1 m c) (aS2 m c)) (t : Fin cfg0.N) (w : Vec Ideal S1024x512 .bf16) (o : ℕ) (ho : o ≤ 512)
    (hw : ∀ (k : Fin 1024) (j : Fin 512), w (ix2 k j) = (iblk m c 1 t : Vec Ideal S1024x3072 .bf16) (ix2 k ⟨o + j.val, by omega⟩)) (r l : Fin 512) :
    mixed (fun q => ∑ k : Fin 1024, @HMul.hMul EReal EReal EReal _ ((iblk m c 0 t : Vec Ideal S512x1024 .f32) (ix2 r k)) (w (ix2 k q))) (fun j => (iblk m c 4 t : Vec Ideal S512x128 .f32) (ix2 r j))
      (fun j => (iblk m c 5 t : Vec Ideal S512x128 .f32) (ix2 r j)) (fun j => (iblk m c 6 t : Vec Ideal S512x128 .f32) (ix2 r j)) l
      = turned o ho (aX m c) (aW m c) (aC m c) (aS2 m c) ⟨t.val * 512 + r.val, row_lt t r⟩ l := by
  refine Eq.trans ?_ (mixed_eq _ (hT ⟨t.val * 512 + r.val, row_lt t r⟩) l)
  have e0 : (fun q => ∑ k : Fin 1024, @HMul.hMul EReal EReal EReal _ ((iblk m c 0 t : Vec Ideal S512x1024 .f32) (ix2 r k)) (w (ix2 k q)))
      = fun q : Fin 512 => ∑ k : Fin 1024, (aX m c (ix2 ⟨t.val * 512 + r.val, row_lt t r⟩ k) : EReal) * aW m c (ix2 k ⟨o + q.val, by omega⟩) :=
    funext fun q => Finset.sum_congr rfl fun k _ => congrArg₂ (· * ·) (blk0_at m c t r k) ((hw k q).trans (blk1_at m c t k _))
  exact congrFun (congr (congr (congr (congrArg mixed e0) (funext fun j => blk4_at m c t r j)) (funext fun j => blk5_at m c t r j)) (funext fun j => blk6_at m c t r j)) l

theorem loads (x0 : Vec Ideal S512x1024 .f32) (x4 : Vec Ideal S512x128 .f32) : View.ld x0 r0_0 = x0 ∧ View.ld x4 r0_1 = x4 :=
  ⟨View.ld_unit_zero zero2 _ x0, View.ld_unit_zero zero2 _ x4⟩

/-- Where a tile's element lies, the tile being the block of that number. -/
theorem place (a j : ℕ) (t : ℕ) (y0 y1 n : ℕ) (ha : a = t) (hj : j = 0) : (t * 512 + y0 = a * 512 + 1 * y0) ∧ (y1 = j * n + 1 * y1) := by
  subst ha hj; omega

/-- A row lies in its tile and a column in the only block of columns. -/
theorem within (a j : ℕ) (R C n : ℕ) (ha : a = R / 512) (hj : j = 0) (hC : C < n) : (a * 512 ≤ R ∧ R < a * 512 + 512) ∧ (j * n ≤ C ∧ C < j * n + n) := by
  subst ha hj; omega

/-- The tile that holds a row. -/
def tileOf (R : Fin 16384) : Fin cfg0.N := ⟨R.val / 512, by have : cfg0.N = 32 := N_0; omega⟩

theorem out7_at (hT : Tables (aC m c) (aS1 m c) (aS2 m c)) (t : Fin cfg0.N) (r l : Fin 512) :
    (out0_7 (iblk m c 0 t) (iblk m c 1 t) (iblk m c 2 t) (iblk m c 3 t) (iblk m c 4 t) (iblk m c 5 t) (iblk m c 6 t) : FVec Ideal S512x512 .bf16) (ix2 r l) = queries (aX m c) (aW m c) (aC m c) (aS2 m c) (ix2 ⟨t.val * 512 + r.val, row_lt t r⟩ l) := by
  unfold out0_7
  rw [View.canon_unit_zero zero2, (loads (iblk m c 0 t) (iblk m c 4 t)).1, (loads (iblk m c 0 t) (iblk m c 4 t)).2, (loads (iblk m c 0 t) (iblk m c 5 t)).2, (loads (iblk m c 0 t) (iblk m c 6 t)).2]
  exact (pay7_at (iblk m c 0 t) (iblk m c 4 t) (iblk m c 5 t) (iblk m c 6 t) _ r l).trans (congrArg (· * scale) (tile_at m c hT t _ 0 (by omega) (colQ_at _) r l))

theorem result7 (hT : Tables (aC m c) (aS1 m c) (aS2 m c)) : (dats m 0 c).arrAt 7 cfg0.N = (queries (aX m c) (aW m c) (aC m c) (aS2 m c) : FVec Ideal S16384x512 .bf16) := by
  refine (dats m 0 c).arrAt_eq_of_emb 7 (queries (aX m c) (aW m c) (aC m c) (aS2 m c) : FVec Ideal S16384x512 .bf16) (fun t _ y => ?_) fun i =>
    ⟨tileOf (i 0), flush0_7 _, ((cfg0.win 7).emb_mem_blk_iff _ i).2 fun b => ?_⟩
  · blk_simp
    rw [after0_7]
    refine (congrArg (out0_7 (iblk m c 0 t) (iblk m c 1 t) (iblk m c 2 t) (iblk m c 3 t) (iblk m c 4 t) (iblk m c 5 t) (iblk m c 6 t) : FVec Ideal S512x512 .bf16) (split2 y)).trans ((out7_at m c hT t (y 0) (y 1)).trans (congrArg (queries (aX m c) (aW m c) (aC m c) (aS2 m c) : FVec Ideal S16384x512 .bf16) ?_))
    have p := place _ _ t.val (y (0 : Fin 2)).val (y (1 : Fin 2)).val 512 (index_facts t).2.2.2.2.2.1.1 (index_facts t).2.2.2.2.2.1.2
    funext b; fin_cases b
    · exact Fin.ext p.1
    · exact Fin.ext p.2
  · have h := within _ _ (i 0).val (i 1).val 512 (index_facts (tileOf (i 0))).2.2.2.2.2.1.1 (index_facts (tileOf (i 0))).2.2.2.2.2.1.2 (i 1).isLt
    fin_cases b
    · exact h.1
    · exact h.2

theorem out8_at (hT : Tables (aC m c) (aS1 m c) (aS2 m c)) (t : Fin cfg0.N) (r l : Fin 512) :
    (out0_8 (iblk m c 0 t) (iblk m c 1 t) (iblk m c 2 t) (iblk m c 3 t) (iblk m c 4 t) (iblk m c 5 t) (iblk m c 6 t) : FVec Ideal S512x512 .bf16) (ix2 r l) = keys (aX m c) (aW m c) (aC m c) (aS2 m c) (ix2 ⟨t.val * 512 + r.val, row_lt t r⟩ l) := by
  unfold out0_8
  rw [View.canon_unit_zero zero2, (loads (iblk m c 0 t) (iblk m c 4 t)).1, (loads (iblk m c 0 t) (iblk m c 4 t)).2, (loads (iblk m c 0 t) (iblk m c 5 t)).2, (loads (iblk m c 0 t) (iblk m c 6 t)).2]
  exact (pay8_at (iblk m c 0 t) (iblk m c 4 t) (iblk m c 5 t) (iblk m c 6 t) _ r l).trans ((tile_at m c hT t _ 512 (by omega) (colK_at _) r l))

theorem result8 (hT : Tables (aC m c) (aS1 m c) (aS2 m c)) : (dats m 0 c).arrAt 8 cfg0.N = (keys (aX m c) (aW m c) (aC m c) (aS2 m c) : FVec Ideal S16384x512 .bf16) := by
  refine (dats m 0 c).arrAt_eq_of_emb 8 (keys (aX m c) (aW m c) (aC m c) (aS2 m c) : FVec Ideal S16384x512 .bf16) (fun t _ y => ?_) fun i =>
    ⟨tileOf (i 0), flush0_8 _, ((cfg0.win 8).emb_mem_blk_iff _ i).2 fun b => ?_⟩
  · blk_simp
    rw [after0_8]
    refine (congrArg (out0_8 (iblk m c 0 t) (iblk m c 1 t) (iblk m c 2 t) (iblk m c 3 t) (iblk m c 4 t) (iblk m c 5 t) (iblk m c 6 t) : FVec Ideal S512x512 .bf16) (split2 y)).trans ((out8_at m c hT t (y 0) (y 1)).trans (congrArg (keys (aX m c) (aW m c) (aC m c) (aS2 m c) : FVec Ideal S16384x512 .bf16) ?_))
    have p := place _ _ t.val (y (0 : Fin 2)).val (y (1 : Fin 2)).val 512 (index_facts t).2.2.2.2.2.2.1.1 (index_facts t).2.2.2.2.2.2.1.2
    funext b; fin_cases b
    · exact Fin.ext p.1
    · exact Fin.ext p.2
  · have h := within _ _ (i 0).val (i 1).val 512 (index_facts (tileOf (i 0))).2.2.2.2.2.2.1.1 (index_facts (tileOf (i 0))).2.2.2.2.2.2.1.2 (i 1).isLt
    fin_cases b
    · exact h.1
    · exact h.2

end Cert.Kernel6Ideal.Turn
end
-- ==== Proof.TurnMeans.lean ====
module
public import proofs.«01_k».proof.Proof.TurnBlocks

@[expose] public section
set_option maxRecDepth 16384
noncomputable section

namespace Cert.Kernel6Ideal.Turn

open Idealize.ShloMosaic Idealize.ShloMosaic.TcCoe Idealize.SL.Sem
open Cert.Kernel6Ideal Cert.Kernel6Ideal.Gen Cert.Kernel6Ideal.Value Cert.Turn

/-- The two rows stored one after the other: the second store's row is row 1. -/
theorem second_row (p q : Vec Ideal S1x1x512 .f32) (l : Fin 512) :
    (View.canon [⟨r0_6, p⟩, ⟨r0_5, q⟩] : Vec Ideal S1x2x512 .f32) (ix3 0 1 l) = p (ix3 0 0 l) := by
  have he : r0_6.emb (ix3 (0 : Fin 1) (0 : Fin 1) l) = ix3 (0 : Fin 1) (1 : Fin 2) l := by
    funext x; apply Fin.ext
    fin_cases x
    · rfl
    · rfl
    · show 0 + 1 * l.val = l.val; omega
  exact (congrArg (View.canon _ : Vec Ideal S1x2x512 .f32) he.symm).trans (View.canon_cons_emb r0_6 p _ (ix3 (0 : Fin 1) (0 : Fin 1) l))

/-- And row 0 keeps the first store's. -/
theorem first_row (p q : Vec Ideal S1x1x512 .f32) (l : Fin 512) :
    (View.canon [⟨r0_6, p⟩, ⟨r0_5, q⟩] : Vec Ideal S1x2x512 .f32) (ix3 0 0 l) = q (ix3 0 0 l) := by
  have he : r0_5.emb (ix3 (0 : Fin 1) (0 : Fin 1) l) = ix3 (0 : Fin 1) (0 : Fin 2) l := by
    funext x; apply Fin.ext
    fin_cases x
    · rfl
    · rfl
    · show 0 + 1 * l.val = l.val; omega
  refine (View.canon_cons_of_not_mem (⟨r0_6, p⟩ : View.Piece (Elt Ideal) S1x2x512 .f32) [⟨r0_5, q⟩] ?_).trans
    ((congrArg (View.canon _ : Vec Ideal S1x2x512 .f32) he.symm).trans (View.canon_cons_emb r0_5 q _ (ix3 (0 : Fin 1) (0 : Fin 1) l)))
  intro hm
  obtain ⟨i, _, he⟩ := (LoadRect.mem_set _).mp hm (1 : Fin 3)
  have he' : 0 = 1 + 1 * i := he
  omega

variable (m : (ℓ : Loc nD τ sig) → Buf (Elt Ideal) ℓ) (c : Dev nD)

theorem out14_at (hT : Tables (aC m c) (aS1 m c) (aS2 m c)) (t : Fin cfg0.N) (g : Fin 2) (l : Fin 512) :
    (out0_14 (iblk m c 0 t) (iblk m c 1 t) (iblk m c 2 t) (iblk m c 3 t) (iblk m c 4 t) (iblk m c 5 t) (iblk m c 6 t) : FVec Ideal S1x2x512 .f32) (ix3 0 g l) = means (aX m c) (aW m c) (aC m c) (aS2 m c) (ix3 ⟨t.val, by have : cfg0.N = 32 := N_0; omega⟩ g l) := by
  unfold out0_14
  rw [(loads (iblk m c 0 t) (iblk m c 4 t)).1, (loads (iblk m c 0 t) (iblk m c 4 t)).2, (loads (iblk m c 0 t) (iblk m c 5 t)).2, (loads (iblk m c 0 t) (iblk m c 6 t)).2]
  have row : ∀ (a : Fin 256) (h : g.val * 256 + a.val < 512), ((k0_pay8 (iblk m c 0 t) (iblk m c 4 t) (iblk m c 5 t) (iblk m c 6 t) (View.ld (iblk m c 1 t) r0_4) : FVec Ideal S512x512 .f32) (ix2 ⟨g.val * 256 + a.val, h⟩ l) : EReal)
      = turned 512 (by omega) (aX m c) (aW m c) (aC m c) (aS2 m c) ⟨t.val * 512 + (g.val * 256 + a.val), row_lt t ⟨g.val * 256 + a.val, h⟩⟩ l :=
    fun a h => (pay8_at (iblk m c 0 t) (iblk m c 4 t) (iblk m c 5 t) (iblk m c 6 t) _ _ l).trans (tile_at m c hT t _ 512 (by omega) (colK_at _) _ l)
  fin_cases g
  · refine (first_row _ _ l).trans ((pay11_at (iblk m c 0 t) (iblk m c 4 t) (iblk m c 5 t) (iblk m c 6 t) _ l).trans (congrArg (· * Ideal.ofBits .f32 0x3B800000#32) (Finset.sum_congr rfl fun a _ => ?_)))
    refine Eq.trans (congrArg (fun r => (k0_pay8 (iblk m c 0 t) (iblk m c 4 t) (iblk m c 5 t) (iblk m c 6 t) (View.ld (iblk m c 1 t) r0_4) : FVec Ideal S512x512 .f32) (ix2 r l)) (Fin.ext ?_)) (row a (by show 0 * 256 + a.val < 512; omega))
    show a.val = 0 * 256 + a.val
    omega
  · exact (second_row _ _ l).trans ((pay12_at _ l).trans (congrArg (· * Ideal.ofBits .f32 0x3B800000#32) (Finset.sum_congr rfl fun a _ => row a (by show 1 * 256 + a.val < 512; omega))))

theorem result14 (hT : Tables (aC m c) (aS1 m c) (aS2 m c)) : (dats m 0 c).arrAt 14 cfg0.N = (means (aX m c) (aW m c) (aC m c) (aS2 m c) : FVec Ideal S32x2x512 .f32) := by
  refine (dats m 0 c).arrAt_eq_of_emb 14 (means (aX m c) (aW m c) (aC m c) (aS2 m c) : FVec Ideal S32x2x512 .f32) (fun t _ y => ?_) fun i => ?_
  · blk_simp
    rw [after0_14]
    have y0 : (y (0 : Fin 3)).val < 1 := (y (0 : Fin 3)).isLt
    have e0 : y = ix3 (0 : Fin 1) (y 1) (y 2) := by
      funext d; fin_cases d
      · exact Fin.ext (by show (y (0 : Fin 3)).val = 0; omega)
      · rfl
      · rfl
    refine (congrArg (out0_14 (iblk m c 0 t) (iblk m c 1 t) (iblk m c 2 t) (iblk m c 3 t) (iblk m c 4 t) (iblk m c 5 t) (iblk m c 6 t) : FVec Ideal S1x2x512 .f32) e0).trans ((out14_at m c hT t (y 1) (y 2)).trans (congrArg (means (aX m c) (aW m c) (aC m c) (aS2 m c) : FVec Ideal S32x2x512 .f32) ?_))
    funext b; fin_cases b
    · refine Fin.ext ?_
      show t.val = win0_14.index t (0 : Fin 3) * 1 + 1 * (y (0 : Fin 3)).val
      rw [(index_facts t).2.2.2.2.2.2.2.1]; omega
    · refine Fin.ext ?_
      show (y (1 : Fin 3)).val = win0_14.index t (1 : Fin 3) * 2 + 1 * (y (1 : Fin 3)).val
      rw [(index_facts t).2.2.2.2.2.2.2.2.1]; omega
    · refine Fin.ext ?_
      show (y (2 : Fin 3)).val = win0_14.index t (2 : Fin 3) * 512 + 1 * (y (2 : Fin 3)).val
      rw [(index_facts t).2.2.2.2.2.2.2.2.2]; omega
  · have h0 : (i 0).val < 32 := (i 0).isLt
    have h1 : (i 1).val < 2 := (i 1).isLt
    have h2 : (i 2).val < 512 := (i 2).isLt
    have hi : (i 0).val < cfg0.N := by have : cfg0.N = 32 := N_0; omega
    refine ⟨⟨(i 0).val, hi⟩, flush0_14 _, ((cfg0.win 14).emb_mem_blk_iff _ i).2 fun b => ?_⟩
    fin_cases b
    · show win0_14.index ⟨(i 0).val, hi⟩ (0 : Fin 3) * 1 ≤ (i 0).val ∧ (i 0).val < win0_14.index ⟨(i 0).val, hi⟩ (0 : Fin 3) * 1 + 1
      rw [(index_facts (⟨(i 0).val, hi⟩)).2.2.2.2.2.2.2.1]
      show (i 0).val * 1 ≤ (i 0).val ∧ (i 0).val < (i 0).val * 1 + 1
      omega
    · show win0_14.index ⟨(i 0).val, hi⟩ (1 : Fin 3) * 2 ≤ (i 1).val ∧ (i 1).val < win0_14.index ⟨(i 0).val, hi⟩ (1 : Fin 3) * 2 + 2
      rw [(index_facts (⟨(i 0).val, hi⟩)).2.2.2.2.2.2.2.2.1]; omega
    · show win0_14.index ⟨(i 0).val, hi⟩ (2 : Fin 3) * 512 ≤ (i 2).val ∧ (i 2).val < win0_14.index ⟨(i 0).val, hi⟩ (2 : Fin 3) * 512 + 512
      rw [(index_facts (⟨(i 0).val, hi⟩)).2.2.2.2.2.2.2.2.2]; omega

end Cert.Kernel6Ideal.Turn
end
-- ==== Proof.TurnRef.lean ====
module
public import proofs.«01_k».proof.Proof.Gen.Reference6Ideal.Run
public import proofs.«01_k».proof.Proof.Gen.Pre_rotary
public import proofs.«01_k».proof.Proof.TurnMeans
public import Idealize.ShloMosaic.Lib.ReduceAll

@[expose] public section
set_option maxRecDepth 16384
noncomputable section

namespace Cert.Reference6Ideal.Turn

open Idealize.ShloMosaic Idealize.ShloMosaic.TcCoe Idealize.SL.Sem Idealize.ShloMosaic.StableHlo
open Cert.Reference6Ideal Cert.Reference6Ideal.Gen Cert.Reference6Ideal.Value Cert.Turn Cert.Kernel6Ideal.Turn

/-- The projection of every row. -/
def proj {F : FTy → Type} [FloatOps F] (X : FVec F S16384x1024 .f32) (W : FVec F S1024x3072 .bf16) : FVec F S16384x3072 .f32 :=
  Host.dotGeneral dot_S16384x1024_S1024x3072_S16384x3072_1_0_0_1_n_n none X (extf .f32 W bitsLt_bf16_f32)

/-- At an element it is a sum of products. -/
theorem proj_at (X : FVec Ideal S16384x1024 .f32) (W : FVec Ideal S1024x3072 .bf16) (R : Fin 16384) (q : Fin 3072) :
    (proj X W (ix2 R q) : EReal) = ∑ k : Fin 1024, (X (ix2 R k) : EReal) * W (ix2 k q) := by
  pointwise [proj]

/-- The partial rotation of the eight heads. -/
def rope {F : FTy → Type} [FloatOps F] (y : FVec F S16384x8x64 .f32) (C S : FVec F S16384x128 .f32) : FVec F S16384x8x64 .f32 :=
  concatenate S16384x8x64 2 [⟨S16384x8x8, ((subf (mulf (extractStridedSlice S16384x8x8 ![0, 0, 0] y slices_S16384x8x64_S16384x8x8_0_0_0) (broadcastInDim S16384x8x8 ![0, 1, 2] bcast_S16384x1x8_S16384x8x8_0_1_2 (broadcastInDim S16384x1x8 ![0, 2] bcast_S16384x8_S16384x1x8_0_2 (extractStridedSlice S16384x8 ![0, 0] C slices_S16384x128_S16384x8_0_0))))
      (mulf (extractStridedSlice S16384x8x8 ![0, 0, 8] y slices_S16384x8x64_S16384x8x8_0_0_8) (broadcastInDim S16384x8x8 ![0, 1, 2] bcast_S16384x1x8_S16384x8x8_0_1_2 (broadcastInDim S16384x1x8 ![0, 2] bcast_S16384x8_S16384x1x8_0_2 (extractStridedSlice S16384x8 ![0, 8] S slices_S16384x128_S16384x8_0_8))))) : (⟨S16384x8x8, .f32⟩ : BufTy).Contents (Elt F))⟩,
    ⟨S16384x8x8, ((addf (mulf (extractStridedSlice S16384x8x8 ![0, 0, 8] y slices_S16384x8x64_S16384x8x8_0_0_8) (broadcastInDim S16384x8x8 ![0, 1, 2] bcast_S16384x1x8_S16384x8x8_0_1_2 (broadcastInDim S16384x1x8 ![0, 2] bcast_S16384x8_S16384x1x8_0_2 (extractStridedSlice S16384x8 ![0, 0] C slices_S16384x128_S16384x8_0_0))))
      (mulf (extractStridedSlice S16384x8x8 ![0, 0, 0] y slices_S16384x8x64_S16384x8x8_0_0_0) (broadcastInDim S16384x8x8 ![0, 1, 2] bcast_S16384x1x8_S16384x8x8_0_1_2 (broadcastInDim S16384x1x8 ![0, 2] bcast_S16384x8_S16384x1x8_0_2 (extractStridedSlice S16384x8 ![0, 8] S slices_S16384x128_S16384x8_0_8))))) : (⟨S16384x8x8, .f32⟩ : BufTy).Contents (Elt F))⟩,
    ⟨S16384x8x48, ((extractStridedSlice S16384x8x48 ![0, 0, 16] y slices_S16384x8x64_S16384x8x48_0_0_16) : (⟨S16384x8x48, .f32⟩ : BufTy).Contents (Elt F))⟩] concatenates_S16384x8x8_S16384x8x8_S16384x8x48_S16384x8x64_d2

/-- The heads of a group of 512 columns, rotated, side by side again. -/
def group {F : FTy → Type} [FloatOps F] (y : FVec F S16384x512 .f32) (C S : FVec F S16384x128 .f32) : FVec F S16384x512 .f32 :=
  shapeCast _ (rope (shapeCast _ y shapeCasts_S16384x512_S16384x8x64) C S) shapeCasts_S16384x8x64_S16384x512

/-- At an element it is a turn of the row. -/
theorem group_at (y : FVec Ideal S16384x512 .f32) (C S : FVec Ideal S16384x128 .f32) (R : Fin 16384) (l : Fin 512) :
    (group y C S (ix2 R l) : EReal) = turn (fun q => y (ix2 R q)) (fun j => C (ix2 R ⟨j.val, by omega⟩)) (fun j => S (ix2 R ⟨j.val + 8, by omega⟩)) l := by
  have ky : ∀ (a b : ℕ) (ha : a < 512) (hb : b < 512), a = b → y (ix2 R ⟨a, ha⟩) = y (ix2 R ⟨b, hb⟩) := by intro a b ha hb e; subst e; rfl
  have kC : ∀ (a b : ℕ) (ha : a < 128) (hb : b < 128), a = b → C (ix2 R ⟨a, ha⟩) = C (ix2 R ⟨b, hb⟩) := by intro a b ha hb e; subst e; rfl
  have kS : ∀ (a b : ℕ) (ha : a < 128) (hb : b < 128), a = b → S (ix2 R ⟨a, ha⟩) = S (ix2 R ⟨b, hb⟩) := by intro a b ha hb e; subst e; rfl
  pointwise [group, rope]
  unfold turn
  by_cases h : l.val % 64 < 8
  · refine (dif_pos h).trans (Eq.trans ?_ (dif_pos h).symm)
    exact congrArg₂ (HSub.hSub : EReal → EReal → EReal) (congrArg₂ (HMul.hMul : EReal → EReal → EReal) (ky _ _ _ _ (by omega)) (kC _ _ _ _ rfl)) (congrArg₂ (HMul.hMul : EReal → EReal → EReal) (ky _ _ _ _ (by omega)) (kS _ _ _ _ (Nat.add_comm 8 _)))
  · refine (dif_neg h).trans (Eq.trans ?_ (dif_neg h).symm)
    by_cases h' : l.val % 64 < 16
    · refine (dif_pos (show l.val % 64 - 8 < 8 by omega)).trans (Eq.trans ?_ (dif_pos h').symm)
      exact congrArg₂ (HAdd.hAdd : EReal → EReal → EReal) (congrArg₂ (HMul.hMul : EReal → EReal → EReal) (ky _ _ _ _ (by omega)) (kC _ _ _ _ rfl)) (congrArg₂ (HMul.hMul : EReal → EReal → EReal) (ky _ _ _ _ (by omega)) (kS _ _ _ _ (Nat.add_comm 8 _)))
    · refine (dif_neg (show ¬ l.val % 64 - 8 < 8 by omega)).trans (Eq.trans ?_ (dif_neg h').symm)
      exact ky _ _ _ _ (by omega)

/-- The precondition's tables, laid out from eight cosines and eight sines of every row. -/
def tab {F : FTy → Type} [FloatOps F] (a b : FVec F S16384x8 .f32) (v : FVec F S_ .f32) : FVec F S16384x128 .f32 :=
  let z : FVec F Cert.Pre_rotary.S16384x48 .f32 := broadcastInDim Cert.Pre_rotary.S16384x48 ![] Cert.Pre_rotary.Facts.bcast_S_S16384x48 v
  concatenate S16384x128 1 [⟨S16384x8, a⟩, ⟨S16384x8, b⟩, ⟨Cert.Pre_rotary.S16384x48, z⟩, ⟨S16384x8, a⟩, ⟨S16384x8, b⟩, ⟨Cert.Pre_rotary.S16384x48, z⟩] Cert.Pre_rotary.Facts.concatenates_S16384x8_S16384x8_S16384x48_S16384x8_S16384x8_S16384x48_S16384x128_d1

/-- Such a table at an element. -/
theorem tab_at (a b : FVec Ideal S16384x8 .f32) (v : FVec Ideal S_ .f32) (R : Fin 16384) (j : Fin 128) : (tab a b v (ix2 R j) : EReal)
    = if h : j.val % 64 < 8 then a (ix2 R ⟨j.val % 64, h⟩) else if h' : j.val % 64 < 16 then b (ix2 R ⟨j.val % 64 - 8, by omega⟩) else v ix0 := by
  have ka : ∀ (d e : ℕ) (hd : d < 8) (he : e < 8), d = e → a (ix2 R ⟨d, hd⟩) = a (ix2 R ⟨e, he⟩) := by intro d e hd he h; subst h; rfl
  have kb : ∀ (d e : ℕ) (hd : d < 8) (he : e < 8), d = e → b (ix2 R ⟨d, hd⟩) = b (ix2 R ⟨e, he⟩) := by intro d e hd he h; subst h; rfl
  pointwise [tab]
  by_cases h0 : j.val < 8
  · refine (dif_pos h0).trans (Eq.trans ?_ (dif_pos (show j.val % 64 < 8 by omega)).symm)
    exact ka _ _ h0 _ (by omega)
  refine (dif_neg h0).trans ?_
  by_cases h1 : j.val - 8 < 8
  · exact (dif_pos h1).trans ((kb _ _ h1 (by omega) (by omega)).trans ((dif_neg (show ¬ j.val % 64 < 8 by omega)).trans (dif_pos (show j.val % 64 < 16 by omega))).symm)
  refine (dif_neg h1).trans ?_
  by_cases h2 : j.val - 8 - 8 < 48
  · exact (dif_pos h2).trans ((dif_neg (show ¬ j.val % 64 < 8 by omega)).trans (dif_neg (show ¬ j.val % 64 < 16 by omega))).symm
  refine (dif_neg h2).trans ?_
  by_cases h3 : j.val - 8 - 8 - 48 < 8
  · refine (dif_pos h3).trans (Eq.trans ?_ (dif_pos (show j.val % 64 < 8 by omega)).symm)
    exact ka _ _ h3 _ (by omega)
  refine (dif_neg h3).trans ?_
  by_cases h4 : j.val - 8 - 8 - 48 - 8 < 8
  · exact (dif_pos h4).trans ((kb _ _ h4 (by omega) (by omega)).trans ((dif_neg (show ¬ j.val % 64 < 8 by omega)).trans (dif_pos (show j.val % 64 < 16 by omega))).symm)
  exact (dif_neg h4).trans ((dif_neg (show ¬ j.val % 64 < 8 by omega)).trans (dif_neg (show ¬ j.val % 64 < 16 by omega))).symm

/-- Dividing by 256 is multiplying by its reciprocal. -/
theorem div_256 (x : EReal) : Ideal.div x (Ideal.ofBits .f32 0x43800000#32) = x * Ideal.ofBits .f32 0x3B800000#32 := by
  have h1 : Ideal.ofBits .f32 0x43800000#32 = ((256 : ℝ) : EReal) := by
    simp [Ideal.ofBits, Ideal.ieee]
    rw [← EReal.coe_mul]
    norm_num
  have h2 : Ideal.ofBits .f32 0x3B800000#32 = ((1 / 256 : ℝ) : EReal) := by
    simp [Ideal.ofBits, Ideal.ieee]
    rw [← EReal.coe_mul]
    norm_num
  rw [h1, h2, Ideal.div_coe (by norm_num)]

/-- The word of one. -/
theorem one_bits : Ideal.ofBits .f32 0x3F800000#32 = 1 := by
  simp [Ideal.ofBits, Ideal.ieee]
  rw [← EReal.coe_mul]
  norm_num

/-- What compares equal is equal. -/
theorem eq_of_oeq {a b : EReal} (h : Ideal.cmp .oeq a b = 1#1) : a = b := by
  by_contra hne
  simp [Ideal.cmp, hne] at h

/-- Under the precondition every row of the three tables is laid out. -/
theorem tables_of_pre {X W V B} {C S1 S2 : FVec Ideal S16384x128 .f32} (h : Cert.Pre_rotary.fn (F := Ideal) X W V B C S1 S2 = fun _ => 1#1) : Tables C S1 S2 := by
  intro R
  have hj : ∀ j : Fin 128, (C (ix2 R j) : EReal) = tab (extractStridedSlice S16384x8 ![0, 0] C Cert.Pre_rotary.Facts.slices_S16384x128_S16384x8_0_0) (extractStridedSlice S16384x8 ![0, 0] C Cert.Pre_rotary.Facts.slices_S16384x128_S16384x8_0_0) (constant S_ .f32 0x3F800000#32) (ix2 R j)
      ∧ (S1 (ix2 R j) : EReal) = tab (Host.negf (extractStridedSlice S16384x8 ![0, 8] S2 Cert.Pre_rotary.Facts.slices_S16384x128_S16384x8_0_8)) (broadcastInDim S16384x8 ![] Cert.Pre_rotary.Facts.bcast_S_S16384x8 (constant S_ .f32 0x00000000#32)) (constant S_ .f32 0x00000000#32) (ix2 R j)
      ∧ (S2 (ix2 R j) : EReal) = tab (broadcastInDim S16384x8 ![] Cert.Pre_rotary.Facts.bcast_S_S16384x8 (constant S_ .f32 0x00000000#32)) (extractStridedSlice S16384x8 ![0, 8] S2 Cert.Pre_rotary.Facts.slices_S16384x128_S16384x8_0_8) (constant S_ .f32 0x00000000#32) (ix2 R j) := by
    intro j
    obtain ⟨h01, h2⟩ := IntOp.andi_eq_one.1 (Host.reduce_andi_all _ _ _ _ (ValueIdx.ix0) (congrFun h _) (ix2 R j))
    obtain ⟨h0, h1⟩ := IntOp.andi_eq_one.1 h01
    exact ⟨eq_of_oeq h0, eq_of_oeq h1, eq_of_oeq h2⟩
  have cos_at : ∀ d : Fin 8, ((extractStridedSlice S16384x8 ![0, 0] C Cert.Pre_rotary.Facts.slices_S16384x128_S16384x8_0_0 : FVec Ideal S16384x8 .f32) (ix2 R d) : EReal) = C (ix2 R ⟨d.val, by omega⟩) := by
    intro d; pointwise []
  have sin_at : ∀ d : Fin 8, ((extractStridedSlice S16384x8 ![0, 8] S2 Cert.Pre_rotary.Facts.slices_S16384x128_S16384x8_0_8 : FVec Ideal S16384x8 .f32) (ix2 R d) : EReal) = S2 (ix2 R ⟨d.val + 8, by omega⟩) := by
    intro d
    refine Eq.trans (b := S2 (ix2 R ⟨8 + d.val, by omega⟩)) (by pointwise []) (congrArg (fun q => S2 (ix2 R q)) (Fin.ext (Nat.add_comm 8 d.val)))
  have neg_at : ∀ d : Fin 8, ((Host.negf (extractStridedSlice S16384x8 ![0, 8] S2 Cert.Pre_rotary.Facts.slices_S16384x128_S16384x8_0_8) : FVec Ideal S16384x8 .f32) (ix2 R d) : EReal) = -S2 (ix2 R ⟨d.val + 8, by omega⟩) :=
    fun d => congrArg (Neg.neg : EReal → EReal) (sin_at d)
  have zero_at : ∀ d : Fin 8, ((broadcastInDim S16384x8 ![] Cert.Pre_rotary.Facts.bcast_S_S16384x8 (constant S_ .f32 0x00000000#32) : FVec Ideal S16384x8 .f32) (ix2 R d) : EReal) = 0 := fun _ => Ideal.ofBits_zero_f32
  have tab_low := fun (a b : FVec Ideal S16384x8 .f32) (v : FVec Ideal S_ .f32) (j : Fin 128) (hl : j.val % 64 < 8) => (tab_at a b v R j).trans (dif_pos hl)
  have tab_high := fun (a b : FVec Ideal S16384x8 .f32) (v : FVec Ideal S_ .f32) (j : Fin 128) (hl : ¬ j.val % 64 < 8) (hh : j.val % 64 < 16) => (tab_at a b v R j).trans ((dif_neg hl).trans (dif_pos hh))
  have tab_rest := fun (a b : FVec Ideal S16384x8 .f32) (v : FVec Ideal S_ .f32) (j : Fin 128) (hl : ¬ j.val % 64 < 8) (hh : ¬ j.val % 64 < 16) => (tab_at a b v R j).trans ((dif_neg hl).trans (dif_neg hh))
  refine ⟨fun j hl => ?_, fun j hl hh => ?_, fun j hl => ?_⟩
  · exact ⟨(hj j).1.trans ((tab_low _ _ _ j hl).trans (cos_at _)), (hj j).2.1.trans ((tab_low _ _ _ j hl).trans (neg_at _)), (hj j).2.2.trans ((tab_low _ _ _ j hl).trans (zero_at _))⟩
  · have hn : ¬ j.val % 64 < 8 := by omega
    exact ⟨(hj j).1.trans ((tab_high _ _ _ j hn hh).trans (cos_at _)), (hj j).2.1.trans ((tab_high _ _ _ j hn hh).trans (zero_at _)), (hj j).2.2.trans ((tab_high _ _ _ j hn hh).trans (sin_at _))⟩
  · have hn : ¬ j.val % 64 < 8 := by omega
    have hm : ¬ j.val % 64 < 16 := by omega
    exact ⟨(hj j).1.trans ((tab_rest _ _ _ j hn hm).trans one_bits), (hj j).2.1.trans ((tab_rest _ _ _ j hn hm).trans Ideal.ofBits_zero_f32), (hj j).2.2.trans ((tab_rest _ _ _ j hn hm).trans Ideal.ofBits_zero_f32)⟩

/-- A group of 512 of the projection's columns, its heads rotated. -/
def rotated {F : FTy → Type} [FloatOps F] (o : ℕ) (hs : S16384x3072.Slices ![0, o] S16384x512) (X : FVec F S16384x1024 .f32) (W : FVec F S1024x3072 .bf16) (C S : FVec F S16384x128 .f32) : FVec F S16384x512 .f32 :=
  group (extractStridedSlice S16384x512 ![0, o] (proj X W) hs) C S

/-- It is that group of the kernel's. -/
theorem rotated_at (o : ℕ) (ho : o ≤ 512) (hs : S16384x3072.Slices ![0, o] S16384x512) (X : FVec Ideal S16384x1024 .f32) (W : FVec Ideal S1024x3072 .bf16) (C S : FVec Ideal S16384x128 .f32) (R : Fin 16384) (l : Fin 512) :
    (rotated o hs X W C S (ix2 R l) : EReal) = turned o ho X W C S R l := by
  refine (group_at _ C S R l).trans (congrArg (fun y => turn y (fun j => C (ix2 R ⟨j.val, by omega⟩)) (fun j => S (ix2 R ⟨j.val + 8, by omega⟩)) l) (funext fun q => ?_))
  refine Eq.trans (congrArg (proj X W) ?_) (proj_at X W R ⟨o + q.val, by omega⟩)
  funext d
  fin_cases d
  · exact Fin.ext (Nat.zero_add _)
  · rfl

/-- The same at an index of the array. -/
theorem rotated_idx (o : ℕ) (ho : o ≤ 512) (hs : S16384x3072.Slices ![0, o] S16384x512) (X : FVec Ideal S16384x1024 .f32) (W : FVec Ideal S1024x3072 .bf16) (C S : FVec Ideal S16384x128 .f32) (i : S16384x512.Idx) :
    (rotated o hs X W C S i : EReal) = turned o ho X W C S (i 0) (i 1) :=
  (congrArg (rotated o hs X W C S) (split2 i)).trans (rotated_at o ho hs X W C S (i 0) (i 1))

/-- The reference's scaled queries. -/
theorem queries_eq (X : FVec Ideal S16384x1024 .f32) (W : FVec Ideal S1024x3072 .bf16) (C S : FVec Ideal S16384x128 .f32) :
    (truncf .bf16 (mulf (rotated 0 slices_S16384x3072_S16384x512_0_0 X W C S) (broadcastInDim S16384x512 ![] bcast_S_S16384x512 (constant S_ .f32 0x3E38AA3B#32))) bitsLt_bf16_f32 : FVec Ideal S16384x512 .bf16) = queries X W C S := by
  funext i
  have e : (truncf .bf16 (mulf (rotated 0 slices_S16384x3072_S16384x512_0_0 X W C S) (broadcastInDim S16384x512 ![] bcast_S_S16384x512 (constant S_ .f32 0x3E38AA3B#32))) bitsLt_bf16_f32 : FVec Ideal S16384x512 .bf16) i
      = (rotated 0 slices_S16384x3072_S16384x512_0_0 X W C S i : EReal) * Ideal.ofBits .f32 0x3E38AA3B#32 := rfl
  rw [e, rotated_idx 0 (Nat.zero_le _)]
  rfl

/-- The reference's keys. -/
theorem keys_eq (X : FVec Ideal S16384x1024 .f32) (W : FVec Ideal S1024x3072 .bf16) (C S : FVec Ideal S16384x128 .f32) :
    (truncf .bf16 (rotated 512 slices_S16384x3072_S16384x512_0_512 X W C S) bitsLt_bf16_f32 : FVec Ideal S16384x512 .bf16) = keys X W C S := by
  funext i
  have e : (truncf .bf16 (rotated 512 slices_S16384x3072_S16384x512_0_512 X W C S) bitsLt_bf16_f32 : FVec Ideal S16384x512 .bf16) i
      = (rotated 512 slices_S16384x3072_S16384x512_0_512 X W C S i : EReal) := rfl
  rw [e, rotated_idx 512 le_rfl]
  rfl

/-- The means over blocks of 256 rows. -/
def blockMeans {F : FTy → Type} [FloatOps F] (y : FVec F S16384x512 .f32) : FVec F S32x2x512 .f32 :=
  Host.divf (Host.reduceAdd (shapeCast _ y shapeCasts_S16384x512_S32x2x256x512) (constant S_ .f32 0x00000000#32) reducesTo_S32x2x256x512_S32x2x512_d2 h_S_) (broadcastInDim S32x2x512 ![] bcast_S_S32x2x512 (constant S_ .f32 0x43800000#32))

/-- At an element it is a sum divided by 256. -/
theorem blockMeans_at (y : FVec Ideal S16384x512 .f32) (t : Fin 32) (g : Fin 2) (l : Fin 512) :
    (blockMeans y (ix3 t g l) : EReal) = Ideal.div (∑ a : Fin 256, (y (ix2 ⟨t.val * 512 + (g.val * 256 + a.val), by omega⟩ l) : EReal)) (Ideal.ofBits .f32 0x43800000#32) := by
  pointwise [blockMeans]
  exact congrArg (fun z => Ideal.div z (Ideal.ofBits .f32 0x43800000#32)) (Finset.sum_congr rfl fun a _ => congrArg (fun r => y (ix2 r l)) (Fin.ext (Nat.add_assoc _ _ _)))

/-- The reference's means of the keys' blocks. -/
theorem means_eq (X : FVec Ideal S16384x1024 .f32) (W : FVec Ideal S1024x3072 .bf16) (C S : FVec Ideal S16384x128 .f32) :
    (blockMeans (rotated 512 slices_S16384x3072_S16384x512_0_512 X W C S) : FVec Ideal S32x2x512 .f32) = means X W C S := by
  funext i
  refine (congrArg (blockMeans (rotated 512 slices_S16384x3072_S16384x512_0_512 X W C S)) (split3 i)).trans ((blockMeans_at _ (i 0) (i 1) (i 2)).trans ((div_256 _).trans ?_))
  exact congrArg (fun z : EReal => z * Ideal.ofBits .f32 0x3B800000#32) (Finset.sum_congr rfl fun a _ => rotated_at 512 le_rfl slices_S16384x3072_S16384x512_0_512 X W C S _ (i 2))

end Cert.Reference6Ideal.Turn
end
-- ==== Proof.TurnClaims.lean ====
module
public import proofs.«01_k».proof.Defs
public import proofs.«01_k».proof.Proof.Gen.Kernel6.Frame
public import proofs.«01_k».proof.Proof.TurnRef

@[expose] public section
set_option maxRecDepth 16384
noncomputable section

namespace Cert.Turn

open Idealize.ShloMosaic Idealize.ShloMosaic.TcCoe Idealize.SL.Sem Cert.Kernel6Ideal.Turn Cert.Reference6Ideal.Turn

theorem frameP6 : Cert.quiescent_Kernel6 := fun m ρ _ => Cert.Kernel6.Gen.frame m ρ
theorem framePI6 : Cert.quiescent_Kernel6Ideal := fun m ρ _ => Cert.Kernel6Ideal.Gen.frame m ρ
theorem framePI6_rotary : Cert.quiescent_Kernel6Ideal_pre_rotary := fun m ρ _ => Cert.Kernel6Ideal.Gen.frame m ρ
theorem frameRI6 : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)
theorem frameRI6_rotary : Cert.quiescent_Reference6Ideal_pre_rotary := fun m ρ _ => frameRI6 m ρ trivial
theorem preserves6 : Cert.preserves_Kernel6_Kernel6Ideal := trivial

theorem algebraic6 : Cert.algebraic_Kernel6Ideal_Reference6Ideal_pre_rotary := by
  intro m g m' g' hpre hag
  refine ⟨fun c => queries (aX m c) (aW m c) (aC m c) (aS2 m c), fun c => keys (aX m c) (aW m c) (aC m c) (aS2 m c), fun c => means (aX m c) (aW m c) (aC m c) (aS2 m c), ?_, ?_⟩
  · refine (θ_run Cert.Kernel6Ideal.defs _ _).mono (fun r h c => ?_) (Cert.Kernel6Ideal.Value.run_blocks (F := Ideal) m g)
    have hT : Tables (aC m c) (aS1 m c) (aS2 m c) := tables_of_pre (hpre c)
    obtain ⟨h7, h8, _, _, _, _, _, h14, hargs⟩ := h c
    exact ⟨h7.trans (result7 m c hT), h8.trans (result8 m c hT), h14.trans (result14 m c hT), hargs⟩
  · refine (θ_run Cert.Reference6Ideal.defs _ _).mono (fun r h c => ?_) (Cert.Reference6Ideal.Value.run (F := Ideal) m' g')
    obtain ⟨e0, e1, _, _, e4, _, e6⟩ := hag c
    obtain ⟨hq, hk, hm, hargs⟩ := h c
    clear h
    have same : ∀ {T : Type} (f : FVec Ideal Cert.Kernel6Ideal.S16384x1024 .f32 → FVec Ideal Cert.Kernel6Ideal.S1024x3072 .bf16 → FVec Ideal Cert.Kernel6Ideal.S16384x128 .f32 → FVec Ideal Cert.Kernel6Ideal.S16384x128 .f32 → T),
        f (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg6))
          = f (aX m c) (aW m c) (aC m c) (aS2 m c) := fun f => congr (congr (congr (congrArg f e0) e1) e4) e6
    exact ⟨hq.trans ((queries_eq _ _ _ _).trans (same queries)), hk.trans ((keys_eq _ _ _ _).trans (same keys)), hm.trans ((means_eq _ _ _ _).trans (same means)), hargs⟩

end Cert.Turn
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.MlstmClaims
public import proofs.«01_k».proof.Proof.ExpertClaims
public import proofs.«01_k».proof.Proof.DenseClaims
public import proofs.«01_k».proof.Proof.InProjClaims
public import proofs.«01_k».proof.Proof.TurnClaims
public import proofs.«01_k».proof.Proof.Gen.Pre_in_range
public import proofs.«01_k».proof.Proof.Gen.Kernel2Ideal.Launch
public import proofs.«01_k».proof.Proof.Gen.Kernel2Ideal.Skeleton
public import proofs.«01_k».proof.Proof.Gen.Kernel2.Launch
public import proofs.«01_k».proof.Proof.Gen.Kernel2.Skeleton
public import proofs.«01_k».proof.Proof.Gen.Reference2Ideal.Run
public import proofs.«01_k».proof.Proof.Gen.Reference2Ideal
public import proofs.«01_k».proof.Proof.Gen.Kernel2Ideal
public import proofs.«01_k».proof.Proof.Gen.Kernel2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_rotary
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_in_range.Gen.facts, Cert.Pre_rotary.Gen.facts,
  Cert.Mlstm.frameP, Cert.Mlstm.framePI, Cert.Mlstm.frameRI, Cert.Expert.frameP2, Cert.Expert.framePI2, Cert.Expert.frameRI2, Cert.Expert.frameRI2_in_range,
  Cert.Dense.frameP3, Cert.Dense.framePI3, Cert.Dense.frameRI3, Cert.Dense.frameP4, Cert.Dense.framePI4, Cert.Dense.frameRI4,
  Cert.InProj.frameP5, Cert.InProj.framePI5, Cert.InProj.frameRI5,
  Cert.Turn.frameP6, Cert.Turn.framePI6, Cert.Turn.framePI6_rotary, Cert.Turn.frameRI6, Cert.Turn.frameRI6_rotary,
  Cert.Mlstm.preserves, Cert.Mlstm.algebraic, Cert.Expert.preserves2, Cert.Expert.algebraic2,
  Cert.Dense.preserves3, Cert.Dense.algebraic3, Cert.Dense.preserves4, Cert.Dense.algebraic4,
  Cert.InProj.preserves5, Cert.InProj.algebraic5, Cert.Turn.preserves6, Cert.Turn.algebraic6⟩

end Cert.Proof

end
